-- ==== Defs.lean ====
def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Normp (m : (ℓ : Loc Cert.Normp.nD Cert.Normp.τ Cert.Normp.sig) → Buf (Elt Bits) ℓ) : Prop :=
  True

def Pre_NormpIdeal (m : (ℓ : Loc Cert.NormpIdeal.nD Cert.NormpIdeal.τ Cert.NormpIdeal.sig) → Buf (Elt Ideal) ℓ) : Prop :=
  True

def Pre_NormpRefIdeal (m : (ℓ : Loc Cert.NormpRefIdeal.nD Cert.NormpRefIdeal.τ Cert.NormpRefIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsRefIdeal (m : (ℓ : Loc Cert.NormsRefIdeal.nD Cert.NormsRefIdeal.τ Cert.NormsRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3))
      ∧ r.2.sem = fun _ => 0)

def quiescent_Normp [hNormp : Cert.Normp.Facts] : Prop :=
  ∀ (m : (ℓ : Loc Cert.Normp.nD Cert.Normp.τ Cert.Normp.sig) → Buf (Elt Bits) ℓ) (g : Dev Cert.Normp.nD → PrngReg), Pre_Normp m →
    θ_run (Cert.Normp.defs (F := Bits)) (onTc (τ := Cert.Normp.τ) (Cert.Normp.main (F := Bits))) ⟨m, fun _ => 0, g⟩ (fun r => (∀ c : Dev Cert.Normp.nD,
      r.2.mem ((c.tc : Thread Cert.Normp.nD Cert.Normp.τ).loc Cert.Normp.main_arg0) = m ((c.tc : Thread Cert.Normp.nD Cert.Normp.τ).loc Cert.Normp.main_arg0)
      ∧ r.2.mem ((c.tc : Thread Cert.Normp.nD Cert.Normp.τ).loc Cert.Normp.main_arg1) = m ((c.tc : Thread Cert.Normp.nD Cert.Normp.τ).loc Cert.Normp.main_arg1))
      ∧ r.2.sem = fun _ => 0)

def quiescent_NormpIdeal [hNormpIdeal : Cert.NormpIdeal.Facts] : Prop :=
  ∀ (m : (ℓ : Loc Cert.NormpIdeal.nD Cert.NormpIdeal.τ Cert.NormpIdeal.sig) → Buf (Elt Ideal) ℓ) (g : Dev Cert.NormpIdeal.nD → PrngReg), Pre_NormpIdeal m →
    θ_run (Cert.NormpIdeal.defs (F := Ideal)) (onTc (τ := Cert.NormpIdeal.τ) (Cert.NormpIdeal.main (F := Ideal))) ⟨m, fun _ => 0, g⟩ (fun r => (∀ c : Dev Cert.NormpIdeal.nD,
      r.2.mem ((c.tc : Thread Cert.NormpIdeal.nD Cert.NormpIdeal.τ).loc Cert.NormpIdeal.main_arg0) = m ((c.tc : Thread Cert.NormpIdeal.nD Cert.NormpIdeal.τ).loc Cert.NormpIdeal.main_arg0)
      ∧ r.2.mem ((c.tc : Thread Cert.NormpIdeal.nD Cert.NormpIdeal.τ).loc Cert.NormpIdeal.main_arg1) = m ((c.tc : Thread Cert.NormpIdeal.nD Cert.NormpIdeal.τ).loc Cert.NormpIdeal.main_arg1))
      ∧ r.2.sem = fun _ => 0)

def quiescent_NormpRefIdeal [hNormpRefIdeal : Cert.NormpRefIdeal.Facts] : Prop :=
  ∀ (m : (ℓ : Loc Cert.NormpRefIdeal.nD Cert.NormpRefIdeal.τ Cert.NormpRefIdeal.sig) → Buf (Elt Ideal) ℓ) (g : Dev Cert.NormpRefIdeal.nD → PrngReg), Pre_NormpRefIdeal m →
    θ_run (Cert.NormpRefIdeal.defs (F := Ideal)) (onTc (τ := Cert.NormpRefIdeal.τ) (Cert.NormpRefIdeal.main (F := Ideal))) ⟨m, fun _ => 0, g⟩ (fun r => (∀ c : Dev Cert.NormpRefIdeal.nD,
      r.2.mem ((c.tc : Thread Cert.NormpRefIdeal.nD Cert.NormpRefIdeal.τ).loc Cert.NormpRefIdeal.main_arg0) = m ((c.tc : Thread Cert.NormpRefIdeal.nD Cert.NormpRefIdeal.τ).loc Cert.NormpRefIdeal.main_arg0)
      ∧ r.2.mem ((c.tc : Thread Cert.NormpRefIdeal.nD Cert.NormpRefIdeal.τ).loc Cert.NormpRefIdeal.main_arg1) = m ((c.tc : Thread Cert.NormpRefIdeal.nD Cert.NormpRefIdeal.τ).loc Cert.NormpRefIdeal.main_arg1))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v6)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v6) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v6) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v18)) (v1 : (c : Dev Cert.InprojIdeal.nD) → Buf (Elt Ideal) ((c.tc : Thread Cert.InprojIdeal.nD Cert.InprojIdeal.τ).loc Cert.InprojIdeal.main_v21)) (v2 : (c : Dev Cert.InprojIdeal.nD) → Buf (Elt Ideal) ((c.tc : Thread Cert.InprojIdeal.nD Cert.InprojIdeal.τ).loc Cert.InprojIdeal.main_v22)) (v3 : (c : Dev Cert.InprojIdeal.nD) → Buf (Elt Ideal) ((c.tc : Thread Cert.InprojIdeal.nD Cert.InprojIdeal.τ).loc Cert.InprojIdeal.main_v23)) (v4 : (c : Dev Cert.InprojIdeal.nD) → Buf (Elt Ideal) ((c.tc : Thread Cert.InprojIdeal.nD Cert.InprojIdeal.τ).loc Cert.InprojIdeal.main_v24)) (v5 : (c : Dev Cert.InprojIdeal.nD) → Buf (Elt Ideal) ((c.tc : Thread Cert.InprojIdeal.nD Cert.InprojIdeal.τ).loc Cert.InprojIdeal.main_v25)) (v6 : (c : Dev Cert.InprojIdeal.nD) → Buf (Elt Ideal) ((c.tc : Thread Cert.InprojIdeal.nD Cert.InprojIdeal.τ).loc Cert.InprojIdeal.main_v26)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v18) = v0 c
          ∧ r.2.mem ((c.tc : Thread Cert.InprojIdeal.nD Cert.InprojIdeal.τ).loc Cert.InprojIdeal.main_v21) = v1 c
          ∧ r.2.mem ((c.tc : Thread Cert.InprojIdeal.nD Cert.InprojIdeal.τ).loc Cert.InprojIdeal.main_v22) = v2 c
          ∧ r.2.mem ((c.tc : Thread Cert.InprojIdeal.nD Cert.InprojIdeal.τ).loc Cert.InprojIdeal.main_v23) = v3 c
          ∧ r.2.mem ((c.tc : Thread Cert.InprojIdeal.nD Cert.InprojIdeal.τ).loc Cert.InprojIdeal.main_v24) = v4 c
          ∧ r.2.mem ((c.tc : Thread Cert.InprojIdeal.nD Cert.InprojIdeal.τ).loc Cert.InprojIdeal.main_v25) = v5 c
          ∧ r.2.mem ((c.tc : Thread Cert.InprojIdeal.nD Cert.InprojIdeal.τ).loc Cert.InprojIdeal.main_v26) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v32) = v0 c
          ∧ r.2.mem ((c.tc : Thread Cert.InprojRefIdeal.nD Cert.InprojRefIdeal.τ).loc Cert.InprojRefIdeal.main_v33) = v1 c
          ∧ r.2.mem ((c.tc : Thread Cert.InprojRefIdeal.nD Cert.InprojRefIdeal.τ).loc Cert.InprojRefIdeal.main_v34) = v2 c
          ∧ r.2.mem ((c.tc : Thread Cert.InprojRefIdeal.nD Cert.InprojRefIdeal.τ).loc Cert.InprojRefIdeal.main_v35) = v3 c
          ∧ r.2.mem ((c.tc : Thread Cert.InprojRefIdeal.nD Cert.InprojRefIdeal.τ).loc Cert.InprojRefIdeal.main_v36) = v4 c
          ∧ r.2.mem ((c.tc : Thread Cert.InprojRefIdeal.nD Cert.InprojRefIdeal.τ).loc Cert.InprojRefIdeal.main_v37) = v5 c
          ∧ r.2.mem ((c.tc : Thread Cert.InprojRefIdeal.nD Cert.InprojRefIdeal.τ).loc Cert.InprojRefIdeal.main_v38) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)) →
    ∃ (v0 : (c : Dev Cert.GmlpIdeal.nD) → Buf (Elt Ideal) ((c.tc : Thread Cert.GmlpIdeal.nD Cert.GmlpIdeal.τ).loc Cert.GmlpIdeal.main_v22_0)) (v1 : (c : Dev Cert.GmlpIdeal.nD) → Buf (Elt Ideal) ((c.tc : Thread Cert.GmlpIdeal.nD Cert.GmlpIdeal.τ).loc Cert.GmlpIdeal.main_v22_1)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v22_0) = v0 c
          ∧ r.2.mem ((c.tc : Thread Cert.GmlpIdeal.nD Cert.GmlpIdeal.τ).loc Cert.GmlpIdeal.main_v22_1) = v1 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v89) = v0 c
          ∧ r.2.mem ((c.tc : Thread Cert.GmlpRefIdeal.nD Cert.GmlpRefIdeal.τ).loc Cert.GmlpRefIdeal.main_v90) = v1 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3))

def preserves_Normp_NormpIdeal : Prop :=
  True

def algebraic_NormpIdeal_NormpRefIdeal [hNormpIdeal : Cert.NormpIdeal.Facts] [hNormpRefIdeal : Cert.NormpRefIdeal.Facts] : Prop :=
  ∀ (m : (ℓ : Loc Cert.NormpIdeal.nD Cert.NormpIdeal.τ Cert.NormpIdeal.sig) → Buf (Elt Ideal) ℓ) (g : Dev Cert.NormpIdeal.nD → PrngReg)
    (m' : (ℓ : Loc Cert.NormpRefIdeal.nD Cert.NormpRefIdeal.τ Cert.NormpRefIdeal.sig) → Buf (Elt Ideal) ℓ) (g' : Dev Cert.NormpRefIdeal.nD → PrngReg), Pre_NormpIdeal m →
    (∀ c : Dev Cert.NormpIdeal.nD,
      m' ((c.tc : Thread Cert.NormpRefIdeal.nD Cert.NormpRefIdeal.τ).loc Cert.NormpRefIdeal.main_arg0) = m ((c.tc : Thread Cert.NormpIdeal.nD Cert.NormpIdeal.τ).loc Cert.NormpIdeal.main_arg0)
      ∧ m' ((c.tc : Thread Cert.NormpRefIdeal.nD Cert.NormpRefIdeal.τ).loc Cert.NormpRefIdeal.main_arg1) = m ((c.tc : Thread Cert.NormpIdeal.nD Cert.NormpIdeal.τ).loc Cert.NormpIdeal.main_arg1)) →
    ∃ (v0 : (c : Dev Cert.NormpIdeal.nD) → Buf (Elt Ideal) ((c.tc : Thread Cert.NormpIdeal.nD Cert.NormpIdeal.τ).loc Cert.NormpIdeal.main_v1)),
      θ_run (Cert.NormpIdeal.defs (F := Ideal)) (onTc (τ := Cert.NormpIdeal.τ) (Cert.NormpIdeal.main (F := Ideal))) ⟨m, fun _ => 0, g⟩ (fun r => ∀ c : Dev Cert.NormpIdeal.nD,
          r.2.mem ((c.tc : Thread Cert.NormpIdeal.nD Cert.NormpIdeal.τ).loc Cert.NormpIdeal.main_v1) = v0 c
          ∧ r.2.mem ((c.tc : Thread Cert.NormpIdeal.nD Cert.NormpIdeal.τ).loc Cert.NormpIdeal.main_arg0) = m ((c.tc : Thread Cert.NormpIdeal.nD Cert.NormpIdeal.τ).loc Cert.NormpIdeal.main_arg0)
          ∧ r.2.mem ((c.tc : Thread Cert.NormpIdeal.nD Cert.NormpIdeal.τ).loc Cert.NormpIdeal.main_arg1) = m ((c.tc : Thread Cert.NormpIdeal.nD Cert.NormpIdeal.τ).loc Cert.NormpIdeal.main_arg1))
      ∧ θ_run (Cert.NormpRefIdeal.defs (F := Ideal)) (onTc (τ := Cert.NormpRefIdeal.τ) (Cert.NormpRefIdeal.main (F := Ideal))) ⟨m', fun _ => 0, g'⟩ (fun r => ∀ c : Dev Cert.NormpRefIdeal.nD,
          r.2.mem ((c.tc : Thread Cert.NormpRefIdeal.nD Cert.NormpRefIdeal.τ).loc Cert.NormpRefIdeal.main_v13) = v0 c
          ∧ r.2.mem ((c.tc : Thread Cert.NormpRefIdeal.nD Cert.NormpRefIdeal.τ).loc Cert.NormpRefIdeal.main_arg0) = m' ((c.tc : Thread Cert.NormpRefIdeal.nD Cert.NormpRefIdeal.τ).loc Cert.NormpRefIdeal.main_arg0)
          ∧ r.2.mem ((c.tc : Thread Cert.NormpRefIdeal.nD Cert.NormpRefIdeal.τ).loc Cert.NormpRefIdeal.main_arg1) = m' ((c.tc : Thread Cert.NormpRefIdeal.nD Cert.NormpRefIdeal.τ).loc Cert.NormpRefIdeal.main_arg1))

def preserves_Norms_NormsIdeal : Prop :=
  True

def algebraic_NormsIdeal_NormsRefIdeal [hNormsIdeal : Cert.NormsIdeal.Facts] [hNormsRefIdeal : Cert.NormsRefIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)) →
    ∃ (v0 : (c : Dev Cert.NormsIdeal.nD) → Buf (Elt Ideal) ((c.tc : Thread Cert.NormsIdeal.nD Cert.NormsIdeal.τ).loc Cert.NormsIdeal.main_v1)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v1) = v0 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v13) = v0 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v5_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v5_1) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v50) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def Claim : Prop :=
  ∃ (hOutproj : Cert.Outproj.Facts) (hOutprojIdeal : Cert.OutprojIdeal.Facts) (hOutprojRefIdeal : Cert.OutprojRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hGmlp : Cert.Gmlp.Facts) (hGmlpIdeal : Cert.GmlpIdeal.Facts) (hGmlpRefIdeal : Cert.GmlpRefIdeal.Facts) (hNormp : Cert.Normp.Facts) (hNormpIdeal : Cert.NormpIdeal.Facts) (hNormpRefIdeal : Cert.NormpRefIdeal.Facts) (hNorms : Cert.Norms.Facts) (hNormsIdeal : Cert.NormsIdeal.Facts) (hNormsRefIdeal : Cert.NormsRefIdeal.Facts) (hGla : Cert.Gla.Facts) (hGlaIdeal : Cert.GlaIdeal.Facts) (hGlaRefIdeal : Cert.GlaRefIdeal.Facts),
    quiescent_Outproj (hOutproj := hOutproj)
    ∧ quiescent_OutprojIdeal (hOutprojIdeal := hOutprojIdeal)
    ∧ quiescent_OutprojRefIdeal (hOutprojRefIdeal := hOutprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Normp (hNormp := hNormp)
    ∧ quiescent_NormpIdeal (hNormpIdeal := hNormpIdeal)
    ∧ quiescent_NormpRefIdeal (hNormpRefIdeal := hNormpRefIdeal)
    ∧ quiescent_Norms (hNorms := hNorms)
    ∧ quiescent_NormsIdeal (hNormsIdeal := hNormsIdeal)
    ∧ quiescent_NormsRefIdeal (hNormsRefIdeal := hNormsRefIdeal)
    ∧ quiescent_Gla (hGla := hGla)
    ∧ quiescent_GlaIdeal (hGlaIdeal := hGlaIdeal)
    ∧ quiescent_GlaRefIdeal (hGlaRefIdeal := hGlaRefIdeal)
    ∧ preserves_Outproj_OutprojIdeal
    ∧ algebraic_OutprojIdeal_OutprojRefIdeal (hOutprojIdeal := hOutprojIdeal) (hOutprojRefIdeal := hOutprojRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Gmlp_GmlpIdeal
    ∧ algebraic_GmlpIdeal_GmlpRefIdeal (hGmlpIdeal := hGmlpIdeal) (hGmlpRefIdeal := hGmlpRefIdeal)
    ∧ preserves_Normp_NormpIdeal
    ∧ algebraic_NormpIdeal_NormpRefIdeal (hNormpIdeal := hNormpIdeal) (hNormpRefIdeal := hNormpRefIdeal)
    ∧ preserves_Norms_NormsIdeal
    ∧ algebraic_NormsIdeal_NormsRefIdeal (hNormsIdeal := hNormsIdeal) (hNormsRefIdeal := hNormsRefIdeal)
    ∧ preserves_Gla_GlaIdeal
    ∧ algebraic_GlaIdeal_GlaRefIdeal (hGlaIdeal := hGlaIdeal) (hGlaRefIdeal := hGlaRefIdeal)
-- ==== Outproj.lean ====
abbrev S9216x2048 : Shape := ⟨2, ![9216, 2048]⟩
abbrev S9216x512 : Shape := ⟨2, ![9216, 512]⟩
abbrev S9216x768 : Shape := ⟨2, ![9216, 768]⟩
abbrev S8192x768 : Shape := ⟨2, ![8192, 768]⟩
abbrev S1024x768 : Shape := ⟨2, ![1024, 768]⟩
abbrev S4x2048x2048 : Shape := ⟨3, ![4, 2048, 2048]⟩
abbrev S4x512x2048 : Shape := ⟨3, ![4, 512, 2048]⟩
abbrev S4x768x2048 : Shape := ⟨3, ![4, 768, 2048]⟩
abbrev S1024x1024 : Shape := ⟨2, ![1024, 1024]⟩
abbrev S1024x512 : Shape := ⟨2, ![1024, 512]⟩
abbrev S1x512x1024 : Shape := ⟨3, ![1, 512, 1024]⟩
abbrev S1x768x1024 : Shape := ⟨3, ![1, 768, 1024]⟩
abbrev S512x1024 : Shape := ⟨2, ![512, 1024]⟩
abbrev S768x1024 : Shape := ⟨2, ![768, 1024]⟩

abbrev nBuf : Space → Nat
  | .hbm => 13
  | .vmem => 18
  | .smem => 0
  | _ => 0

abbrev bufTy : (tb : Table) → Fin (tcTables nBuf tb) → BufTy
  | .hbm, ⟨0, _⟩ => ⟨S9216x2048, .f32⟩
  | .hbm, ⟨1, _⟩ => ⟨S9216x512, .bf16⟩
  | .hbm, ⟨2, _⟩ => ⟨S9216x768, .bf16⟩
  | .hbm, ⟨3, _⟩ => ⟨S8192x768, .bf16⟩
  | .hbm, ⟨4, _⟩ => ⟨S1024x768, .bf16⟩
  | .hbm, ⟨5, _⟩ => ⟨S4x2048x2048, .f32⟩
  | .hbm, ⟨6, _⟩ => ⟨S4x512x2048, .f32⟩
  | .hbm, ⟨7, _⟩ => ⟨S4x512x2048, .bf16⟩
  | .hbm, ⟨8, _⟩ => ⟨S4x768x2048, .f32⟩
  | .hbm, ⟨9, _⟩ => ⟨S4x768x2048, .bf16⟩
  | .hbm, ⟨10, _⟩ => ⟨S4x768x2048, .f32⟩
  | .hbm, ⟨11, _⟩ => ⟨S4x768x2048, .bf16⟩
  | .hbm, ⟨12, _⟩ => ⟨S9216x2048, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x768x1024, .bf16⟩
  | .local _ .vmem, ⟨13, _⟩ => ⟨S1x768x1024, .bf16⟩
  | .local _ .vmem, ⟨14, _⟩ => ⟨S1x768x1024, .bf16⟩
  | .local _ .vmem, ⟨15, _⟩ => ⟨S1x768x1024, .bf16⟩
  | .local _ .vmem, ⟨16, _⟩ => ⟨S1024x1024, .f32⟩
  | .local _ .vmem, ⟨17, _⟩ => ⟨S1024x1024, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutprojRefIdeal.lean ====
abbrev S9216x2048 : Shape := ⟨2, ![9216, 2048]⟩
abbrev S9216x512 : Shape := ⟨2, ![9216, 512]⟩
abbrev S9216x768 : Shape := ⟨2, ![9216, 768]⟩
abbrev S8192x768 : Shape := ⟨2, ![8192, 768]⟩
abbrev S1024x768 : Shape := ⟨2, ![1024, 768]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x512, .bf16⟩
  | .hbm, ⟨2, _⟩ => ⟨S9216x768, .bf16⟩
  | .hbm, ⟨3, _⟩ => ⟨S8192x768, .bf16⟩
  | .hbm, ⟨4, _⟩ => ⟨S1024x768, .bf16⟩
  | .hbm, ⟨5, _⟩ => ⟨S4x2048x2048, .f32⟩
  | .hbm, ⟨6, _⟩ => ⟨S9216x768, .bf16⟩
  | .hbm, ⟨7, _⟩ => ⟨S9216x2048, .bf16⟩
  | .hbm, ⟨8, _⟩ => ⟨S9216x2048, .f32⟩
  | .hbm, ⟨9, _⟩ => ⟨S1x2048x2048, .f32⟩
  | .hbm, ⟨10, _⟩ => ⟨S2048x2048, .f32⟩
  | .hbm, ⟨11, _⟩ => ⟨S9216x2048, .f32⟩
  | .hbm, ⟨12, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Ffn.lean ====
abbrev S9216x2048 : Shape := ⟨2, ![9216, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S4x1x2048 : Shape := ⟨3, ![4, 1, 2048]⟩
abbrev S512x2048 : Shape := ⟨2, ![512, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S1x2048 : Shape := ⟨2, ![1, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 8
  | .vmem => 11
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S4x1x2048, .f32⟩
  | .hbm, ⟨5, _⟩ => ⟨S4x2048x8192, .bf16⟩
  | .hbm, ⟨6, _⟩ => ⟨S4x8192x2048, .bf16⟩
  | .hbm, ⟨7, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![18, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S9216x2048 : Shape := ⟨2, ![9216, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048x8192 : Shape := ⟨3, ![1, 2048, 8192]⟩
abbrev S2048x8192 : Shape := ⟨2, ![2048, 8192]⟩
abbrev S9216x8192 : Shape := ⟨2, ![9216, 8192]⟩
abbrev S1x8192x2048 : Shape := ⟨3, ![1, 8192, 2048]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S9216x2048, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S9216x1, .f32⟩
  | .hbm, ⟨17, _⟩ => ⟨S9216x2048, .f32⟩
  | .hbm, ⟨18, _⟩ => ⟨S9216x2048, .f32⟩
  | .hbm, ⟨19, _⟩ => ⟨S1x2048, .f32⟩
  | .hbm, ⟨20, _⟩ => ⟨S9216x2048, .f32⟩
  | .hbm, ⟨21, _⟩ => ⟨S9216x2048, .f32⟩
  | .hbm, ⟨22, _⟩ => ⟨S1x2048x8192, .f32⟩
  | .hbm, ⟨23, _⟩ => ⟨S2048x8192, .f32⟩
  | .hbm, ⟨24, _⟩ => ⟨S9216x8192, .f32⟩
  | .hbm, ⟨25, _⟩ => ⟨S_, .f32⟩
  | .hbm, ⟨26, _⟩ => ⟨S9216x8192, .f32⟩
  | .hbm, ⟨27, _⟩ => ⟨S9216x8192, .f32⟩
  | .hbm, ⟨28, _⟩ => ⟨S9216x8192, .f32⟩
  | .hbm, ⟨29, _⟩ => ⟨S1x8192x2048, .f32⟩
  | .hbm, ⟨30, _⟩ => ⟨S8192x2048, .f32⟩
  | .hbm, ⟨31, _⟩ => ⟨S9216x2048, .f32⟩
  | .hbm, ⟨32, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Inproj.lean ====
abbrev S9216x2048 : Shape := ⟨2, ![9216, 2048]⟩
abbrev S4x2048 : Shape := ⟨2, ![4, 2048]⟩
abbrev S4x2048x5208 : Shape := ⟨3, ![4, 2048, 5208]⟩
abbrev S4x1x2048 : Shape := ⟨3, ![4, 1, 2048]⟩
abbrev S4x5208x2048 : Shape := ⟨3, ![4, 5208, 2048]⟩
abbrev S4x512x2048 : Shape := ⟨3, ![4, 512, 2048]⟩
abbrev S4x384x2048 : Shape := ⟨3, ![4, 384, 2048]⟩
abbrev S4x768x2048 : Shape := ⟨3, ![4, 768, 2048]⟩
abbrev S4x16x2048 : Shape := ⟨3, ![4, 16, 2048]⟩
abbrev S4x256x2048 : Shape := ⟨3, ![4, 256, 2048]⟩
abbrev S4x64x2048 : Shape := ⟨3, ![4, 64, 2048]⟩
abbrev S4x8x2048 : Shape := ⟨3, ![4, 8, 2048]⟩
abbrev S_ : Shape := ⟨0, ![]⟩
abbrev S4x168x2048 : Shape := ⟨3, ![4, 168, 2048]⟩
abbrev S4x5376x2048 : Shape := ⟨3, ![4, 5376, 2048]⟩
abbrev S9216x5376 : Shape := ⟨2, ![9216, 5376]⟩
abbrev S1024x2048 : Shape := ⟨2, ![1024, 2048]⟩
abbrev S1x1x2048 : Shape := ⟨3, ![1, 1, 2048]⟩
abbrev S1x768x2048 : Shape := ⟨3, ![1, 768, 2048]⟩
abbrev S1024x768 : Shape := ⟨2, ![1024, 768]⟩
abbrev S1024 : Shape := ⟨1, ![1024]⟩
abbrev S1024x1 : Shape := ⟨2, ![1024, 1]⟩
abbrev S1x2048 : Shape := ⟨2, ![1, 2048]⟩
abbrev S768x2048 : Shape := ⟨2, ![768, 2048]⟩
abbrev S8192x5376 : Shape := ⟨2, ![8192, 5376]⟩
abbrev S1024x5376 : Shape := ⟨2, ![1024, 5376]⟩
abbrev S8192x256 : Shape := ⟨2, ![8192, 256]⟩
abbrev S8192x64 : Shape := ⟨2, ![8192, 64]⟩
abbrev S1024x256 : Shape := ⟨2, ![1024, 256]⟩
abbrev S1024x64 : Shape := ⟨2, ![1024, 64]⟩

abbrev nBuf : Space → Nat
  | .hbm => 31
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S4x2048x5208, .f32⟩
  | .hbm, ⟨3, _⟩ => ⟨S4x1x2048, .f32⟩
  | .hbm, ⟨4, _⟩ => ⟨S4x5208x2048, .f32⟩
  | .hbm, ⟨5, _⟩ => ⟨S4x512x2048, .f32⟩
  | .hbm, ⟨6, _⟩ => ⟨S4x512x2048, .f32⟩
  | .hbm, ⟨7, _⟩ => ⟨S4x384x2048, .f32⟩
  | .hbm, ⟨8, _⟩ => ⟨S4x384x2048, .f32⟩
  | .hbm, ⟨9, _⟩ => ⟨S4x768x2048, .f32⟩
  | .hbm, ⟨10, _⟩ => ⟨S4x16x2048, .f32⟩
  | .hbm, ⟨11, _⟩ => ⟨S4x768x2048, .f32⟩
  | .hbm, ⟨12, _⟩ => ⟨S4x768x2048, .f32⟩
  | .hbm, ⟨13, _⟩ => ⟨S4x256x2048, .f32⟩
  | .hbm, ⟨14, _⟩ => ⟨S4x256x2048, .f32⟩
  | .hbm, ⟨15, _⟩ => ⟨S4x512x2048, .f32⟩
  | .hbm, ⟨16, _⟩ => ⟨S4x64x2048, .f32⟩
  | .hbm, ⟨17, _⟩ => ⟨S4x8x2048, .f32⟩
  | .hbm, ⟨18, _⟩ => ⟨S_, .f32⟩
  | .hbm, ⟨19, _⟩ => ⟨S4x168x2048, .f32⟩
  | .hbm, ⟨20, _⟩ => ⟨S4x5376x2048, .f32⟩
  | .hbm, ⟨21, _⟩ => ⟨S4x5376x2048, .bf16⟩
  | .hbm, ⟨22, _⟩ => ⟨S9216x5376, .f32⟩
  | .hbm, ⟨23, _⟩ => ⟨S8192x5376, .f32⟩
  | .hbm, ⟨24, _⟩ => ⟨S1024x5376, .f32⟩
  | .hbm, ⟨25, _⟩ => ⟨S8192x256, .f32⟩
  | .hbm, ⟨26, _⟩ => ⟨S8192x256, .f32⟩
  | .hbm, ⟨27, _⟩ => ⟨S8192x64, .f32⟩
  | .hbm, ⟨28, _⟩ => ⟨S1024x256, .f32⟩
  | .hbm, ⟨29, _⟩ => ⟨S1024x256, .f32⟩
  | .hbm, ⟨30, _⟩ => ⟨S1024x64, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x768x2048, .bf16⟩
  | .local _ .vmem, ⟨4, _⟩ => ⟨S1x768x2048, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S9216x2048 : Shape := ⟨2, ![9216, 2048]⟩
abbrev S4x2048 : Shape := ⟨2, ![4, 2048]⟩
abbrev S4x2048x5208 : Shape := ⟨3, ![4, 2048, 5208]⟩
abbrev S1x2048 : Shape := ⟨2, ![1, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048x5208 : Shape := ⟨3, ![1, 2048, 5208]⟩
abbrev S2048x5208 : Shape := ⟨2, ![2048, 5208]⟩
abbrev S9216x5208 : Shape := ⟨2, ![9216, 5208]⟩
abbrev S9216x512 : Shape := ⟨2, ![9216, 512]⟩
abbrev S9216x384 : Shape := ⟨2, ![9216, 384]⟩
abbrev S9216x768 : Shape := ⟨2, ![9216, 768]⟩
abbrev S9216x16 : Shape := ⟨2, ![9216, 16]⟩
abbrev S9216x256 : Shape := ⟨2, ![9216, 256]⟩
abbrev S9216x64 : Shape := ⟨2, ![9216, 64]⟩
abbrev S9216x8 : Shape := ⟨2, ![9216, 8]⟩
abbrev S9216x168 : Shape := ⟨2, ![9216, 168]⟩
abbrev S9216x5376 : Shape := ⟨2, ![9216, 5376]⟩
abbrev S8192x256 : Shape := ⟨2, ![8192, 256]⟩
abbrev S8192x64 : Shape := ⟨2, ![8192, 64]⟩
abbrev S1024x256 : Shape := ⟨2, ![1024, 256]⟩
abbrev S1024x64 : Shape := ⟨2, ![1024, 64]⟩

abbrev nBuf : Space → Nat
  | .hbm => 46
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S4x2048, .f32⟩
  | .hbm, ⟨2, _⟩ => ⟨S4x2048x5208, .f32⟩
  | .hbm, ⟨3, _⟩ => ⟨S1x2048, .f32⟩
  | .hbm, ⟨4, _⟩ => ⟨S2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S1x2048x5208, .f32⟩
  | .hbm, ⟨22, _⟩ => ⟨S2048x5208, .f32⟩
  | .hbm, ⟨23, _⟩ => ⟨S9216x5208, .f32⟩
  | .hbm, ⟨24, _⟩ => ⟨S9216x512, .f32⟩
  | .hbm, ⟨25, _⟩ => ⟨S9216x512, .f32⟩
  | .hbm, ⟨26, _⟩ => ⟨S9216x384, .f32⟩
  | .hbm, ⟨27, _⟩ => ⟨S9216x384, .f32⟩
  | .hbm, ⟨28, _⟩ => ⟨S9216x768, .f32⟩
  | .hbm, ⟨29, _⟩ => ⟨S9216x16, .f32⟩
  | .hbm, ⟨30, _⟩ => ⟨S9216x768, .f32⟩
  | .hbm, ⟨31, _⟩ => ⟨S9216x768, .f32⟩
  | .hbm, ⟨32, _⟩ => ⟨S9216x256, .f32⟩
  | .hbm, ⟨33, _⟩ => ⟨S9216x256, .f32⟩
  | .hbm, ⟨34, _⟩ => ⟨S9216x512, .f32⟩
  | .hbm, ⟨35, _⟩ => ⟨S9216x64, .f32⟩
  | .hbm, ⟨36, _⟩ => ⟨S9216x8, .f32⟩
  | .hbm, ⟨37, _⟩ => ⟨S_, .f32⟩
  | .hbm, ⟨38, _⟩ => ⟨S9216x168, .f32⟩
  | .hbm, ⟨39, _⟩ => ⟨S9216x5376, .f32⟩
  | .hbm, ⟨40, _⟩ => ⟨S8192x256, .f32⟩
  | .hbm, ⟨41, _⟩ => ⟨S8192x256, .f32⟩
  | .hbm, ⟨42, _⟩ => ⟨S8192x64, .f32⟩
  | .hbm, ⟨43, _⟩ => ⟨S1024x256, .f32⟩
  | .hbm, ⟨44, _⟩ => ⟨S1024x256, .f32⟩
  | .hbm, ⟨45, _⟩ => ⟨S1024x64, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== Gmlp.lean ====
abbrev S9216x5376 : Shape := ⟨2, ![9216, 5376]⟩
abbrev S4x512 : Shape := ⟨2, ![4, 512]⟩
abbrev S4x4x128x128 : Shape := ⟨4, ![4, 4, 128, 128]⟩
abbrev S4x4x128 : Shape := ⟨3, ![4, 4, 128]⟩
abbrev S1x4x1x4x1x128x1x128 : Shape := ⟨8, ![1, 4, 1, 4, 1, 128, 1, 128]⟩
abbrev S1x4x1x4x2x128x2x128 : Shape := ⟨8, ![1, 4, 1, 4, 2, 128, 2, 128]⟩
abbrev S4x4x256x256 : Shape := ⟨4, ![4, 4, 256, 256]⟩
abbrev S4x4x64x64 : Shape := ⟨4, ![4, 4, 64, 64]⟩
abbrev S1x4x1x4x1x64x1x64 : Shape := ⟨8, ![1, 4, 1, 4, 1, 64, 1, 64]⟩
abbrev S1x4x1x4x4x64x4x64 : Shape := ⟨8, ![1, 4, 1, 4, 4, 64, 4, 64]⟩
abbrev S4x1x4x256x256 : Shape := ⟨5, ![4, 1, 4, 256, 256]⟩
abbrev S4x2x4x256x256 : Shape := ⟨5, ![4, 2, 4, 256, 256]⟩
abbrev S1x4x1x4x1x128 : Shape := ⟨6, ![1, 4, 1, 4, 1, 128]⟩
abbrev S1x4x1x4x2x128 : Shape := ⟨6, ![1, 4, 1, 4, 2, 128]⟩
abbrev S4x4x256 : Shape := ⟨3, ![4, 4, 256]⟩
abbrev S4x4x64 : Shape := ⟨3, ![4, 4, 64]⟩
abbrev S1x4x1x4x1x64 : Shape := ⟨6, ![1, 4, 1, 4, 1, 64]⟩
abbrev S1x4x1x4x4x64 : Shape := ⟨6, ![1, 4, 1, 4, 4, 64]⟩
abbrev S4x1x4x256 : Shape := ⟨4, ![4, 1, 4, 256]⟩
abbrev S4x2x4x256 : Shape := ⟨4, ![4, 2, 4, 256]⟩
abbrev S4x2x256x4 : Shape := ⟨4, ![4, 2, 256, 4]⟩
abbrev S4x1x512 : Shape := ⟨3, ![4, 1, 512]⟩
abbrev S9216x512 : Shape := ⟨2, ![9216, 512]⟩
abbrev S1024x512 : Shape := ⟨2, ![1024, 512]⟩
abbrev S256x1024 : Shape := ⟨2, ![256, 1024]⟩
abbrev S1x1x512 : Shape := ⟨3, ![1, 1, 512]⟩
abbrev S1x1x4x256x256 : Shape := ⟨5, ![1, 1, 4, 256, 256]⟩
abbrev S1x1x256x4 : Shape := ⟨4, ![1, 1, 256, 4]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x1x128 : Shape := ⟨3, ![1, 1, 128]⟩
abbrev S1x128 : Shape := ⟨2, ![1, 128]⟩
abbrev S1x1x1x256x256 : Shape := ⟨5, ![1, 1, 1, 256, 256]⟩
abbrev S256x4 : Shape := ⟨2, ![256, 4]⟩

abbrev nBuf : Space → Nat
  | .hbm => 28
  | .vmem => 11
  | .smem => 0
  | _ => 0

abbrev bufTy : (tb : Table) → Fin (tcTables nBuf tb) → BufTy
  | .hbm, ⟨0, _⟩ => ⟨S9216x5376, .f32⟩
  | .hbm, ⟨1, _⟩ => ⟨S4x512, .f32⟩
  | .hbm, ⟨2, _⟩ => ⟨S4x4x128x128, .f32⟩
  | .hbm, ⟨3, _⟩ => ⟨S4x4x128, .f32⟩
  | .hbm, ⟨4, _⟩ => ⟨S1x4x1x4x1x128x1x128, .f32⟩
  | .hbm, ⟨5, _⟩ => ⟨S1x4x1x4x2x128x2x128, .f32⟩
  | .hbm, ⟨6, _⟩ => ⟨S4x4x256x256, .f32⟩
  | .hbm, ⟨7, _⟩ => ⟨S4x4x64x64, .f32⟩
  | .hbm, ⟨8, _⟩ => ⟨S1x4x1x4x1x64x1x64, .f32⟩
  | .hbm, ⟨9, _⟩ => ⟨S1x4x1x4x4x64x4x64, .f32⟩
  | .hbm, ⟨10, _⟩ => ⟨S4x4x256x256, .f32⟩
  | .hbm, ⟨11, _⟩ => ⟨S4x1x4x256x256, .f32⟩
  | .hbm, ⟨12, _⟩ => ⟨S4x1x4x256x256, .f32⟩
  | .hbm, ⟨13, _⟩ => ⟨S4x2x4x256x256, .f32⟩
  | .hbm, ⟨14, _⟩ => ⟨S1x4x1x4x1x128, .f32⟩
  | .hbm, ⟨15, _⟩ => ⟨S1x4x1x4x2x128, .f32⟩
  | .hbm, ⟨16, _⟩ => ⟨S4x4x256, .f32⟩
  | .hbm, ⟨17, _⟩ => ⟨S4x4x64, .f32⟩
  | .hbm, ⟨18, _⟩ => ⟨S1x4x1x4x1x64, .f32⟩
  | .hbm, ⟨19, _⟩ => ⟨S1x4x1x4x4x64, .f32⟩
  | .hbm, ⟨20, _⟩ => ⟨S4x4x256, .f32⟩
  | .hbm, ⟨21, _⟩ => ⟨S4x1x4x256, .f32⟩
  | .hbm, ⟨22, _⟩ => ⟨S4x1x4x256, .f32⟩
  | .hbm, ⟨23, _⟩ => ⟨S4x2x4x256, .f32⟩
  | .hbm, ⟨24, _⟩ => ⟨S4x2x256x4, .f32⟩
  | .hbm, ⟨25, _⟩ => ⟨S4x1x512, .f32⟩
  | .hbm, ⟨26, _⟩ => ⟨S9216x512, .bf16⟩
  | .hbm, ⟨27, _⟩ => ⟨S1024x512, .f32⟩
  | .local _ .vmem, ⟨0, _⟩ => ⟨S256x1024, .f32⟩
  | .local _ .vmem, ⟨1, _⟩ => ⟨S256x1024, .f32⟩
  | .local _ .vmem, ⟨2, _⟩ => ⟨S1x1x512, .f32⟩
  | .local _ .vmem, ⟨3, _⟩ => ⟨S1x1x4x256x256, .f32⟩
  | .local _ .vmem, ⟨4, _⟩ => ⟨S1x1x4x256x256, .f32⟩
  | .local _ .vmem, ⟨5, _⟩ => ⟨S1x1x256x4, .f32⟩
  | .local _ .vmem, ⟨6, _⟩ => ⟨S1x1x256x4, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | _, _ => ⟨S9216x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22_0 : Ref sig .tc := ⟨.hbm, 26, rfl⟩
abbrev main_v22_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v1.toNat, c0_i32_1.toNat, c0_i32_2.toNat, c0_i32_3.toNat]

def cc0_transform_3 (i : grid0.Coords) : Fin 4 → Nat :=
  let arg0 : BitVec 32 := BitVec.ofNat 32 (i 0).val
  let c32_i32 : BitVec 32 := 32#32
  let v0 : BitVec 1 := Scalar.cmpi .sge arg0 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpRefIdeal.lean ====
abbrev S9216x5376 : Shape := ⟨2, ![9216, 5376]⟩
abbrev S4x512 : Shape := ⟨2, ![4, 512]⟩
abbrev S4x4x128x128 : Shape := ⟨4, ![4, 4, 128, 128]⟩
abbrev S4x4x128 : Shape := ⟨3, ![4, 4, 128]⟩
abbrev S9216x512 : Shape := ⟨2, ![9216, 512]⟩
abbrev S_ : Shape := ⟨0, ![]⟩
abbrev S9216x4x128 : Shape := ⟨3, ![9216, 4, 128]⟩
abbrev S1x512 : Shape := ⟨2, ![1, 512]⟩
abbrev S512 : Shape := ⟨1, ![512]⟩
abbrev S4x128 : Shape := ⟨2, ![4, 128]⟩
abbrev S9216x4 : Shape := ⟨2, ![9216, 4]⟩
abbrev S9216x4x1 : Shape := ⟨3, ![9216, 4, 1]⟩
abbrev S1x4x128 : Shape := ⟨3, ![1, 4, 128]⟩
abbrev S8192x512 : Shape := ⟨2, ![8192, 512]⟩
abbrev S1x4x128x128 : Shape := ⟨4, ![1, 4, 128, 128]⟩
abbrev S4x128x128 : Shape := ⟨3, ![4, 128, 128]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S1024x512 : Shape := ⟨2, ![1024, 512]⟩
abbrev S16x64x4x128 : Shape := ⟨4, ![16, 64, 4, 128]⟩
abbrev S4x64x64 : Shape := ⟨3, ![4, 64, 64]⟩
abbrev S4x16x128x64 : Shape := ⟨4, ![4, 16, 128, 64]⟩
abbrev S64x4 : Shape := ⟨2, ![64, 4]⟩
abbrev S1x64x4x1 : Shape := ⟨4, ![1, 64, 4, 1]⟩

abbrev nBuf : Space → Nat
  | .hbm => 128
  | .vmem => 0
  | .smem => 0
  | _ => 0

abbrev bufTy : (tb : Table) → Fin (tcTables nBuf tb) → BufTy
  | .hbm, ⟨0, _⟩ => ⟨S9216x5376, .f32⟩
  | .hbm, ⟨1, _⟩ => ⟨S4x512, .f32⟩
  | .hbm, ⟨2, _⟩ => ⟨S4x4x128x128, .f32⟩
  | .hbm, ⟨3, _⟩ => ⟨S4x4x128, .f32⟩
  | .hbm, ⟨4, _⟩ => ⟨S9216x512, .f32⟩
  | .hbm, ⟨5, _⟩ => ⟨S9216x512, .f32⟩
  | .hbm, ⟨6, _⟩ => ⟨S9216x512, .f32⟩
  | .hbm, ⟨7, _⟩ => ⟨S_, .f32⟩
  | .hbm, ⟨8, _⟩ => ⟨S9216x512, .f32⟩
  | .hbm, ⟨9, _⟩ => ⟨S9216x512, .f32⟩
  | .hbm, ⟨10, _⟩ => ⟨S9216x512, .f32⟩
  | .hbm, ⟨11, _⟩ => ⟨S_, .f32⟩
  | .hbm, ⟨12, _⟩ => ⟨S9216x512, .f32⟩
  | .hbm, ⟨13, _⟩ => ⟨S9216x512, .f32⟩
  | .hbm, ⟨14, _⟩ => ⟨S9216x512, .f32⟩
  | .hbm, ⟨15, _⟩ => ⟨S_, .f32⟩
  | .hbm, ⟨16, _⟩ => ⟨S9216x512, .f32⟩
  | .hbm, ⟨17, _⟩ => ⟨S9216x512, .f32⟩
  | .hbm, ⟨18, _⟩ => ⟨S_, .f32⟩
  | .hbm, ⟨19, _⟩ => ⟨S9216x512, .f32⟩
  | .hbm, ⟨20, _⟩ => ⟨S9216x512, .f32⟩
  | .hbm, ⟨21, _⟩ => ⟨S9216x512, .f32⟩
  | .hbm, ⟨22, _⟩ => ⟨S9216x512, .f32⟩
  | .hbm, ⟨23, _⟩ => ⟨S9216x512, .f32⟩
  | .hbm, ⟨24, _⟩ => ⟨S9216x512, .f32⟩
  | .hbm, ⟨25, _⟩ => ⟨S_, .f32⟩
  | .hbm, ⟨26, _⟩ => ⟨S9216x512, .f32⟩
  | .hbm, ⟨27, _⟩ => ⟨S9216x512, .f32⟩
  | .hbm, ⟨28, _⟩ => ⟨S9216x512, .f32⟩
  | .hbm, ⟨29, _⟩ => ⟨S_, .f32⟩
  | .hbm, ⟨30, _⟩ => ⟨S9216x512, .f32⟩
  | .hbm, ⟨31, _⟩ => ⟨S9216x512, .f32⟩
  | .hbm, ⟨32, _⟩ => ⟨S9216x512, .f32⟩
  | .hbm, ⟨33, _⟩ => ⟨S_, .f32⟩
  | .hbm, ⟨34, _⟩ => ⟨S9216x512, .f32⟩
  | .hbm, ⟨35, _⟩ => ⟨S9216x512, .f32⟩
  | .hbm, ⟨36, _⟩ => ⟨S_, .f32⟩
  | .hbm, ⟨37, _⟩ => ⟨S9216x512, .f32⟩
  | .hbm, ⟨38, _⟩ => ⟨S9216x512, .f32⟩
  | .hbm, ⟨39, _⟩ => ⟨S9216x512, .f32⟩
  | .hbm, ⟨40, _⟩ => ⟨S9216x4x128, .f32⟩
  | .hbm, ⟨41, _⟩ => ⟨S1x512, .f32⟩
  | .hbm, ⟨42, _⟩ => ⟨S512, .f32⟩
  | .hbm, ⟨43, _⟩ => ⟨S4x128, .f32⟩
  | .hbm, ⟨44, _⟩ => ⟨S9216x4x128, .f32⟩
  | .hbm, ⟨45, _⟩ => ⟨S_, .f32⟩
  | .hbm, ⟨46, _⟩ => ⟨S9216x4, .f32⟩
  | .hbm, ⟨47, _⟩ => ⟨S9216x4x1, .f32⟩
  | .hbm, ⟨48, _⟩ => ⟨S_, .f32⟩
  | .hbm, ⟨49, _⟩ => ⟨S9216x4x1, .f32⟩
  | .hbm, ⟨50, _⟩ => ⟨S9216x4x1, .f32⟩
  | .hbm, ⟨51, _⟩ => ⟨S_, .f32⟩
  | .hbm, ⟨52, _⟩ => ⟨S9216x4x1, .f32⟩
  | .hbm, ⟨53, _⟩ => ⟨S9216x4x1, .f32⟩
  | .hbm, ⟨54, _⟩ => ⟨S9216x4x1, .f32⟩
  | .hbm, ⟨55, _⟩ => ⟨S9216x4x128, .f32⟩
  | .hbm, ⟨56, _⟩ => ⟨S9216x4x128, .f32⟩
  | .hbm, ⟨57, _⟩ => ⟨S1x4x128, .f32⟩
  | .hbm, ⟨58, _⟩ => ⟨S9216x4x128, .f32⟩
  | .hbm, ⟨59, _⟩ => ⟨S9216x4x128, .f32⟩
  | .hbm, ⟨60, _⟩ => ⟨S9216x512, .f32⟩
  | .hbm, ⟨61, _⟩ => ⟨S8192x512, .f32⟩
  | .hbm, ⟨62, _⟩ => ⟨S8192x512, .f32⟩
  | .hbm, ⟨63, _⟩ => ⟨S1x4x128x128, .f32⟩
  | .hbm, ⟨64, _⟩ => ⟨S4x128x128, .f32⟩
  | .hbm, ⟨65, _⟩ => ⟨S1x4x128, .f32⟩
  | .hbm, ⟨66, _⟩ => ⟨S4x128, .f32⟩
  | .hbm, ⟨67, _⟩ => ⟨S64x128x4x128, .f32⟩
  | .hbm, ⟨68, _⟩ => ⟨S_, .i1⟩
  | .hbm, ⟨69, _⟩ => ⟨S128x128, .i1⟩
  | .hbm, ⟨70, _⟩ => ⟨S128x128, .i32⟩
  | .hbm, ⟨71, _⟩ => ⟨S_, .i32⟩
  | .hbm, ⟨72, _⟩ => ⟨S128x128, .i32⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S_, .i1⟩
  | .hbm, ⟨77, _⟩ => ⟨S128x128, .i1⟩
  | .hbm, ⟨78, _⟩ => ⟨S128x128, .i1⟩
  | .hbm, ⟨79, _⟩ => ⟨S1x128x128, .i1⟩
  | .hbm, ⟨80, _⟩ => ⟨S_, .f32⟩
  | .hbm, ⟨81, _⟩ => ⟨S4x128x128, .f32⟩
  | .hbm, ⟨82, _⟩ => ⟨S4x128x128, .i1⟩
  | .hbm, ⟨83, _⟩ => ⟨S4x128x128, .f32⟩
  | .hbm, ⟨84, _⟩ => ⟨S4x64x128x128, .f32⟩
  | .hbm, ⟨85, _⟩ => ⟨S64x128x4x128, .f32⟩
  | .hbm, ⟨86, _⟩ => ⟨S128x4, .f32⟩
  | .hbm, ⟨87, _⟩ => ⟨S1x128x4x1, .f32⟩
  | .hbm, ⟨88, _⟩ => ⟨S64x128x4x128, .f32⟩
  | .hbm, ⟨89, _⟩ => ⟨S64x128x4x128, .f32⟩
  | .hbm, ⟨90, _⟩ => ⟨S8192x512, .f32⟩
  | .hbm, ⟨91, _⟩ => ⟨S8192x512, .f32⟩
  | .hbm, ⟨92, _⟩ => ⟨S1024x512, .f32⟩
  | .hbm, ⟨93, _⟩ => ⟨S1024x512, .f32⟩
  | .hbm, ⟨94, _⟩ => ⟨S1x4x128x128, .f32⟩
  | .hbm, ⟨95, _⟩ => ⟨S4x128x128, .f32⟩
  | .hbm, ⟨96, _⟩ => ⟨S1x4x128, .f32⟩
  | .hbm, ⟨97, _⟩ => ⟨S4x128, .f32⟩
  | .hbm, ⟨98, _⟩ => ⟨S16x64x4x128, .f32⟩
  | .hbm, ⟨99, _⟩ => ⟨S_, .i1⟩
  | .hbm, ⟨100, _⟩ => ⟨S128x128, .i1⟩
  | .hbm, ⟨101, _⟩ => ⟨S128x128, .i32⟩
  | .hbm, ⟨102, _⟩ => ⟨S_, .i32⟩
  | .hbm, ⟨103, _⟩ => ⟨S128x128, .i32⟩
  | .hbm, ⟨104, _⟩ => ⟨S128x128, .i32⟩
  | .hbm, ⟨105, _⟩ => ⟨S128x128, .i32⟩
  | .hbm, ⟨106, _⟩ => ⟨S128x128, .i1⟩
  | .hbm, ⟨107, _⟩ => ⟨S_, .i1⟩
  | .hbm, ⟨108, _⟩ => ⟨S128x128, .i1⟩
  | .hbm, ⟨109, _⟩ => ⟨S128x128, .i1⟩
  | .hbm, ⟨110, _⟩ => ⟨S1x128x128, .i1⟩
  | .hbm, ⟨111, _⟩ => ⟨S_, .f32⟩
  | .hbm, ⟨112, _⟩ => ⟨S4x128x128, .f32⟩
  | .hbm, ⟨113, _⟩ => ⟨S4x128x128, .i1⟩
  | .hbm, ⟨114, _⟩ => ⟨S4x128x128, .f32⟩
  | .hbm, ⟨115, _⟩ => ⟨S4x64x64, .f32⟩
  | .hbm, ⟨116, _⟩ => ⟨S4x16x128x64, .f32⟩
  | .hbm, ⟨117, _⟩ => ⟨S16x64x4x128, .f32⟩
  | .hbm, ⟨118, _⟩ => ⟨S128x4, .f32⟩
  | .hbm, ⟨119, _⟩ => ⟨S64x4, .f32⟩
  | .hbm, ⟨120, _⟩ => ⟨S1x64x4x1, .f32⟩
  | .hbm, ⟨121, _⟩ => ⟨S16x64x4x128, .f32⟩
  | .hbm, ⟨122, _⟩ => ⟨S16x64x4x128, .f32⟩
  | .hbm, ⟨123, _⟩ => ⟨S1024x512, .f32⟩
  | .hbm, ⟨124, _⟩ => ⟨S1024x512, .f32⟩
  | .hbm, ⟨125, _⟩ => ⟨S9216x512, .f32⟩
  | .hbm, ⟨126, _⟩ => ⟨S9216x512, .bf16⟩
  | .hbm, ⟨127, _⟩ => ⟨S1024x512, .f32⟩
  | _, _ => ⟨S9216x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c : Ref sig .tc := ⟨.hbm, 68, rfl⟩
abbrev main_v53 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_11 : Ref sig .tc := ⟨.hbm, 99, rfl⟩
abbrev main_v73 : Ref sig .tc := ⟨.hbm, 100, rfl⟩
abbrev main_call2_v0 : Ref sig .tc := ⟨.hbm, 101, rfl⟩
abbrev main_call2_c : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_c_0 : Ref sig .tc := ⟨.hbm, 107, rfl⟩
abbrev main_call2_v5 : Ref sig .tc := ⟨.hbm, 108, rfl⟩
abbrev main_v74 : Ref sig .tc := ⟨.hbm, 109, rfl⟩
abbrev main_v75 : Ref sig .tc := ⟨.hbm, 110, rfl⟩
abbrev main_cst_12 : Ref sig .tc := ⟨.hbm, 111, rfl⟩
abbrev main_v76 : Ref sig .tc := ⟨.hbm, 112, rfl⟩
abbrev main_call3_v0 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩

abbrev nD : Nat := 1
abbrev τ : Topo := Topo.v7x

variable {F : FTy → Type} [FloatOps F]
-- ==== Normp.lean ====
abbrev S9216x2048 : Shape := ⟨2, ![9216, 2048]⟩
abbrev S2048 : Shape := ⟨1, ![2048]⟩
abbrev S1x2048 : Shape := ⟨2, ![1, 2048]⟩
abbrev S8192x2048 : Shape := ⟨2, ![8192, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormpRefIdeal.lean ====
abbrev S9216x2048 : Shape := ⟨2, ![9216, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Norms.lean ====
abbrev S9216x2048 : Shape := ⟨2, ![9216, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 3
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S1024x2048, .f32⟩
  | .local _ .vmem, ⟨0, _⟩ => ⟨S1024x2048, .f32⟩
  | .local _ .vmem, ⟨1, _⟩ => ⟨S1x2048, .f32⟩
  | .local _ .vmem, ⟨2, _⟩ => ⟨S1024x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormsRefIdeal.lean ====
abbrev S9216x2048 : Shape := ⟨2, ![9216, 2048]⟩
abbrev S2048 : Shape := ⟨1, ![2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Gla.lean ====
abbrev S9216x5376 : Shape := ⟨2, ![9216, 5376]⟩
abbrev S4x16x384 : Shape := ⟨3, ![4, 16, 384]⟩
abbrev S4x384 : Shape := ⟨2, ![4, 384]⟩
abbrev S4x768 : Shape := ⟨2, ![4, 768]⟩
abbrev S4x16x6x64x128 : Shape := ⟨5, ![4, 16, 6, 64, 128]⟩
abbrev S_ : Shape := ⟨0, ![]⟩
abbrev S4x4x6x64x128 : Shape := ⟨5, ![4, 4, 6, 64, 128]⟩
abbrev S4x20x6x64x128 : Shape := ⟨5, ![4, 20, 6, 64, 128]⟩
abbrev S4x1x384 : Shape := ⟨3, ![4, 1, 384]⟩
abbrev S4x1x768 : Shape := ⟨3, ![4, 1, 768]⟩
abbrev S9216x768 : Shape := ⟨2, ![9216, 768]⟩
abbrev S20x6x64x128 : Shape := ⟨4, ![20, 6, 64, 128]⟩
abbrev S256x384 : Shape := ⟨2, ![256, 384]⟩
abbrev S256x768 : Shape := ⟨2, ![256, 768]⟩
abbrev S256x128 : Shape := ⟨2, ![256, 128]⟩
abbrev S1x16x384 : Shape := ⟨3, ![1, 16, 384]⟩
abbrev S1x1x384 : Shape := ⟨3, ![1, 1, 384]⟩
abbrev S1x1x768 : Shape := ⟨3, ![1, 1, 768]⟩
abbrev S1x4x6x64x128 : Shape := ⟨5, ![1, 4, 6, 64, 128]⟩
abbrev S4x6x64x128 : Shape := ⟨4, ![4, 6, 64, 128]⟩
abbrev S6x128x64 : Shape := ⟨3, ![6, 128, 64]⟩
abbrev S256x16 : Shape := ⟨2, ![256, 16]⟩
abbrev S16x384 : Shape := ⟨2, ![16, 384]⟩
abbrev S1x384 : Shape := ⟨2, ![1, 384]⟩
abbrev S256x256 : Shape := ⟨2, ![256, 256]⟩
abbrev S64x384 : Shape := ⟨2, ![64, 384]⟩
abbrev S256x64 : Shape := ⟨2, ![256, 64]⟩
abbrev S1x128x64 : Shape := ⟨3, ![1, 128, 64]⟩
abbrev S128x64 : Shape := ⟨2, ![128, 64]⟩
abbrev S1x1x1x64x128 : Shape := ⟨5, ![1, 1, 1, 64, 128]⟩
abbrev S64x128 : Shape := ⟨2, ![64, 128]⟩
abbrev S64x64 : Shape := ⟨2, ![64, 64]⟩
abbrev S1x64 : Shape := ⟨2, ![1, 64]⟩
abbrev S1x1x64x128 : Shape := ⟨4, ![1, 1, 64, 128]⟩
abbrev S256 : Shape := ⟨1, ![256]⟩
abbrev S256x1 : Shape := ⟨2, ![256, 1]⟩
abbrev S1x1x128 : Shape := ⟨3, ![1, 1, 128]⟩
abbrev S1x128 : Shape := ⟨2, ![1, 128]⟩

abbrev nBuf : Space → Nat
  | .hbm => 13
  | .vmem => 20
  | .smem => 0
  | _ => 0

abbrev bufTy : (tb : Table) → Fin (tcTables nBuf tb) → BufTy
  | .hbm, ⟨0, _⟩ => ⟨S9216x5376, .f32⟩
  | .hbm, ⟨1, _⟩ => ⟨S4x16x384, .f32⟩
  | .hbm, ⟨2, _⟩ => ⟨S4x384, .f32⟩
  | .hbm, ⟨3, _⟩ => ⟨S4x768, .f32⟩
  | .hbm, ⟨4, _⟩ => ⟨S4x16x6x64x128, .f32⟩
  | .hbm, ⟨5, _⟩ => ⟨S4x16x384, .bf16⟩
  | .hbm, ⟨6, _⟩ => ⟨S_, .f32⟩
  | .hbm, ⟨7, _⟩ => ⟨S4x4x6x64x128, .f32⟩
  | .hbm, ⟨8, _⟩ => ⟨S4x20x6x64x128, .f32⟩
  | .hbm, ⟨9, _⟩ => ⟨S4x1x384, .f32⟩
  | .hbm, ⟨10, _⟩ => ⟨S4x1x768, .f32⟩
  | .hbm, ⟨11, _⟩ => ⟨S9216x768, .bf16⟩
  | .hbm, ⟨12, _⟩ => ⟨S20x6x64x128, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x128, .f32⟩
  | .local _ .vmem, ⟨9, _⟩ => ⟨S256x128, .f32⟩
  | .local _ .vmem, ⟨10, _⟩ => ⟨S1x16x384, .bf16⟩
  | .local _ .vmem, ⟨11, _⟩ => ⟨S1x1x384, .f32⟩
  | .local _ .vmem, ⟨12, _⟩ => ⟨S1x1x768, .f32⟩
  | .local _ .vmem, ⟨13, _⟩ => ⟨S1x4x6x64x128, .f32⟩
  | .local _ .vmem, ⟨14, _⟩ => ⟨S1x4x6x64x128, .f32⟩
  | .local _ .vmem, ⟨15, _⟩ => ⟨S256x768, .bf16⟩
  | .local _ .vmem, ⟨16, _⟩ => ⟨S256x768, .bf16⟩
  | .local _ .vmem, ⟨17, _⟩ => ⟨S4x6x64x128, .f32⟩
  | .local _ .vmem, ⟨18, _⟩ => ⟨S4x6x64x128, .f32⟩
  | .local _ .vmem, ⟨19, _⟩ => ⟨S6x128x64, .f32⟩
  | _, _ => ⟨S9216x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 5 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c1_i32 : BitVec 32 := 1#32
  let v2 : BitVec 32 := Scalar.addi v1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32_1.toNat, v3.toNat, c0_i32_2.toNat, c0_i32_3.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c1_i32 : BitVec 32 := 1#32
  let v2 : BitVec 32 := Scalar.addi v1 c1_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x6x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x6x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GlaRefIdeal.lean ====
abbrev S9216x5376 : Shape := ⟨2, ![9216, 5376]⟩
abbrev S4x16x384 : Shape := ⟨3, ![4, 16, 384]⟩
abbrev S4x384 : Shape := ⟨2, ![4, 384]⟩
abbrev S4x768 : Shape := ⟨2, ![4, 768]⟩
abbrev S4x16x6x64x128 : Shape := ⟨5, ![4, 16, 6, 64, 128]⟩
abbrev S9216x384 : Shape := ⟨2, ![9216, 384]⟩
abbrev S9216x6x64 : Shape := ⟨3, ![9216, 6, 64]⟩
abbrev S9216x768 : Shape := ⟨2, ![9216, 768]⟩
abbrev S9216x6x128 : Shape := ⟨3, ![9216, 6, 128]⟩
abbrev S9216x16 : Shape := ⟨2, ![9216, 16]⟩
abbrev S1x16x384 : Shape := ⟨3, ![1, 16, 384]⟩
abbrev S16x384 : Shape := ⟨2, ![16, 384]⟩
abbrev S1x384 : Shape := ⟨2, ![1, 384]⟩
abbrev S384 : Shape := ⟨1, ![384]⟩
abbrev S_ : Shape := ⟨0, ![]⟩
abbrev S1x6x64x128 : Shape := ⟨4, ![1, 6, 64, 128]⟩
abbrev S8192x6x64 : Shape := ⟨3, ![8192, 6, 64]⟩
abbrev S128x1x64x6x64 : Shape := ⟨5, ![128, 1, 64, 6, 64]⟩
abbrev S8192x6x128 : Shape := ⟨3, ![8192, 6, 128]⟩
abbrev S128x1x64x6x128 : Shape := ⟨5, ![128, 1, 64, 6, 128]⟩
abbrev S128x1x6x64x128 : Shape := ⟨5, ![128, 1, 6, 64, 128]⟩
abbrev S1x1x64x6x64 : Shape := ⟨5, ![1, 1, 64, 6, 64]⟩
abbrev S1x64x6x64 : Shape := ⟨4, ![1, 64, 6, 64]⟩
abbrev S1x1x64x6x128 : Shape := ⟨5, ![1, 1, 64, 6, 128]⟩
abbrev S1x64x6x128 : Shape := ⟨4, ![1, 64, 6, 128]⟩
abbrev S1x1x6x64 : Shape := ⟨4, ![1, 1, 6, 64]⟩
abbrev S1x6x64 : Shape := ⟨3, ![1, 6, 64]⟩
abbrev S1x6x64x1 : Shape := ⟨4, ![1, 6, 64, 1]⟩
abbrev S1x1x6x64x128 : Shape := ⟨5, ![1, 1, 6, 64, 128]⟩
abbrev S1x16x6x64x128 : Shape := ⟨5, ![1, 16, 6, 64, 128]⟩
abbrev S16x6x64x128 : Shape := ⟨4, ![16, 6, 64, 128]⟩
abbrev S1024x6x64 : Shape := ⟨3, ![1024, 6, 64]⟩
abbrev S16x64x6x64 : Shape := ⟨4, ![16, 64, 6, 64]⟩
abbrev S1024x6x128 : Shape := ⟨3, ![1024, 6, 128]⟩
abbrev S16x64x6x128 : Shape := ⟨4, ![16, 64, 6, 128]⟩
abbrev S16x1x6x64 : Shape := ⟨4, ![16, 1, 6, 64]⟩
abbrev S16x6x64 : Shape := ⟨3, ![16, 6, 64]⟩
abbrev S16x6x64x1 : Shape := ⟨4, ![16, 6, 64, 1]⟩
abbrev S4x1x6x64x128 : Shape := ⟨5, ![4, 1, 6, 64, 128]⟩
abbrev S4x6x64x128 : Shape := ⟨4, ![4, 6, 64, 128]⟩
abbrev S20x6x64x128 : Shape := ⟨4, ![20, 6, 64, 128]⟩

abbrev nBuf : Space → Nat
  | .hbm => 126
  | .vmem => 0
  | .smem => 0
  | _ => 0

abbrev bufTy : (tb : Table) → Fin (tcTables nBuf tb) → BufTy
  | .hbm, ⟨0, _⟩ => ⟨S9216x5376, .f32⟩
  | .hbm, ⟨1, _⟩ => ⟨S4x16x384, .f32⟩
  | .hbm, ⟨2, _⟩ => ⟨S4x384, .f32⟩
  | .hbm, ⟨3, _⟩ => ⟨S4x768, .f32⟩
  | .hbm, ⟨4, _⟩ => ⟨S4x16x6x64x128, .f32⟩
  | .hbm, ⟨5, _⟩ => ⟨S9216x384, .f32⟩
  | .hbm, ⟨6, _⟩ => ⟨S9216x6x64, .f32⟩
  | .hbm, ⟨7, _⟩ => ⟨S9216x768, .f32⟩
  | .hbm, ⟨8, _⟩ => ⟨S9216x6x128, .f32⟩
  | .hbm, ⟨9, _⟩ => ⟨S9216x16, .f32⟩
  | .hbm, ⟨10, _⟩ => ⟨S1x16x384, .f32⟩
  | .hbm, ⟨11, _⟩ => ⟨S16x384, .f32⟩
  | .hbm, ⟨12, _⟩ => ⟨S9216x384, .f32⟩
  | .hbm, ⟨13, _⟩ => ⟨S1x384, .f32⟩
  | .hbm, ⟨14, _⟩ => ⟨S384, .f32⟩
  | .hbm, ⟨15, _⟩ => ⟨S1x384, .f32⟩
  | .hbm, ⟨16, _⟩ => ⟨S9216x384, .f32⟩
  | .hbm, ⟨17, _⟩ => ⟨S9216x384, .f32⟩
  | .hbm, ⟨18, _⟩ => ⟨S9216x384, .f32⟩
  | .hbm, ⟨19, _⟩ => ⟨S_, .f32⟩
  | .hbm, ⟨20, _⟩ => ⟨S9216x384, .f32⟩
  | .hbm, ⟨21, _⟩ => ⟨S9216x384, .f32⟩
  | .hbm, ⟨22, _⟩ => ⟨S9216x384, .f32⟩
  | .hbm, ⟨23, _⟩ => ⟨S9216x384, .f32⟩
  | .hbm, ⟨24, _⟩ => ⟨S9216x384, .i1⟩
  | .hbm, ⟨25, _⟩ => ⟨S9216x384, .f32⟩
  | .hbm, ⟨26, _⟩ => ⟨S9216x384, .f32⟩
  | .hbm, ⟨27, _⟩ => ⟨S9216x384, .f32⟩
  | .hbm, ⟨28, _⟩ => ⟨S9216x384, .f32⟩
  | .hbm, ⟨29, _⟩ => ⟨S9216x384, .f32⟩
  | .hbm, ⟨30, _⟩ => ⟨S9216x384, .f32⟩
  | .hbm, ⟨31, _⟩ => ⟨S9216x384, .f32⟩
  | .hbm, ⟨32, _⟩ => ⟨S9216x384, .f32⟩
  | .hbm, ⟨33, _⟩ => ⟨S9216x384, .f32⟩
  | .hbm, ⟨34, _⟩ => ⟨S_, .f32⟩
  | .hbm, ⟨35, _⟩ => ⟨S9216x384, .f32⟩
  | .hbm, ⟨36, _⟩ => ⟨S9216x384, .f32⟩
  | .hbm, ⟨37, _⟩ => ⟨S9216x6x64, .f32⟩
  | .hbm, ⟨38, _⟩ => ⟨S_, .f32⟩
  | .hbm, ⟨39, _⟩ => ⟨S1x6x64x128, .f32⟩
  | .hbm, ⟨40, _⟩ => ⟨S8192x6x64, .f32⟩
  | .hbm, ⟨41, _⟩ => ⟨S128x1x64x6x64, .f32⟩
  | .hbm, ⟨42, _⟩ => ⟨S8192x6x128, .f32⟩
  | .hbm, ⟨43, _⟩ => ⟨S128x1x64x6x128, .f32⟩
  | .hbm, ⟨44, _⟩ => ⟨S8192x6x64, .f32⟩
  | .hbm, ⟨45, _⟩ => ⟨S128x1x64x6x64, .f32⟩
  | .hbm, ⟨46, _⟩ => ⟨S_, .f32⟩
  | .hbm, ⟨47, _⟩ => ⟨S128x1x6x64x128, .f32⟩
  | .hbm, ⟨48, _⟩ => ⟨S_, .i32⟩
  | .hbm, ⟨49, _⟩ => ⟨S128x1x64x6x64, .f32⟩
  | .hbm, ⟨50, _⟩ => ⟨S128x1x64x6x128, .f32⟩
  | .hbm, ⟨51, _⟩ => ⟨S128x1x64x6x64, .f32⟩
  | .hbm, ⟨52, _⟩ => ⟨S_, .i32⟩
  | .hbm, ⟨53, _⟩ => ⟨S1x6x64x128, .f32⟩
  | .hbm, ⟨54, _⟩ => ⟨S128x1x6x64x128, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x1x64x6x64, .f32⟩
  | .hbm, ⟨62, _⟩ => ⟨S1x64x6x64, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x1x64x6x128, .f32⟩
  | .hbm, ⟨68, _⟩ => ⟨S1x64x6x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x1x64x6x64, .f32⟩
  | .hbm, ⟨74, _⟩ => ⟨S1x64x6x64, .f32⟩
  | .hbm, ⟨75, _⟩ => ⟨S_, .f32⟩
  | .hbm, ⟨76, _⟩ => ⟨S_, .f32⟩
  | .hbm, ⟨77, _⟩ => ⟨S1x64x6x64, .f32⟩
  | .hbm, ⟨78, _⟩ => ⟨S1x1x6x64, .f32⟩
  | .hbm, ⟨79, _⟩ => ⟨S1x6x64, .f32⟩
  | .hbm, ⟨80, _⟩ => ⟨S1x6x64, .f32⟩
  | .hbm, ⟨81, _⟩ => ⟨S1x6x64x1, .f32⟩
  | .hbm, ⟨82, _⟩ => ⟨S1x6x64x128, .f32⟩
  | .hbm, ⟨83, _⟩ => ⟨S1x6x64x128, .f32⟩
  | .hbm, ⟨84, _⟩ => ⟨S1x1x6x64, .f32⟩
  | .hbm, ⟨85, _⟩ => ⟨S1x64x6x64, .f32⟩
  | .hbm, ⟨86, _⟩ => ⟨S1x64x6x64, .f32⟩
  | .hbm, ⟨87, _⟩ => ⟨S1x64x6x64, .f32⟩
  | .hbm, ⟨88, _⟩ => ⟨S1x64x6x64, .f32⟩
  | .hbm, ⟨89, _⟩ => ⟨S1x6x64x128, .f32⟩
  | .hbm, ⟨90, _⟩ => ⟨S1x6x64x128, .f32⟩
  | .hbm, ⟨91, _⟩ => ⟨S1x1x6x64x128, .f32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S128x1x6x64x128, .f32⟩
  | .hbm, ⟨97, _⟩ => ⟨S_, .i32⟩
  | .hbm, ⟨98, _⟩ => ⟨S_, .i32⟩
  | .hbm, ⟨99, _⟩ => ⟨S1x16x6x64x128, .f32⟩
  | .hbm, ⟨100, _⟩ => ⟨S16x6x64x128, .f32⟩
  | .hbm, ⟨101, _⟩ => ⟨S1024x6x64, .f32⟩
  | .hbm, ⟨102, _⟩ => ⟨S16x64x6x64, .f32⟩
  | .hbm, ⟨103, _⟩ => ⟨S1024x6x128, .f32⟩
  | .hbm, ⟨104, _⟩ => ⟨S16x64x6x128, .f32⟩
  | .hbm, ⟨105, _⟩ => ⟨S1024x6x64, .f32⟩
  | .hbm, ⟨106, _⟩ => ⟨S16x64x6x64, .f32⟩
  | .hbm, ⟨107, _⟩ => ⟨S_, .f32⟩
  | .hbm, ⟨108, _⟩ => ⟨S_, .f32⟩
  | .hbm, ⟨109, _⟩ => ⟨S16x64x6x64, .f32⟩
  | .hbm, ⟨110, _⟩ => ⟨S16x1x6x64, .f32⟩
  | .hbm, ⟨111, _⟩ => ⟨S16x6x64, .f32⟩
  | .hbm, ⟨112, _⟩ => ⟨S16x6x64, .f32⟩
  | .hbm, ⟨113, _⟩ => ⟨S16x6x64x1, .f32⟩
  | .hbm, ⟨114, _⟩ => ⟨S16x6x64x128, .f32⟩
  | .hbm, ⟨115, _⟩ => ⟨S16x6x64x128, .f32⟩
  | .hbm, ⟨116, _⟩ => ⟨S16x1x6x64, .f32⟩
  | .hbm, ⟨117, _⟩ => ⟨S16x64x6x64, .f32⟩
  | .hbm, ⟨118, _⟩ => ⟨S16x64x6x64, .f32⟩
  | .hbm, ⟨119, _⟩ => ⟨S16x64x6x64, .f32⟩
  | .hbm, ⟨120, _⟩ => ⟨S16x64x6x64, .f32⟩
  | .hbm, ⟨121, _⟩ => ⟨S16x6x64x128, .f32⟩
  | .hbm, ⟨122, _⟩ => ⟨S16x6x64x128, .f32⟩
  | .hbm, ⟨123, _⟩ => ⟨S4x1x6x64x128, .f32⟩
  | .hbm, ⟨124, _⟩ => ⟨S4x6x64x128, .f32⟩
  | .hbm, ⟨125, _⟩ => ⟨S20x6x64x128, .f32⟩
  | _, _ => ⟨S9216x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_c : Ref sig .tc := ⟨.hbm, 48, rfl⟩
abbrev main_v25_0 : Ref sig .tc := ⟨.hbm, 49, rfl⟩
abbrev main_v25_1 : Ref sig .tc := ⟨.hbm, 50, rfl⟩
abbrev main_v25_2 : Ref sig .tc := ⟨.hbm, 51, rfl⟩
abbrev main_v25_3 : Ref sig .tc := ⟨.hbm, 52, rfl⟩
abbrev main_v25_4 : Ref sig .tc := ⟨.hbm, 53, rfl⟩
abbrev main_v25_5 : Ref sig .tc := ⟨.hbm, 54, rfl⟩
abbrev main_while0c_c_7 : Ref sig .tc := ⟨.hbm, 55, rfl⟩
abbrev main_while0c_v51 : Ref sig .tc := ⟨.hbm, 56, rfl⟩
abbrev main_while0b_call1_c : Ref sig .tc := ⟨.hbm, 57, rfl⟩
abbrev main_while0b_call1_c_0 : Ref sig .tc := ⟨.hbm, 58, rfl⟩
abbrev main_while0b_call1_c_1 : Ref sig .tc := ⟨.hbm, 59, rfl⟩
abbrev main_while0b_call1_c_2 : Ref sig .tc := ⟨.hbm, 60, rfl⟩
abbrev main_while0b_call1_v0 : Ref sig .tc := ⟨.hbm, 61, rfl⟩
abbrev main_while0b_v51 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_call2_c_2 : Ref sig .tc := ⟨.hbm, 66, rfl⟩
abbrev main_while0b_call2_v0 : Ref sig .tc := ⟨.hbm, 67, rfl⟩
abbrev main_while0b_v52 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_call3_c_1 : Ref sig .tc := ⟨.hbm, 71, rfl⟩
abbrev main_while0b_call3_c_2 : Ref sig .tc := ⟨.hbm, 72, rfl⟩
abbrev main_while0b_call3_v0 : Ref sig .tc := ⟨.hbm, 73, rfl⟩
abbrev main_while0b_v53 : Ref sig .tc := ⟨.hbm, 74, rfl⟩
abbrev main_while0b_call4_call0_cst : Ref sig .tc := ⟨.hbm, 75, rfl⟩
abbrev main_while0b_call4_call0_v0 : Ref sig .tc := ⟨.hbm, 76, rfl⟩
abbrev main_while0b_v54 : Ref sig .tc := ⟨.hbm, 77, rfl⟩
abbrev main_while0b_v55 : Ref sig .tc := ⟨.hbm, 78, rfl⟩
abbrev main_while0b_v56 : Ref sig .tc := ⟨.hbm, 79, rfl⟩
abbrev main_while0b_v57 : Ref sig .tc := ⟨.hbm, 80, rfl⟩
abbrev main_while0b_v58 : Ref sig .tc := ⟨.hbm, 81, rfl⟩
abbrev main_while0b_v59 : Ref sig .tc := ⟨.hbm, 82, rfl⟩
abbrev main_while0b_v60 : Ref sig .tc := ⟨.hbm, 83, rfl⟩
abbrev main_while0b_v61 : Ref sig .tc := ⟨.hbm, 84, rfl⟩
abbrev main_while0b_v62 : Ref sig .tc := ⟨.hbm, 85, rfl⟩
abbrev main_while0b_v63 : Ref sig .tc := ⟨.hbm, 86, rfl⟩
abbrev main_while0b_v64 : Ref sig .tc := ⟨.hbm, 87, rfl⟩
abbrev main_while0b_v65 : Ref sig .tc := ⟨.hbm, 88, rfl⟩
abbrev main_while0b_v66 : Ref sig .tc := ⟨.hbm, 89, rfl⟩
abbrev main_while0b_v67 : Ref sig .tc := ⟨.hbm, 90, rfl⟩
abbrev main_while0b_call5_v0 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_call5_c_2 : Ref sig .tc := ⟨.hbm, 95, rfl⟩
abbrev main_while0b_v68 : Ref sig .tc := ⟨.hbm, 96, rfl⟩
abbrev main_while0b_c_7 : Ref sig .tc := ⟨.hbm, 97, rfl⟩
abbrev main_while0b_v69 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_call6_call0_cst : Ref sig .tc := ⟨.hbm, 107, rfl⟩
abbrev main_call6_call0_v0 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩

abbrev nD : Nat := 1
abbrev τ : Topo := Topo.v7x

variable {F : FTy → Type} [FloatOps F]

abbrev main_while0_count : Scf.Loop 32 := ⟨0#32, 128#32, 1#32⟩
-- ==== Proof.OutprojValue.lean ====
module

public import proofs.«01_k».proof.Proof.Gen.OutprojIdeal.Value
public import proofs.«01_k».proof.Proof.Gen.OutprojRefIdeal.Run
public import Idealize.ShloMosaic.Lib.Pipeline.ValueKit
public import Idealize.ShloMosaic.Lib.Pointwise

/-! The output projection: the array the kernel leaves is the reference's. -/

set_option maxRecDepth 16384

@[expose] public section

noncomputable section

open Idealize.ShloMosaic Idealize.ShloMosaic.TcCoe Idealize.SL.Sem
open Idealize.ShloMosaic.Pipeline (Dat)

namespace Cert.OutprojIdeal.Tie

open Cert.OutprojIdeal Cert.OutprojIdeal.Gen

variable (m : (ℓ : Loc nD τ sig) → Buf (Elt Ideal) ℓ)

/-- The reference's composed term over the six arguments. -/
abbrev REF (X : FVec Ideal S9216x2048 .f32) (A : FVec Ideal S9216x512 .bf16) (B : FVec Ideal S9216x768 .bf16)
    (P : FVec Ideal S8192x768 .bf16) (S : FVec Ideal S1024x768 .bf16) (W : FVec Ideal S4x2048x2048 .f32) :
    FVec Ideal S9216x2048 .f32 :=
  addf X (Host.dotGeneral Cert.OutprojRefIdeal.dot_S9216x2048_S2048x2048_S9216x2048_1_0_0_1_n_n none
    (extf .f32 ((concatenate Cert.OutprojRefIdeal.S9216x2048 1 [⟨Cert.OutprojRefIdeal.S9216x512, A⟩, ⟨Cert.OutprojRefIdeal.S9216x768, B⟩,
      ⟨Cert.OutprojRefIdeal.S9216x768, (concatenate Cert.OutprojRefIdeal.S9216x768 0 [⟨Cert.OutprojRefIdeal.S8192x768, P⟩, ⟨Cert.OutprojRefIdeal.S1024x768, S⟩]
        Cert.OutprojRefIdeal.Gen.concatenates_S8192x768_S1024x768_S9216x768_d0)⟩]
      Cert.OutprojRefIdeal.Gen.concatenates_S9216x512_S9216x768_S9216x768_S9216x2048_d1 : FVec Ideal Cert.OutprojRefIdeal.S9216x2048 .bf16)) Cert.OutprojRefIdeal.Gen.bitsLt_bf16_f32)
    (shapeCast Cert.OutprojRefIdeal.S2048x2048 (extractStridedSlice Cert.OutprojRefIdeal.S1x2048x2048 ![0, 0, 0] W
      Cert.OutprojRefIdeal.Gen.slices_S4x2048x2048_S1x2048x2048_0_0_0) Cert.OutprojRefIdeal.Gen.shapeCasts_S1x2048x2048_S2048x2048))

theorem idx : ∀ t : Fin cfg0.N, win0_0.index t = ![t.val / 2, t.val % 2] ∧ win0_1.index t = ![t.val / 2, 0]
    ∧ win0_2.index t = ![t.val / 2, 0] ∧ win0_3.index t = ![min (t.val / 2) 7, 0] ∧ win0_4.index t = ![0, 0]
    ∧ win0_5.index t = ![0, 0, t.val % 2] ∧ win0_6.index t = ![0, 0, t.val % 2] ∧ win0_7.index t = ![0, 0, t.val % 2]
    ∧ win0_8.index t = ![t.val / 2, t.val % 2] ∧ ((grid0.coords t 0).val = t.val / 2) :=
  (by decide +kernel : ∀ t : Fin grid0.N, _)

theorem sum3 (f : Fin 2048 → EReal) : ∑ x, f x = ∑ x : Fin 512, f ⟨x.val, by omega⟩
    + ∑ x : Fin 768, f ⟨512 + x.val, by omega⟩ + ∑ x : Fin 768, f ⟨1280 + x.val, by omega⟩ := by
  rw [show (∑ x, f x) = ∑ x : Fin (512 + 768 + 768), f ⟨x.val, by omega⟩ from rfl, Fin.sum_univ_add, Fin.sum_univ_add]
  rfl

theorem cond : ∀ t : Fin cfg0.N, Scalar.cmpi CmpIPredicate.slt (BitVec.ofNat 32 ↑(grid0.coords t 0)) 8#32
    = if t.val / 2 < 8 then 1#1 else 0#1 :=
  (by decide +kernel : ∀ t : Fin grid0.N, _)

theorem add4 {a a' b b' c c' d d' : EReal} (ha : a = a') (hb : b = b') (hc : c = c') (hd : d = d') :
    a + b + c + d = a' + (b' + c' + d') := by
  rw [ha, hb, hc, hd, add_assoc, add_assoc, add_assoc]

theorem term_sel {P Q : Prop} [Decidable P] [Decidable Q] {x3 x4 w w' : EReal} {a3 : Q → EReal} {a4 : ¬ Q → EReal}
    (hPQ : P ↔ Q) (h3 : ∀ h, x3 = a3 h) (h4 : ∀ h, x4 = a4 h) (hw : w = w') :
    Scalar.select (if P then 1#1 else 0#1) x3 x4 * w = (if h : Q then a3 h else a4 h) * w' := by
  by_cases h : Q
  · rw [if_pos (hPQ.mpr h), dif_pos h, hw, ← h3 h]; rfl
  · rw [if_neg (fun hp => h (hPQ.mp hp)), dif_neg h, hw, ← h4 h]; rfl

set_option maxHeartbeats 400000 in
theorem point (c : Dev nD) (t : Fin cfg0.N) (y) :
    k0_pay1 (grid0.coords t) (iblk m c 3 t) (iblk m c 4 t) (iblk m c 0 t) (iblk m c 1 t) (iblk m c 5 t) (iblk m c 2 t) (iblk m c 6 t) (iblk m c 7 t) y
      = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 8).blk t).view.emb y) := by
  have ht : t.val < 18 := lt_of_lt_of_eq t.isLt (by decide +kernel)
  pointwise [k0_pay1, REF]
  rw [sum3, cond t]
  refine add4 ?_ ?_ ?_ ?_
  · blk_ext [iblk, V, idx t]
  · refine Finset.sum_congr rfl fun k _ => ?_
    rw [dif_pos k.isLt]
    blk_point [iblk, V, idx t]
  · refine Finset.sum_congr rfl fun k _ => ?_
    rw [dif_neg (show ¬ (512 + k.val < 512) by omega), dif_pos (show 512 + k.val - 512 < 768 by omega)]
    blk_point [iblk, V, idx t]
  · refine Finset.sum_congr rfl fun k _ => ?_
    rw [dif_neg (show ¬ (1280 + k.val < 512) by omega), dif_neg (show ¬ (1280 + k.val - 512 < 768) by omega)]
    refine term_sel (Q := ((((cfg0.win 8).blk t).view.emb y) 0 : ℕ) < 8192) ?_ (fun h => ?_) (fun h => ?_) ?_
    · have hr : ((((cfg0.win 8).blk t).view.emb y) 0 : ℕ) = t.val / 2 * 1024 + (y 0).val := by blk_simp [idx t]
      have hy : (y 0).val < 1024 := (y 0).isLt
      rw [hr]; omega
    · have hr : ((((cfg0.win 8).blk t).view.emb y) 0 : ℕ) = t.val / 2 * 1024 + (y 0).val := by blk_simp [idx t]
      rw [hr] at h
      blk_ext [iblk, V, idx t]
    · have hr : ((((cfg0.win 8).blk t).view.emb y) 0 : ℕ) = t.val / 2 * 1024 + (y 0).val := by blk_simp [idx t]
      rw [hr] at h
      blk_ext [iblk, V, idx t]
    · blk_ext! [iblk, V, idx t]

theorem final (c : Dev nD) : (dats m 0 c).arrAt 8 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]; frame_out
  exact point m c t y

/-- The reference's term of arguments that agree with the kernel's is the array the kernel leaves. -/
theorem agree (m' : (ℓ : Loc Cert.OutprojRefIdeal.nD Cert.OutprojRefIdeal.τ Cert.OutprojRefIdeal.sig) → Buf (Elt Ideal) ℓ) (c : Dev nD)
    (h : m' ((c.tc : Thread _ _).loc Cert.OutprojRefIdeal.main_arg0) = m ((c.tc : Thread nD τ).loc main_arg0)
      ∧ m' ((c.tc : Thread _ _).loc Cert.OutprojRefIdeal.main_arg1) = m ((c.tc : Thread nD τ).loc main_arg1)
      ∧ m' ((c.tc : Thread _ _).loc Cert.OutprojRefIdeal.main_arg2) = m ((c.tc : Thread nD τ).loc main_arg2)
      ∧ m' ((c.tc : Thread _ _).loc Cert.OutprojRefIdeal.main_arg3) = m ((c.tc : Thread nD τ).loc main_arg3)
      ∧ m' ((c.tc : Thread _ _).loc Cert.OutprojRefIdeal.main_arg4) = m ((c.tc : Thread nD τ).loc main_arg4)
      ∧ m' ((c.tc : Thread _ _).loc Cert.OutprojRefIdeal.main_arg5) = m ((c.tc : Thread nD τ).loc main_arg5)) :
    REF (m' ((c.tc : Thread _ _).loc Cert.OutprojRefIdeal.main_arg0)) (m' ((c.tc : Thread _ _).loc Cert.OutprojRefIdeal.main_arg1))
      (m' ((c.tc : Thread _ _).loc Cert.OutprojRefIdeal.main_arg2)) (m' ((c.tc : Thread _ _).loc Cert.OutprojRefIdeal.main_arg3))
      (m' ((c.tc : Thread _ _).loc Cert.OutprojRefIdeal.main_arg4)) (m' ((c.tc : Thread _ _).loc Cert.OutprojRefIdeal.main_arg5))
      = (dats m 0 c).arrAt 8 cfg0.N := by
  obtain ⟨h0, h1, h2, h3, h4, h5⟩ := h
  rw [final m c, h0, h1, h2, h3, h4, h5]

end Cert.OutprojIdeal.Tie
-- ==== Proof.FfnValue.lean ====
module

public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ReadBack
public import Idealize.ShloMosaic.Lib.Pointwise

/-! The feed-forward call: the array the kernel leaves is the reference's. -/

set_option maxRecDepth 16384

@[expose] public section

noncomputable section

open Idealize.ShloMosaic Idealize.ShloMosaic.TcCoe Idealize.SL.Sem
open Idealize.ShloMosaic.Pipeline (Dat)

namespace Cert.FfnRefIdeal.Ref

open Cert.FfnRefIdeal Cert.FfnRefIdeal.Gen

/-- The reference's normalized rows. -/
def NORM (X : FVec Ideal S9216x2048 .f32) (G : FVec Ideal S4x2048 .f32) : FVec Ideal S9216x2048 .f32 :=
  mulf (mulf X (broadcastInDim S9216x2048 ![0, 1] bcast_S9216x1_S9216x2048_0_1 (Host.rsqrt (addf (Host.divf (broadcastInDim S9216x1 ![0] bcast_S9216_S9216x1_0 (Host.reduceAdd (mulf X X) (constant S_ .f32 0x00000000#32) reducesTo_S9216x2048_S9216_d1 h_S_)) (broadcastInDim S9216x1 ![] bcast_S_S9216x1 (constant S_ .f32 0x45000000#32))) (broadcastInDim S9216x1 ![] bcast_S_S9216x1 (constant S_ .f32 0x358637BD#32)))))) (broadcastInDim S9216x2048 ![0, 1] bcast_S1x2048_S9216x2048_0_1 (broadcastInDim S1x2048 ![1] bcast_S2048_S1x2048_1 (shapeCast _ (extractStridedSlice S1x2048 ![0, 0] G slices_S4x2048_S1x2048_0_0) shapeCasts_S1x2048_S2048)))

/-- The reference's result: the row plus its squared-relu feed-forward. -/
abbrev REF (X : FVec Ideal S9216x2048 .f32) (G : FVec Ideal S4x2048 .f32) (U : FVec Ideal S4x2048x8192 .f32)
    (D : FVec Ideal S4x8192x2048 .f32) : FVec Ideal S9216x2048 .f32 :=
  addf X (Host.dotGeneral dot_S9216x8192_S8192x2048_S9216x2048_1_0_0_1_n_n none (mulf (maximumf (Host.dotGeneral dot_S9216x2048_S2048x8192_S9216x8192_1_0_0_1_n_n none (NORM X G) (shapeCast _ (extractStridedSlice S1x2048x8192 ![0, 0, 0] U slices_S4x2048x8192_S1x2048x8192_0_0_0) shapeCasts_S1x2048x8192_S2048x8192)) (broadcastInDim S9216x8192 ![] bcast_S_S9216x8192 (constant S_ .f32 0x00000000#32))) (maximumf (Host.dotGeneral dot_S9216x2048_S2048x8192_S9216x8192_1_0_0_1_n_n none (NORM X G) (shapeCast _ (extractStridedSlice S1x2048x8192 ![0, 0, 0] U slices_S4x2048x8192_S1x2048x8192_0_0_0) shapeCasts_S1x2048x8192_S2048x8192)) (broadcastInDim S9216x8192 ![] bcast_S_S9216x8192 (constant S_ .f32 0x00000000#32)))) (shapeCast _ (extractStridedSlice S1x8192x2048 ![0, 0, 0] D slices_S4x8192x2048_S1x8192x2048_0_0_0) shapeCasts_S1x8192x2048_S8192x2048))

end Cert.FfnRefIdeal.Ref

namespace Cert.FfnIdeal.Tie

open Cert.FfnIdeal Cert.FfnIdeal.Gen Cert.FfnRefIdeal.Ref

variable (m : (ℓ : Loc nD τ sig) → Buf (Elt Ideal) ℓ)

/-- Where each window's block sits at a point of the grid. -/
theorem idx : ∀ t : Fin cfg0.N, win0_0.index t = ![t.val / 8, 0] ∧ win0_1.index t = ![0, 0, 0]
    ∧ win0_2.index t = ![0, 0, t.val % 8] ∧ win0_3.index t = ![0, t.val % 8, 0] ∧ win0_4.index t = ![t.val / 8, 0] :=
  (by decide +kernel : ∀ t : Fin grid0.N, _)

theorem pay2_at (j) : k0_pay2 (F := Ideal) j = 0 := by pointwise [k0_pay2]

theorem pay4_at (x a : Vec Ideal S512x2048 .f32) (j) : k0_pay4 x a j = x j + a j := by pointwise [k0_pay4]

theorem pay3_at (v3 : Vec Ideal S512x2048 .bf16) (v4 : Vec Ideal S1x2048x1024 .bf16) (v9 : Vec Ideal S512x2048 .f32)
    (v12 : Vec Ideal S1x1024x2048 .bf16) (j : S512x2048.Idx) : k0_pay3 v3 v4 v9 v12 j
      = v9 j + ∑ f, max (∑ k, v3 (ix2 (j 0) k) * v4 (ix3 0 k f)) 0 * max (∑ k, v3 (ix2 (j 0) k) * v4 (ix3 0 k f)) 0
          * v12 (ix3 0 f (j 1)) := by
  pointwise [k0_pay3]

/-- The normalized rows of the block a point reads. -/
abbrev XB (c : Dev nD) (t : Fin cfg0.N) : Vec Ideal S512x2048 .bf16 := k0_pay1 (iblk m c 0 t) (iblk m c 1 t)

/-- Every point of a run reads the same rows. -/
theorem XB_eq (c : Dev nD) (t s : Fin cfg0.N) (h : t.val / 8 = s.val / 8) : XB m c t = XB m c s := by
  have e0 : iblk m c 0 t = iblk m c 0 s := by
    funext y; blk_ext [iblk, V, idx t, idx s]
  have e1 : iblk m c 1 t = iblk m c 1 s := by
    funext y; blk_ext [iblk, V, idx t, idx s]
  rw [XB, XB, e0, e1]

/-- Case A leaves the normalized rows in the first scratch. -/
theorem sA (c : Dev nD) (t : Fin cfg0.N) (h0 : t.val % 8 = 0) :
    (outsAt0 m c t.val t.isLt).2.1 = XB m c t := by
  rw [outsAt0_A m c t h0 (by omega)]; frame_out

theorem sB (c : Dev nD) (t : Fin cfg0.N) (h0 : ¬ t.val % 8 = 0) :
    (outsAt0 m c t.val t.isLt).2.1 = (outsAt0 m c (t.val - 1) (Nat.lt_of_le_of_lt (Nat.sub_le _ _) t.isLt)).2.1 := by
  by_cases h1 : t.val % 8 = 7
  · rw [outsAt0_C m c t h0 h1]; rfl
  · rw [outsAt0_B m c t h0 h1]; rfl

/-- At every point the first scratch holds the normalized rows of the point's block. -/
theorem scr (c : Dev nD) : ∀ (n : Nat) (h : n < cfg0.N), (outsAt0 m c n h).2.1 = XB m c ⟨n, h⟩
  | n, h => by
    by_cases h0 : n % 8 = 0
    · exact sA m c ⟨n, h⟩ h0
    · rw [sB m c ⟨n, h⟩ h0, scr c (n - 1)]
      exact XB_eq m c _ _ (show (n - 1) / 8 = n / 8 by omega)
  termination_by n => n
  decreasing_by omega

theorem aA (c : Dev nD) (t : Fin cfg0.N) (h0 : t.val % 8 = 0) :
    (outsAt0 m c t.val t.isLt).2.2 = k0_pay3 (XB m c t) (iblk m c 2 t) (k0_pay2 (F := Ideal)) (iblk m c 3 t) := by
  rw [outsAt0_A m c t h0 (by omega)]; frame_out

theorem aB (c : Dev nD) (t : Fin cfg0.N) (h0 : ¬ t.val % 8 = 0) :
    (outsAt0 m c t.val t.isLt).2.2 = k0_pay3 (outsAt0 m c (t.val - 1) (Nat.lt_of_le_of_lt (Nat.sub_le _ _) t.isLt)).2.1 (iblk m c 2 t)
      (outsAt0 m c (t.val - 1) (Nat.lt_of_le_of_lt (Nat.sub_le _ _) t.isLt)).2.2 (iblk m c 3 t) := by
  by_cases h1 : t.val % 8 = 7
  · rw [outsAt0_C m c t h0 h1]; frame_out; simp only [read_unread_whole]
  · rw [outsAt0_B m c t h0 h1]; frame_out; simp only [read_unread_whole]

theorem oC (c : Dev nD) (t : Fin cfg0.N) (h1 : t.val % 8 = 7) :
    (outsAt0 m c t.val t.isLt).1 = k0_pay4 (iblk m c 0 t) (outsAt0 m c t.val t.isLt).2.2 := by
  rw [outsAt0_C m c t (by omega) h1]; frame_out

/-- What one point adds to the accumulator. -/
abbrev part (c : Dev nD) (t : Fin cfg0.N) (j : S512x2048.Idx) : EReal :=
  ∑ f : Fin 1024, max (∑ k : Fin 2048, XB m c t (ix2 (j 0) k) * iblk m c 2 t (ix3 0 k f)) 0
    * max (∑ k : Fin 2048, XB m c t (ix2 (j 0) k) * iblk m c 2 t (ix3 0 k f)) 0 * iblk m c 3 t (ix3 0 f (j 1))

/-- The accumulator at the last point of a run. -/
theorem acc (c : Dev nD) (t : Fin cfg0.N) (hr : t.val % 8 = 7) (j : S512x2048.Idx) :
    (outsAt0 m c t.val t.isLt).2.2 j
      = ∑ s : Fin 8, part m c ⟨8 * (t.val / 8) + s.val, Pipeline.run_point_lt_of_flush t hr s⟩ j := by
  rw [Pipeline.eq_sum_fin_of_reset_step_apply_of_flush (fun n h => (outsAt0 m c n h).2.2) 8 (fun _ => (0 : EReal)) (part m c)
    (fun t h j => by
      show (outsAt0 m c t.val t.isLt).2.2 j = _
      rw [aA m c t h, pay3_at, pay2_at])
    (fun t h j => by
      show (outsAt0 m c t.val t.isLt).2.2 j = _
      rw [aB m c t h, pay3_at, scr m c, XB_eq m c _ t (show (t.val - 1) / 8 = t.val / 8 by omega)]) t hr j, zero_add]

/-- The reference's normalized row is the block's. -/
theorem norm_at (c : Dev nD) (t : Fin cfg0.N) (r : Fin 512) (k : Fin 2048) (hl : t.val / 8 * 512 + r.val < 9216) :
    XB m c t (ix2 r k) = NORM (m ((c : Thread nD τ).loc main_arg0)) (m ((c : Thread nD τ).loc main_arg1))
      (ix2 ⟨t.val / 8 * 512 + r.val, hl⟩ k) := by
  pointwise [XB, k0_pay1, NORM]
  blk_point [iblk, V, idx t]

theorem relu_mul {a a' w w' : EReal} (ha : a = a') (hw : w = w') : max a 0 * max a 0 * w = max a' 0 * max a' 0 * w' := by
  rw [ha, hw]

theorem mul_eq {a a' w w' : EReal} (ha : a = a') (hw : w = w') : a * w = a' * w' := by
  rw [ha, hw]

/-- The array the kernel leaves is the reference's term of the arguments. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have hr : t.val % 8 = 7 := (flush0_4 t).mp hf
  blk_simp
  rw [after0_4, oC m c t hr, pay4_at, acc m c t hr]
  pointwise [REF]
  refine congrArg₂ (· + ·) ?_ (Fin.sum_mul_add_congr fun s f hl => ?_)
  · blk_ext [iblk, V, idx t]
  · have hp : (8 * (t.val / 8) + s.val) / 8 = t.val / 8 := by omega
    have hq : (8 * (t.val / 8) + s.val) % 8 = s.val := by omega
    have ht : t.val < 144 := lt_of_lt_of_eq t.isLt (by decide +kernel)
    have hy : (y 0).val < 512 := (y 0).isLt
    generalize hP : (⟨8 * (t.val / 8) + s.val, Pipeline.run_point_lt_of_flush t hr s⟩ : Fin cfg0.N) = p
    have hp' : p.val / 8 = t.val / 8 := by rw [← hP]; exact hp
    have hq' : p.val % 8 = s.val := by rw [← hP]; exact hq
    refine relu_mul (Finset.sum_congr rfl fun k _ => mul_eq ?_ ?_) ?_
    · refine (norm_at m c p ⟨(y 0).val, hy⟩ k (show p.val / 8 * 512 + (y 0).val < 9216 by omega)).trans (congrArg _ ?_)
      have he : ((((cfg0.win 4).blk t).view.emb y) 0 : ℕ) = t.val / 8 * 512 + (y 0).val := by blk_simp [idx t]
      refine congrArg (fun r => ix2 r k) (Fin.ext (Eq.trans ?_ he.symm))
      show p.val / 8 * 512 + (y 0).val = t.val / 8 * 512 + (y 0).val
      rw [hp']
    · blk_ext! [iblk, V, idx p]
    · blk_ext! [iblk, V, idx p, idx t]

/-- The reference's term of arguments that agree with the kernel's is the array the kernel leaves. -/
theorem agree (m' : (ℓ : Loc Cert.FfnRefIdeal.nD Cert.FfnRefIdeal.τ Cert.FfnRefIdeal.sig) → Buf (Elt Ideal) ℓ) (c : Dev nD)
    (h : m' ((c.tc : Thread _ _).loc Cert.FfnRefIdeal.main_arg0) = m ((c.tc : Thread nD τ).loc main_arg0)
      ∧ m' ((c.tc : Thread _ _).loc Cert.FfnRefIdeal.main_arg1) = m ((c.tc : Thread nD τ).loc main_arg1)
      ∧ m' ((c.tc : Thread _ _).loc Cert.FfnRefIdeal.main_arg2) = m ((c.tc : Thread nD τ).loc main_arg2)
      ∧ m' ((c.tc : Thread _ _).loc Cert.FfnRefIdeal.main_arg3) = m ((c.tc : Thread nD τ).loc main_arg3)) :
    REF (m' ((c.tc : Thread _ _).loc Cert.FfnRefIdeal.main_arg0)) (m' ((c.tc : Thread _ _).loc Cert.FfnRefIdeal.main_arg1))
      (m' ((c.tc : Thread _ _).loc Cert.FfnRefIdeal.main_arg2)) (m' ((c.tc : Thread _ _).loc Cert.FfnRefIdeal.main_arg3))
      = (dats m 0 c).arrAt 4 cfg0.N := by
  obtain ⟨h0, h1, h2, h3⟩ := h
  rw [final m c, h0, h1, h2, h3]

end Cert.FfnIdeal.Tie
-- ==== Proof.InprojValue.lean ====
module

public import proofs.«01_k».proof.Proof.Gen.InprojIdeal.Frame
public import Idealize.ShloMosaic.Lib.Pipeline.Value
public import proofs.«01_k».proof.Proof.Gen.InprojRefIdeal.Run
public import Idealize.ShloMosaic.Lib.Pipeline.ValueKit
public import Idealize.ShloMosaic.Lib.Pipeline.ReadBack
public import Idealize.ShloMosaic.Lib.Pointwise
public import Idealize.ShloMosaic.Lib.StableHlo.ReadAt

/-! The input projection call: the array the kernel leaves is the reference's. -/

set_option maxRecDepth 16384

@[expose] public section

noncomputable section

open Idealize.ShloMosaic Idealize.ShloMosaic.TcCoe Idealize.SL.Sem
open Idealize.ShloMosaic.Pipeline (Dat)

namespace Cert.InprojRefIdeal.Ref

open Cert.InprojRefIdeal Cert.InprojRefIdeal.Gen

/-- The reference's normalized rows. -/
def NORM (X : FVec Ideal S9216x2048 .f32) (G : FVec Ideal S4x2048 .f32) : FVec Ideal S9216x2048 .f32 :=
  mulf (mulf X (broadcastInDim S9216x2048 ![0, 1] bcast_S9216x1_S9216x2048_0_1 (Host.rsqrt (addf (Host.divf (broadcastInDim S9216x1 ![0] bcast_S9216_S9216x1_0 (Host.reduceAdd (mulf X X) (constant S_ .f32 0x00000000#32) reducesTo_S9216x2048_S9216_d1 h_S_)) (broadcastInDim S9216x1 ![] bcast_S_S9216x1 (constant S_ .f32 0x45000000#32))) (broadcastInDim S9216x1 ![] bcast_S_S9216x1 (constant S_ .f32 0x358637BD#32)))))) (broadcastInDim S9216x2048 ![0, 1] bcast_S1x2048_S9216x2048_0_1 (broadcastInDim S1x2048 ![1] bcast_S2048_S1x2048_1 (shapeCast _ (extractStridedSlice S1x2048 ![0, 0] G slices_S4x2048_S1x2048_0_0) shapeCasts_S1x2048_S2048)))

/-- The reference's projected rows, in the order of the weight's columns. -/
def PROJ (X : FVec Ideal S9216x2048 .f32) (G : FVec Ideal S4x2048 .f32) (U : FVec Ideal S4x2048x5208 .f32) : FVec Ideal S9216x5208 .f32 :=
  Host.dotGeneral dot_S9216x2048_S2048x5208_S9216x5208_1_0_0_1_n_n none (NORM X G) (shapeCast _ (extractStridedSlice S1x2048x5208 ![0, 0, 0] U slices_S4x2048x5208_S1x2048x5208_0_0_0) shapeCasts_S1x2048x5208_S2048x5208)

/-- The reference's result: the projected columns in the layer's order, filled up with zeros. -/
def REF (X : FVec Ideal S9216x2048 .f32) (G : FVec Ideal S4x2048 .f32) (U : FVec Ideal S4x2048x5208 .f32) : FVec Ideal S9216x5376 .f32 :=
  (concatenate S9216x5376 1 [⟨S9216x384, ((extractStridedSlice S9216x384 ![0, 1024] (PROJ X G U) slices_S9216x5208_S9216x384_0_1024) : (⟨S9216x384, .f32⟩ : BufTy).Contents (Elt Ideal))⟩, ⟨S9216x384, ((extractStridedSlice S9216x384 ![0, 1408] (PROJ X G U) slices_S9216x5208_S9216x384_0_1408) : (⟨S9216x384, .f32⟩ : BufTy).Contents (Elt Ideal))⟩, ⟨S9216x768, ((extractStridedSlice S9216x768 ![0, 1792] (PROJ X G U) slices_S9216x5208_S9216x768_0_1792) : (⟨S9216x768, .f32⟩ : BufTy).Contents (Elt Ideal))⟩, ⟨S9216x768, ((extractStridedSlice S9216x768 ![0, 2576] (PROJ X G U) slices_S9216x5208_S9216x768_0_2576) : (⟨S9216x768, .f32⟩ : BufTy).Contents (Elt Ideal))⟩, ⟨S9216x768, ((extractStridedSlice S9216x768 ![0, 3344] (PROJ X G U) slices_S9216x5208_S9216x768_0_3344) : (⟨S9216x768, .f32⟩ : BufTy).Contents (Elt Ideal))⟩, ⟨S9216x256, ((extractStridedSlice S9216x256 ![0, 4112] (PROJ X G U) slices_S9216x5208_S9216x256_0_4112) : (⟨S9216x256, .f32⟩ : BufTy).Contents (Elt Ideal))⟩, ⟨S9216x256, ((extractStridedSlice S9216x256 ![0, 4368] (PROJ X G U) slices_S9216x5208_S9216x256_0_4368) : (⟨S9216x256, .f32⟩ : BufTy).Contents (Elt Ideal))⟩, ⟨S9216x512, ((extractStridedSlice S9216x512 ![0, 4624] (PROJ X G U) slices_S9216x5208_S9216x512_0_4624) : (⟨S9216x512, .f32⟩ : BufTy).Contents (Elt Ideal))⟩, ⟨S9216x512, ((extractStridedSlice S9216x512 ![0, 0] (PROJ X G U) slices_S9216x5208_S9216x512_0_0) : (⟨S9216x512, .f32⟩ : BufTy).Contents (Elt Ideal))⟩, ⟨S9216x512, ((extractStridedSlice S9216x512 ![0, 512] (PROJ X G U) slices_S9216x5208_S9216x512_0_512) : (⟨S9216x512, .f32⟩ : BufTy).Contents (Elt Ideal))⟩, ⟨S9216x64, ((extractStridedSlice S9216x64 ![0, 5136] (PROJ X G U) slices_S9216x5208_S9216x64_0_5136) : (⟨S9216x64, .f32⟩ : BufTy).Contents (Elt Ideal))⟩, ⟨S9216x16, ((extractStridedSlice S9216x16 ![0, 2560] (PROJ X G U) slices_S9216x5208_S9216x16_0_2560) : (⟨S9216x16, .f32⟩ : BufTy).Contents (Elt Ideal))⟩, ⟨S9216x8, ((extractStridedSlice S9216x8 ![0, 5200] (PROJ X G U) slices_S9216x5208_S9216x8_0_5200) : (⟨S9216x8, .f32⟩ : BufTy).Contents (Elt Ideal))⟩, ⟨S9216x168, ((broadcastInDim S9216x168 ![] bcast_S_S9216x168 (constant (F := Ideal) S_ .f32 0x00000000#32)) : (⟨S9216x168, .f32⟩ : BufTy).Contents (Elt Ideal))⟩] concatenates_S9216x384_S9216x384_S9216x768_S9216x768_S9216x768_S9216x256_S9216x256_S9216x512_S9216x512_S9216x512_S9216x64_S9216x16_S9216x8_S9216x168_S9216x5376_d1 : (⟨S9216x5376, .f32⟩ : BufTy).Contents (Elt Ideal))

theorem PROJ_at (X : FVec Ideal S9216x2048 .f32) (G : FVec Ideal S4x2048 .f32) (U : FVec Ideal S4x2048x5208 .f32) (r : Fin 9216) (s : Fin 5208) :
    PROJ X G U (ix2 r s) = ∑ k : Fin 2048, NORM X G (ix2 r k) * U (ix3 0 k s) := by
  pointwise [PROJ]

end Cert.InprojRefIdeal.Ref

namespace Cert.InprojIdeal.Tie

open Cert.InprojIdeal Cert.InprojIdeal.Gen Cert.InprojRefIdeal.Ref

variable (m : (ℓ : Loc nD τ sig) → Buf (Elt Ideal) ℓ)

/-- Where each window's block sits at a point of the grid. -/
theorem idx : ∀ t : Fin cfg0.N, win0_0.index t = ![t.val / 7, 0] ∧ win0_1.index t = ![0, 0, 0]
    ∧ win0_2.index t = ![0, t.val % 7, 0] ∧ win0_3.index t = ![t.val / 7, t.val % 7] :=
  (by decide +kernel : ∀ t : Fin grid0.N, _)

theorem pay2_at (v3 : Vec Ideal S1024x2048 .bf16) (v4 : Vec Ideal S1x768x2048 .bf16) (j : S1024x768.Idx) :
    k0_pay2 v3 v4 j = ∑ k : Fin 2048, v3 (ix2 (j 0) k) * v4 (ix3 0 (j 1) k) := by
  pointwise [k0_pay2]

/-- The normalized rows of the block a point reads. -/
abbrev XB (c : Dev nD) (t : Fin cfg0.N) : Vec Ideal S1024x2048 .bf16 := k0_pay1 (iblk m c 0 t) (iblk m c 1 t)

/-- Every point of a run reads the same rows. -/
theorem XB_eq (c : Dev nD) (t s : Fin cfg0.N) (h : t.val / 7 = s.val / 7) : XB m c t = XB m c s := by
  have e0 : iblk m c 0 t = iblk m c 0 s := by
    funext y; blk_ext [iblk, V, idx t, idx s]
  have e1 : iblk m c 1 t = iblk m c 1 s := by
    funext y; blk_ext [iblk, V, idx t, idx s]
  rw [XB, XB, e0, e1]

/-- Case A leaves the normalized rows in the scratch. -/
theorem sA (c : Dev nD) (t : Fin cfg0.N) (h0 : t.val % 7 = 0) :
    (outsAt0 m c t.val t.isLt).2 = XB m c t := by
  rw [outsAt0_A m c t h0]; frame_out

theorem sB (c : Dev nD) (t : Fin cfg0.N) (h0 : ¬ t.val % 7 = 0) :
    (outsAt0 m c t.val t.isLt).2 = (outsAt0 m c (t.val - 1) (Nat.lt_of_le_of_lt (Nat.sub_le _ _) t.isLt)).2 := by
  rw [outsAt0_B m c t h0]; rfl

/-- At every point the scratch holds the normalized rows of the point's block. -/
theorem scr (c : Dev nD) : ∀ (n : Nat) (h : n < cfg0.N), (outsAt0 m c n h).2 = XB m c ⟨n, h⟩
  | n, h => by
    by_cases h0 : n % 7 = 0
    · exact sA m c ⟨n, h⟩ h0
    · rw [sB m c ⟨n, h⟩ h0, scr c (n - 1)]
      exact XB_eq m c _ _ (show (n - 1) / 7 = n / 7 by omega)
  termination_by n => n
  decreasing_by omega

/-- At every point the output's block is the rows' product with the point's columns. -/
theorem out (c : Dev nD) (t : Fin cfg0.N) :
    (outsAt0 m c t.val t.isLt).1 = k0_pay2 (XB m c t) (iblk m c 2 t) := by
  by_cases h0 : t.val % 7 = 0
  · rw [outsAt0_A m c t h0]; frame_out
  · rw [outsAt0_B m c t h0]; frame_out
    simp only [read_unread_whole]
    rw [scr m c, XB_eq m c _ t (show (t.val - 1) / 7 = t.val / 7 by omega)]

/-- The host's layout of the gain. -/
def G0 (G : FVec Ideal S4x2048 .f32) : FVec Ideal S4x1x2048 .f32 :=
  broadcastInDim S4x1x2048 ![0, 2] bcast_S4x2048_S4x1x2048_0_2 G

theorem G0_at (G : FVec Ideal S4x2048 .f32) (p : Fin 4) (k : Fin 2048) : G0 G (ix3 p 0 k) = G (ix2 p k) := by
  pointwise [G0]

theorem V0g (c : Dev nD) : V m c main_v0 = G0 (m ((c : Thread nD τ).loc main_arg1)) := by
  show StableHlo.after hostOps0 (fun b => m (c, b)) main_v0 = _
  after_results <;> rfl

theorem g_at (c : Dev nD) (t : Fin cfg0.N) (k : Fin 2048) : iblk m c 1 t (ix3 0 0 k) = m ((c : Thread nD τ).loc main_arg1) (ix2 0 k) := by
  rw [← G0_at (m ((c : Thread nD τ).loc main_arg1)) 0 k, ← V0g m c]
  blk_ext [iblk, idx t]

/-- The reference's normalized row is the block's. -/
theorem norm_at (c : Dev nD) (t : Fin cfg0.N) (r : Fin 1024) (k : Fin 2048) (hl : t.val / 7 * 1024 + r.val < 9216) :
    XB m c t (ix2 r k) = NORM (m ((c : Thread nD τ).loc main_arg0)) (m ((c : Thread nD τ).loc main_arg1))
      (ix2 ⟨t.val / 7 * 1024 + r.val, hl⟩ k) := by
  pointwise [XB, k0_pay1, NORM]
  rw [g_at m c t k]
  blk_point [iblk, V, V0, idx t]

/-- The host's stacking of the weight's rows in the layer's order, the last rows zeros. -/
def fn16 {F : FTy → Type} [FloatOps F] : (main_v4 : Ref sig .tc).ty.Contents (Elt F) → (main_v5 : Ref sig .tc).ty.Contents (Elt F) → (main_v6 : Ref sig .tc).ty.Contents (Elt F) → (main_v8 : Ref sig .tc).ty.Contents (Elt F) → (main_v9 : Ref sig .tc).ty.Contents (Elt F) → (main_v10 : Ref sig .tc).ty.Contents (Elt F) → (main_v11 : Ref sig .tc).ty.Contents (Elt F) → (main_v12 : Ref sig .tc).ty.Contents (Elt F) → (main_v2 : Ref sig .tc).ty.Contents (Elt F) → (main_v3 : Ref sig .tc).ty.Contents (Elt F) → (main_v13 : Ref sig .tc).ty.Contents (Elt F) → (main_v7 : Ref sig .tc).ty.Contents (Elt F) → (main_v14 : Ref sig .tc).ty.Contents (Elt F) → (main_v15 : Ref sig .tc).ty.Contents (Elt F) → (main_v16 : Ref sig .tc).ty.Contents (Elt F) :=
  fun u0 u1 u2 u3 u4 u5 u6 u7 u8 u9 u10 u11 u12 u13 => (concatenate S4x5376x2048 1 [⟨S4x384x2048, (u0 : (⟨S4x384x2048, .f32⟩ : BufTy).Contents (Elt F))⟩, ⟨S4x384x2048, (u1 : (⟨S4x384x2048, .f32⟩ : BufTy).Contents (Elt F))⟩, ⟨S4x768x2048, (u2 : (⟨S4x768x2048, .f32⟩ : BufTy).Contents (Elt F))⟩, ⟨S4x768x2048, (u3 : (⟨S4x768x2048, .f32⟩ : BufTy).Contents (Elt F))⟩, ⟨S4x768x2048, (u4 : (⟨S4x768x2048, .f32⟩ : BufTy).Contents (Elt F))⟩, ⟨S4x256x2048, (u5 : (⟨S4x256x2048, .f32⟩ : BufTy).Contents (Elt F))⟩, ⟨S4x256x2048, (u6 : (⟨S4x256x2048, .f32⟩ : BufTy).Contents (Elt F))⟩, ⟨S4x512x2048, (u7 : (⟨S4x512x2048, .f32⟩ : BufTy).Contents (Elt F))⟩, ⟨S4x512x2048, (u8 : (⟨S4x512x2048, .f32⟩ : BufTy).Contents (Elt F))⟩, ⟨S4x512x2048, (u9 : (⟨S4x512x2048, .f32⟩ : BufTy).Contents (Elt F))⟩, ⟨S4x64x2048, (u10 : (⟨S4x64x2048, .f32⟩ : BufTy).Contents (Elt F))⟩, ⟨S4x16x2048, (u11 : (⟨S4x16x2048, .f32⟩ : BufTy).Contents (Elt F))⟩, ⟨S4x8x2048, (u12 : (⟨S4x8x2048, .f32⟩ : BufTy).Contents (Elt F))⟩, ⟨S4x168x2048, (u13 : (⟨S4x168x2048, .f32⟩ : BufTy).Contents (Elt F))⟩] concatenates_S4x384x2048_S4x384x2048_S4x768x2048_S4x768x2048_S4x768x2048_S4x256x2048_S4x256x2048_S4x512x2048_S4x512x2048_S4x512x2048_S4x64x2048_S4x16x2048_S4x8x2048_S4x168x2048_S4x5376x2048_d1 : (⟨S4x5376x2048, .f32⟩ : BufTy).Contents (Elt F))

/-- The host's operations before the call, its stacking named. -/
abbrev hops {F : FTy → Type} [FloatOps F] : List (HloOp τ sig (Elt F)) :=
  [ StableHlo.unary main_arg1 main_v0 (broadcastInDim S4x1x2048 ![0, 2] bcast_S4x2048_S4x1x2048_0_2 : (⟨S4x2048, .f32⟩ : BufTy).Contents (Elt F) → (⟨S4x1x2048, .f32⟩ : BufTy).Contents (Elt F)),
    StableHlo.unary main_arg2 main_v1 ((transpose S4x5208x2048 [0, 2, 1] · transposes_S4x2048x5208_S4x5208x2048_0_2_1) : (⟨S4x2048x5208, .f32⟩ : BufTy).Contents (Elt F) → (⟨S4x5208x2048, .f32⟩ : BufTy).Contents (Elt F)),
    StableHlo.unary main_v1 main_v2 ((extractStridedSlice S4x512x2048 ![0, 0, 0] · slices_S4x5208x2048_S4x512x2048_0_0_0) : (⟨S4x5208x2048, .f32⟩ : BufTy).Contents (Elt F) → (⟨S4x512x2048, .f32⟩ : BufTy).Contents (Elt F)),
    StableHlo.unary main_v1 main_v3 ((extractStridedSlice S4x512x2048 ![0, 512, 0] · slices_S4x5208x2048_S4x512x2048_0_512_0) : (⟨S4x5208x2048, .f32⟩ : BufTy).Contents (Elt F) → (⟨S4x512x2048, .f32⟩ : BufTy).Contents (Elt F)),
    StableHlo.unary main_v1 main_v4 ((extractStridedSlice S4x384x2048 ![0, 1024, 0] · slices_S4x5208x2048_S4x384x2048_0_1024_0) : (⟨S4x5208x2048, .f32⟩ : BufTy).Contents (Elt F) → (⟨S4x384x2048, .f32⟩ : BufTy).Contents (Elt F)),
    StableHlo.unary main_v1 main_v5 ((extractStridedSlice S4x384x2048 ![0, 1408, 0] · slices_S4x5208x2048_S4x384x2048_0_1408_0) : (⟨S4x5208x2048, .f32⟩ : BufTy).Contents (Elt F) → (⟨S4x384x2048, .f32⟩ : BufTy).Contents (Elt F)),
    StableHlo.unary main_v1 main_v6 ((extractStridedSlice S4x768x2048 ![0, 1792, 0] · slices_S4x5208x2048_S4x768x2048_0_1792_0) : (⟨S4x5208x2048, .f32⟩ : BufTy).Contents (Elt F) → (⟨S4x768x2048, .f32⟩ : BufTy).Contents (Elt F)),
    StableHlo.unary main_v1 main_v7 ((extractStridedSlice S4x16x2048 ![0, 2560, 0] · slices_S4x5208x2048_S4x16x2048_0_2560_0) : (⟨S4x5208x2048, .f32⟩ : BufTy).Contents (Elt F) → (⟨S4x16x2048, .f32⟩ : BufTy).Contents (Elt F)),
    StableHlo.unary main_v1 main_v8 ((extractStridedSlice S4x768x2048 ![0, 2576, 0] · slices_S4x5208x2048_S4x768x2048_0_2576_0) : (⟨S4x5208x2048, .f32⟩ : BufTy).Contents (Elt F) → (⟨S4x768x2048, .f32⟩ : BufTy).Contents (Elt F)),
    StableHlo.unary main_v1 main_v9 ((extractStridedSlice S4x768x2048 ![0, 3344, 0] · slices_S4x5208x2048_S4x768x2048_0_3344_0) : (⟨S4x5208x2048, .f32⟩ : BufTy).Contents (Elt F) → (⟨S4x768x2048, .f32⟩ : BufTy).Contents (Elt F)),
    StableHlo.unary main_v1 main_v10 ((extractStridedSlice S4x256x2048 ![0, 4112, 0] · slices_S4x5208x2048_S4x256x2048_0_4112_0) : (⟨S4x5208x2048, .f32⟩ : BufTy).Contents (Elt F) → (⟨S4x256x2048, .f32⟩ : BufTy).Contents (Elt F)),
    StableHlo.unary main_v1 main_v11 ((extractStridedSlice S4x256x2048 ![0, 4368, 0] · slices_S4x5208x2048_S4x256x2048_0_4368_0) : (⟨S4x5208x2048, .f32⟩ : BufTy).Contents (Elt F) → (⟨S4x256x2048, .f32⟩ : BufTy).Contents (Elt F)),
    StableHlo.unary main_v1 main_v12 ((extractStridedSlice S4x512x2048 ![0, 4624, 0] · slices_S4x5208x2048_S4x512x2048_0_4624_0) : (⟨S4x5208x2048, .f32⟩ : BufTy).Contents (Elt F) → (⟨S4x512x2048, .f32⟩ : BufTy).Contents (Elt F)),
    StableHlo.unary main_v1 main_v13 ((extractStridedSlice S4x64x2048 ![0, 5136, 0] · slices_S4x5208x2048_S4x64x2048_0_5136_0) : (⟨S4x5208x2048, .f32⟩ : BufTy).Contents (Elt F) → (⟨S4x64x2048, .f32⟩ : BufTy).Contents (Elt F)),
    StableHlo.unary main_v1 main_v14 ((extractStridedSlice S4x8x2048 ![0, 5200, 0] · slices_S4x5208x2048_S4x8x2048_0_5200_0) : (⟨S4x5208x2048, .f32⟩ : BufTy).Contents (Elt F) → (⟨S4x8x2048, .f32⟩ : BufTy).Contents (Elt F)),
    StableHlo.nullary main_cst (constant S_ .f32 0x00000000#32),
    StableHlo.unary main_cst main_v15 (broadcastInDim S4x168x2048 ![] bcast_S_S4x168x2048 : (⟨S_, .f32⟩ : BufTy).Contents (Elt F) → (⟨S4x168x2048, .f32⟩ : BufTy).Contents (Elt F)),
    StableHlo.nary ![main_v4, main_v5, main_v6, main_v8, main_v9, main_v10, main_v11, main_v12, main_v2, main_v3, main_v13, main_v7, main_v14, main_v15] main_v16 (fun u => fn16 (F := F) (u 0) (u 1) (u 2) (u 3) (u 4) (u 5) (u 6) (u 7) (u 8) (u 9) (u 10) (u 11) (u 12) (u 13)),
    StableHlo.unary main_v16 main_v17 ((truncf .bf16 · bitsLt_bf16_f32) : (⟨S4x5376x2048, .f32⟩ : BufTy).Contents (Elt F) → (⟨S4x5376x2048, .bf16⟩ : BufTy).Contents (Elt F)) ]

theorem hops_eq {F : FTy → Type} [FloatOps F] : (hostOps0 : List (HloOp τ sig (Elt F))) = hops := rfl

/-- The weight the call reads: transposed, its rows in the layer's order. -/
def W17 (U : FVec Ideal S4x2048x5208 .f32) : FVec Ideal S4x5376x2048 .bf16 :=
  (truncf .bf16 (fn16 (F := Ideal) (extractStridedSlice S4x384x2048 ![0, 1024, 0] (transpose S4x5208x2048 [0, 2, 1] U transposes_S4x2048x5208_S4x5208x2048_0_2_1) slices_S4x5208x2048_S4x384x2048_0_1024_0) (extractStridedSlice S4x384x2048 ![0, 1408, 0] (transpose S4x5208x2048 [0, 2, 1] U transposes_S4x2048x5208_S4x5208x2048_0_2_1) slices_S4x5208x2048_S4x384x2048_0_1408_0) (extractStridedSlice S4x768x2048 ![0, 1792, 0] (transpose S4x5208x2048 [0, 2, 1] U transposes_S4x2048x5208_S4x5208x2048_0_2_1) slices_S4x5208x2048_S4x768x2048_0_1792_0) (extractStridedSlice S4x768x2048 ![0, 2576, 0] (transpose S4x5208x2048 [0, 2, 1] U transposes_S4x2048x5208_S4x5208x2048_0_2_1) slices_S4x5208x2048_S4x768x2048_0_2576_0) (extractStridedSlice S4x768x2048 ![0, 3344, 0] (transpose S4x5208x2048 [0, 2, 1] U transposes_S4x2048x5208_S4x5208x2048_0_2_1) slices_S4x5208x2048_S4x768x2048_0_3344_0) (extractStridedSlice S4x256x2048 ![0, 4112, 0] (transpose S4x5208x2048 [0, 2, 1] U transposes_S4x2048x5208_S4x5208x2048_0_2_1) slices_S4x5208x2048_S4x256x2048_0_4112_0) (extractStridedSlice S4x256x2048 ![0, 4368, 0] (transpose S4x5208x2048 [0, 2, 1] U transposes_S4x2048x5208_S4x5208x2048_0_2_1) slices_S4x5208x2048_S4x256x2048_0_4368_0) (extractStridedSlice S4x512x2048 ![0, 4624, 0] (transpose S4x5208x2048 [0, 2, 1] U transposes_S4x2048x5208_S4x5208x2048_0_2_1) slices_S4x5208x2048_S4x512x2048_0_4624_0) (extractStridedSlice S4x512x2048 ![0, 0, 0] (transpose S4x5208x2048 [0, 2, 1] U transposes_S4x2048x5208_S4x5208x2048_0_2_1) slices_S4x5208x2048_S4x512x2048_0_0_0) (extractStridedSlice S4x512x2048 ![0, 512, 0] (transpose S4x5208x2048 [0, 2, 1] U transposes_S4x2048x5208_S4x5208x2048_0_2_1) slices_S4x5208x2048_S4x512x2048_0_512_0) (extractStridedSlice S4x64x2048 ![0, 5136, 0] (transpose S4x5208x2048 [0, 2, 1] U transposes_S4x2048x5208_S4x5208x2048_0_2_1) slices_S4x5208x2048_S4x64x2048_0_5136_0) (extractStridedSlice S4x16x2048 ![0, 2560, 0] (transpose S4x5208x2048 [0, 2, 1] U transposes_S4x2048x5208_S4x5208x2048_0_2_1) slices_S4x5208x2048_S4x16x2048_0_2560_0) (extractStridedSlice S4x8x2048 ![0, 5200, 0] (transpose S4x5208x2048 [0, 2, 1] U transposes_S4x2048x5208_S4x5208x2048_0_2_1) slices_S4x5208x2048_S4x8x2048_0_5200_0) (broadcastInDim S4x168x2048 ![] bcast_S_S4x168x2048 (constant (F := Ideal) S_ .f32 0x00000000#32)) : FVec Ideal S4x5376x2048 .f32) bitsLt_bf16_f32)

set_option maxHeartbeats 2000000 in
theorem V17 (c : Dev nD) : V m c main_v17 = W17 (m ((c : Thread nD τ).loc main_arg2)) := by
  show StableHlo.after hostOps0 (fun b => m (c, b)) main_v17 = _
  rw [hops_eq]
  after_results <;> rfl

/-- Column `n` of the layer's order is one of the weight's columns, or past them. -/
def lad (n : Fin 5376) (f : Fin 5208 → EReal) : EReal :=
  if h : n.val < 384 then f ⟨1024 + n.val, by omega⟩ else
  if h : n.val - 384 < 384 then f ⟨1408 + (n.val - 384), by omega⟩ else
  if h : n.val - 384 - 384 < 768 then f ⟨1792 + (n.val - 384 - 384), by omega⟩ else
  if h : n.val - 384 - 384 - 768 < 768 then f ⟨2576 + (n.val - 384 - 384 - 768), by omega⟩ else
  if h : n.val - 384 - 384 - 768 - 768 < 768 then f ⟨3344 + (n.val - 384 - 384 - 768 - 768), by omega⟩ else
  if h : n.val - 384 - 384 - 768 - 768 - 768 < 256 then f ⟨4112 + (n.val - 384 - 384 - 768 - 768 - 768), by omega⟩ else
  if h : n.val - 384 - 384 - 768 - 768 - 768 - 256 < 256 then f ⟨4368 + (n.val - 384 - 384 - 768 - 768 - 768 - 256), by omega⟩ else
  if h : n.val - 384 - 384 - 768 - 768 - 768 - 256 - 256 < 512 then f ⟨4624 + (n.val - 384 - 384 - 768 - 768 - 768 - 256 - 256), by omega⟩ else
  if h : n.val - 384 - 384 - 768 - 768 - 768 - 256 - 256 - 512 < 512 then f ⟨n.val - 384 - 384 - 768 - 768 - 768 - 256 - 256 - 512, by omega⟩ else
  if h : n.val - 384 - 384 - 768 - 768 - 768 - 256 - 256 - 512 - 512 < 512 then f ⟨512 + (n.val - 384 - 384 - 768 - 768 - 768 - 256 - 256 - 512 - 512), by omega⟩ else
  if h : n.val - 384 - 384 - 768 - 768 - 768 - 256 - 256 - 512 - 512 - 512 < 64 then f ⟨5136 + (n.val - 384 - 384 - 768 - 768 - 768 - 256 - 256 - 512 - 512 - 512), by omega⟩ else
  if h : n.val - 384 - 384 - 768 - 768 - 768 - 256 - 256 - 512 - 512 - 512 - 64 < 16 then f ⟨2560 + (n.val - 384 - 384 - 768 - 768 - 768 - 256 - 256 - 512 - 512 - 512 - 64), by omega⟩ else
  if h : n.val - 384 - 384 - 768 - 768 - 768 - 256 - 256 - 512 - 512 - 512 - 64 - 16 < 8 then f ⟨5200 + (n.val - 384 - 384 - 768 - 768 - 768 - 256 - 256 - 512 - 512 - 512 - 64 - 16), by omega⟩ else
  0

theorem W17_at (U : FVec Ideal S4x2048x5208 .f32) (n : Fin 5376) (k : Fin 2048) : W17 U (ix3 0 n k) = lad n (fun s => U (ix3 0 k s)) := by
  pointwise [W17, fn16]
  rfl

theorem REF_at (X G U) (r : Fin 9216) (n : Fin 5376) : REF X G U (ix2 r n) = lad n (fun s => PROJ X G U (ix2 r s)) := by
  pointwise [REF]
  rfl

/-- A function of a row's entries that is one of the entries, or zero. -/
def Sel (L : (Fin 5208 → EReal) → EReal) : Prop := (∃ s, ∀ f, L f = f s) ∨ ∀ f, L f = 0

theorem sel_ite {p : Prop} [Decidable p] (s : p → Fin 5208) {R : (Fin 5208 → EReal) → EReal} (hR : Sel R) :
    Sel fun f => if h : p then f (s h) else R f := by
  by_cases h : p
  · exact Or.inl ⟨s h, fun f => dif_pos h⟩
  · rcases hR with ⟨q, hq⟩ | hz
    · exact Or.inl ⟨q, fun f => (dif_neg h).trans (hq f)⟩
    · exact Or.inr fun f => (dif_neg h).trans (hz f)

theorem lad_sel (n : Fin 5376) : Sel (lad n) := by
  show Sel fun f => lad n f
  unfold lad
  iterate 13 refine sel_ite _ ?_
  exact Or.inr fun _ => rfl

theorem lad_sum (n : Fin 5376) (a : Fin 2048 → EReal) (f : Fin 2048 → Fin 5208 → EReal) :
    ∑ k, a k * lad n (f k) = lad n (fun s => ∑ k, a k * f k s) := by
  rcases lad_sel n with ⟨s, hs⟩ | hz
  · rw [hs]
    exact Finset.sum_congr rfl fun k _ => by rw [hs]
  · rw [hz]
    exact Finset.sum_eq_zero fun k _ => by rw [hz, mul_zero]

theorem mul_eq {a a' w w' : EReal} (ha : a = a') (hw : w = w') : a * w = a' * w' := by
  rw [ha, hw]

/-- The block of the weight's rows a point reads. -/
theorem w_at (c : Dev nD) (t : Fin cfg0.N) (j : Fin 768) (k : Fin 2048) (hn : t.val % 7 * 768 + j.val < 5376) :
    iblk m c 2 t (ix3 0 j k) = lad ⟨t.val % 7 * 768 + j.val, hn⟩ (fun s => m ((c : Thread nD τ).loc main_arg2) (ix3 0 k s)) := by
  rw [← W17_at, ← V17 m c]
  blk_ext [iblk, idx t]

/-- The array the kernel leaves is the reference's term of the arguments. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 63 := lt_of_lt_of_eq t.isLt (by decide +kernel)
  have hy0 : (y 0).val < 1024 := (y 0).isLt
  have hy1 : (y 1).val < 768 := (y 1).isLt
  have hl : t.val / 7 * 1024 + (y 0).val < 9216 := by omega
  have hn : t.val % 7 * 768 + (y 1).val < 5376 := by omega
  have he : ((cfg0.win 3).blk t).view.emb y = ix2 ⟨t.val / 7 * 1024 + (y 0).val, hl⟩ ⟨t.val % 7 * 768 + (y 1).val, hn⟩ := by
    funext d
    match d with
    | 0 => exact Fin.ext (by blk_simp [idx t])
    | 1 => exact Fin.ext (by blk_simp [idx t])
  blk_simp
  rw [after0_3, out m c t, pay2_at, he, REF_at]
  simp only [PROJ_at]
  refine Eq.trans ?_ (lad_sum _ (fun k => NORM _ _ (ix2 _ k)) (fun k s => m ((c : Thread nD τ).loc main_arg2) (ix3 0 k s)))
  exact Fin.sum_fin_congr fun k => mul_eq (norm_at m c t ⟨(y 0).val, hy0⟩ k hl) (w_at m c t ⟨(y 1).val, hy1⟩ k hn)

theorem inj : Function.Injective (Pipeline.arrRef spec0) := by decide

/-- After the region the projected array is the one the kernel leaves. -/
theorem at18 (c : Dev nD) : Pipeline.withArrays spec0 c (V0 m c) (fun w => (dats m 0 c).arrAt w cfg0.N) (Proc.devRef .tc main_v18) = (dats m 0 c).arrAt 3 cfg0.N :=
  Pipeline.withArrays_arr spec0 inj c (V0 m c) (fun w => (dats m 0 c).arrAt w cfg0.N) 3

theorem tail21 (c : Dev nD) : Pipeline.afterTail₀ cfgs (dats m) 0 (V0 m) [hostOps1] c main_v21
    = extractStridedSlice S8192x256 ![0, 3072] (extractStridedSlice S8192x5376 ![0, 0] ((dats m 0 c).arrAt 3 cfg0.N) slices_S9216x5376_S8192x5376_0_0) slices_S8192x5376_S8192x256_0_3072 := by
  refine Eq.trans (b := extractStridedSlice S8192x256 ![0, 3072] (extractStridedSlice S8192x5376 ![0, 0] (Pipeline.withArrays spec0 c (V0 m c) (fun w => (dats m 0 c).arrAt w cfg0.N) (Proc.devRef .tc main_v18)) slices_S9216x5376_S8192x5376_0_0) slices_S8192x5376_S8192x256_0_3072) ?_ ?_
  · show StableHlo.after hostOps1 _ (Proc.devRef .tc main_v21) = _
    after_results
  · rw [at18]

theorem tail22 (c : Dev nD) : Pipeline.afterTail₀ cfgs (dats m) 0 (V0 m) [hostOps1] c main_v22
    = extractStridedSlice S8192x256 ![0, 3328] (extractStridedSlice S8192x5376 ![0, 0] ((dats m 0 c).arrAt 3 cfg0.N) slices_S9216x5376_S8192x5376_0_0) slices_S8192x5376_S8192x256_0_3328 := by
  refine Eq.trans (b := extractStridedSlice S8192x256 ![0, 3328] (extractStridedSlice S8192x5376 ![0, 0] (Pipeline.withArrays spec0 c (V0 m c) (fun w => (dats m 0 c).arrAt w cfg0.N) (Proc.devRef .tc main_v18)) slices_S9216x5376_S8192x5376_0_0) slices_S8192x5376_S8192x256_0_3328) ?_ ?_
  · show StableHlo.after hostOps1 _ (Proc.devRef .tc main_v22) = _
    after_results
  · rw [at18]

theorem tail23 (c : Dev nD) : Pipeline.afterTail₀ cfgs (dats m) 0 (V0 m) [hostOps1] c main_v23
    = extractStridedSlice S8192x64 ![0, 5120] (extractStridedSlice S8192x5376 ![0, 0] ((dats m 0 c).arrAt 3 cfg0.N) slices_S9216x5376_S8192x5376_0_0) slices_S8192x5376_S8192x64_0_5120 := by
  refine Eq.trans (b := extractStridedSlice S8192x64 ![0, 5120] (extractStridedSlice S8192x5376 ![0, 0] (Pipeline.withArrays spec0 c (V0 m c) (fun w => (dats m 0 c).arrAt w cfg0.N) (Proc.devRef .tc main_v18)) slices_S9216x5376_S8192x5376_0_0) slices_S8192x5376_S8192x64_0_5120) ?_ ?_
  · show StableHlo.after hostOps1 _ (Proc.devRef .tc main_v23) = _
    after_results
  · rw [at18]

theorem tail24 (c : Dev nD) : Pipeline.afterTail₀ cfgs (dats m) 0 (V0 m) [hostOps1] c main_v24
    = extractStridedSlice S1024x256 ![0, 3072] (extractStridedSlice S1024x5376 ![8192, 0] ((dats m 0 c).arrAt 3 cfg0.N) slices_S9216x5376_S1024x5376_8192_0) slices_S1024x5376_S1024x256_0_3072 := by
  refine Eq.trans (b := extractStridedSlice S1024x256 ![0, 3072] (extractStridedSlice S1024x5376 ![8192, 0] (Pipeline.withArrays spec0 c (V0 m c) (fun w => (dats m 0 c).arrAt w cfg0.N) (Proc.devRef .tc main_v18)) slices_S9216x5376_S1024x5376_8192_0) slices_S1024x5376_S1024x256_0_3072) ?_ ?_
  · show StableHlo.after hostOps1 _ (Proc.devRef .tc main_v24) = _
    after_results
  · rw [at18]

theorem tail25 (c : Dev nD) : Pipeline.afterTail₀ cfgs (dats m) 0 (V0 m) [hostOps1] c main_v25
    = extractStridedSlice S1024x256 ![0, 3328] (extractStridedSlice S1024x5376 ![8192, 0] ((dats m 0 c).arrAt 3 cfg0.N) slices_S9216x5376_S1024x5376_8192_0) slices_S1024x5376_S1024x256_0_3328 := by
  refine Eq.trans (b := extractStridedSlice S1024x256 ![0, 3328] (extractStridedSlice S1024x5376 ![8192, 0] (Pipeline.withArrays spec0 c (V0 m c) (fun w => (dats m 0 c).arrAt w cfg0.N) (Proc.devRef .tc main_v18)) slices_S9216x5376_S1024x5376_8192_0) slices_S1024x5376_S1024x256_0_3328) ?_ ?_
  · show StableHlo.after hostOps1 _ (Proc.devRef .tc main_v25) = _
    after_results
  · rw [at18]

theorem tail26 (c : Dev nD) : Pipeline.afterTail₀ cfgs (dats m) 0 (V0 m) [hostOps1] c main_v26
    = extractStridedSlice S1024x64 ![0, 5120] (extractStridedSlice S1024x5376 ![8192, 0] ((dats m 0 c).arrAt 3 cfg0.N) slices_S9216x5376_S1024x5376_8192_0) slices_S1024x5376_S1024x64_0_5120 := by
  refine Eq.trans (b := extractStridedSlice S1024x64 ![0, 5120] (extractStridedSlice S1024x5376 ![8192, 0] (Pipeline.withArrays spec0 c (V0 m c) (fun w => (dats m 0 c).arrAt w cfg0.N) (Proc.devRef .tc main_v18)) slices_S9216x5376_S1024x5376_8192_0) slices_S1024x5376_S1024x64_0_5120) ?_ ?_
  · show StableHlo.after hostOps1 _ (Proc.devRef .tc main_v26) = _
    after_results
  · rw [at18]

theorem lad_k (n : Fin 5376) (h0 : 3072 ≤ n.val) (h1 : n.val < 3328) (f : Fin 5208 → EReal) : lad n f = f ⟨4112 + (n.val - 3072), by omega⟩ := by
  unfold lad
  iterate 5 rw [dif_neg (by omega)]
  rw [dif_pos (by omega)]
  exact congrArg f (Fin.ext (by simp only; omega))

theorem lad_v (n : Fin 5376) (h0 : 3328 ≤ n.val) (h1 : n.val < 3584) (f : Fin 5208 → EReal) : lad n f = f ⟨4368 + (n.val - 3328), by omega⟩ := by
  unfold lad
  iterate 6 rw [dif_neg (by omega)]
  rw [dif_pos (by omega)]
  exact congrArg f (Fin.ext (by simp only; omega))

theorem lad_i (n : Fin 5376) (h0 : 5120 ≤ n.val) (h1 : n.val < 5184) (f : Fin 5208 → EReal) : lad n f = f ⟨5136 + (n.val - 5120), by omega⟩ := by
  unfold lad
  iterate 10 rw [dif_neg (by omega)]
  rw [dif_pos (by omega)]
  exact congrArg f (Fin.ext (by simp only; omega))

/-- Result 1 of the reference. -/
def COL21 (X : FVec Ideal S9216x2048 .f32) (G : FVec Ideal S4x2048 .f32) (U : FVec Ideal S4x2048x5208 .f32) : FVec Ideal S8192x256 .f32 :=
  extractStridedSlice S8192x256 ![0, 0] (extractStridedSlice Cert.InprojRefIdeal.S9216x256 ![0, 4112] (PROJ X G U) Cert.InprojRefIdeal.Gen.slices_S9216x5208_S9216x256_0_4112) Cert.InprojRefIdeal.Gen.slices_S9216x256_S8192x256_0_0

theorem col21 (X : FVec Ideal S9216x2048 .f32) (G : FVec Ideal S4x2048 .f32) (U : FVec Ideal S4x2048x5208 .f32) :
    extractStridedSlice S8192x256 ![0, 3072] (extractStridedSlice S8192x5376 ![0, 0] (REF X G U) slices_S9216x5376_S8192x5376_0_0) slices_S8192x5376_S8192x256_0_3072 = COL21 X G U := by
  funext i
  obtain ⟨a, b, rfl⟩ : ∃ (a : Fin 8192) (b : Fin 256), i = ix2 a b := ⟨i 0, i 1, eq_ix2 i⟩
  pointwise [COL21]
  rw [REF_at, lad_k _ (by simp only; omega) (by simp only; omega)]
  exact congrArg (fun s => PROJ X G U (ix2 _ s)) (Fin.ext (by simp only; omega))

/-- Result 2 of the reference. -/
def COL22 (X : FVec Ideal S9216x2048 .f32) (G : FVec Ideal S4x2048 .f32) (U : FVec Ideal S4x2048x5208 .f32) : FVec Ideal S8192x256 .f32 :=
  extractStridedSlice S8192x256 ![0, 0] (extractStridedSlice Cert.InprojRefIdeal.S9216x256 ![0, 4368] (PROJ X G U) Cert.InprojRefIdeal.Gen.slices_S9216x5208_S9216x256_0_4368) Cert.InprojRefIdeal.Gen.slices_S9216x256_S8192x256_0_0

theorem col22 (X : FVec Ideal S9216x2048 .f32) (G : FVec Ideal S4x2048 .f32) (U : FVec Ideal S4x2048x5208 .f32) :
    extractStridedSlice S8192x256 ![0, 3328] (extractStridedSlice S8192x5376 ![0, 0] (REF X G U) slices_S9216x5376_S8192x5376_0_0) slices_S8192x5376_S8192x256_0_3328 = COL22 X G U := by
  funext i
  obtain ⟨a, b, rfl⟩ : ∃ (a : Fin 8192) (b : Fin 256), i = ix2 a b := ⟨i 0, i 1, eq_ix2 i⟩
  pointwise [COL22]
  rw [REF_at, lad_v _ (by simp only; omega) (by simp only; omega)]
  exact congrArg (fun s => PROJ X G U (ix2 _ s)) (Fin.ext (by simp only; omega))

/-- Result 3 of the reference. -/
def COL23 (X : FVec Ideal S9216x2048 .f32) (G : FVec Ideal S4x2048 .f32) (U : FVec Ideal S4x2048x5208 .f32) : FVec Ideal S8192x64 .f32 :=
  extractStridedSlice S8192x64 ![0, 0] (extractStridedSlice Cert.InprojRefIdeal.S9216x64 ![0, 5136] (PROJ X G U) Cert.InprojRefIdeal.Gen.slices_S9216x5208_S9216x64_0_5136) Cert.InprojRefIdeal.Gen.slices_S9216x64_S8192x64_0_0

theorem col23 (X : FVec Ideal S9216x2048 .f32) (G : FVec Ideal S4x2048 .f32) (U : FVec Ideal S4x2048x5208 .f32) :
    extractStridedSlice S8192x64 ![0, 5120] (extractStridedSlice S8192x5376 ![0, 0] (REF X G U) slices_S9216x5376_S8192x5376_0_0) slices_S8192x5376_S8192x64_0_5120 = COL23 X G U := by
  funext i
  obtain ⟨a, b, rfl⟩ : ∃ (a : Fin 8192) (b : Fin 64), i = ix2 a b := ⟨i 0, i 1, eq_ix2 i⟩
  pointwise [COL23]
  rw [REF_at, lad_i _ (by simp only; omega) (by simp only; omega)]
  exact congrArg (fun s => PROJ X G U (ix2 _ s)) (Fin.ext (by simp only; omega))

/-- Result 4 of the reference. -/
def COL24 (X : FVec Ideal S9216x2048 .f32) (G : FVec Ideal S4x2048 .f32) (U : FVec Ideal S4x2048x5208 .f32) : FVec Ideal S1024x256 .f32 :=
  extractStridedSlice S1024x256 ![8192, 0] (extractStridedSlice Cert.InprojRefIdeal.S9216x256 ![0, 4112] (PROJ X G U) Cert.InprojRefIdeal.Gen.slices_S9216x5208_S9216x256_0_4112) Cert.InprojRefIdeal.Gen.slices_S9216x256_S1024x256_8192_0

theorem col24 (X : FVec Ideal S9216x2048 .f32) (G : FVec Ideal S4x2048 .f32) (U : FVec Ideal S4x2048x5208 .f32) :
    extractStridedSlice S1024x256 ![0, 3072] (extractStridedSlice S1024x5376 ![8192, 0] (REF X G U) slices_S9216x5376_S1024x5376_8192_0) slices_S1024x5376_S1024x256_0_3072 = COL24 X G U := by
  funext i
  obtain ⟨a, b, rfl⟩ : ∃ (a : Fin 1024) (b : Fin 256), i = ix2 a b := ⟨i 0, i 1, eq_ix2 i⟩
  pointwise [COL24]
  rw [REF_at, lad_k _ (by simp only; omega) (by simp only; omega)]
  exact congrArg (fun s => PROJ X G U (ix2 _ s)) (Fin.ext (by simp only; omega))

/-- Result 5 of the reference. -/
def COL25 (X : FVec Ideal S9216x2048 .f32) (G : FVec Ideal S4x2048 .f32) (U : FVec Ideal S4x2048x5208 .f32) : FVec Ideal S1024x256 .f32 :=
  extractStridedSlice S1024x256 ![8192, 0] (extractStridedSlice Cert.InprojRefIdeal.S9216x256 ![0, 4368] (PROJ X G U) Cert.InprojRefIdeal.Gen.slices_S9216x5208_S9216x256_0_4368) Cert.InprojRefIdeal.Gen.slices_S9216x256_S1024x256_8192_0

theorem col25 (X : FVec Ideal S9216x2048 .f32) (G : FVec Ideal S4x2048 .f32) (U : FVec Ideal S4x2048x5208 .f32) :
    extractStridedSlice S1024x256 ![0, 3328] (extractStridedSlice S1024x5376 ![8192, 0] (REF X G U) slices_S9216x5376_S1024x5376_8192_0) slices_S1024x5376_S1024x256_0_3328 = COL25 X G U := by
  funext i
  obtain ⟨a, b, rfl⟩ : ∃ (a : Fin 1024) (b : Fin 256), i = ix2 a b := ⟨i 0, i 1, eq_ix2 i⟩
  pointwise [COL25]
  rw [REF_at, lad_v _ (by simp only; omega) (by simp only; omega)]
  exact congrArg (fun s => PROJ X G U (ix2 _ s)) (Fin.ext (by simp only; omega))

/-- Result 6 of the reference. -/
def COL26 (X : FVec Ideal S9216x2048 .f32) (G : FVec Ideal S4x2048 .f32) (U : FVec Ideal S4x2048x5208 .f32) : FVec Ideal S1024x64 .f32 :=
  extractStridedSlice S1024x64 ![8192, 0] (extractStridedSlice Cert.InprojRefIdeal.S9216x64 ![0, 5136] (PROJ X G U) Cert.InprojRefIdeal.Gen.slices_S9216x5208_S9216x64_0_5136) Cert.InprojRefIdeal.Gen.slices_S9216x64_S1024x64_8192_0

theorem col26 (X : FVec Ideal S9216x2048 .f32) (G : FVec Ideal S4x2048 .f32) (U : FVec Ideal S4x2048x5208 .f32) :
    extractStridedSlice S1024x64 ![0, 5120] (extractStridedSlice S1024x5376 ![8192, 0] (REF X G U) slices_S9216x5376_S1024x5376_8192_0) slices_S1024x5376_S1024x64_0_5120 = COL26 X G U := by
  funext i
  obtain ⟨a, b, rfl⟩ : ∃ (a : Fin 1024) (b : Fin 64), i = ix2 a b := ⟨i 0, i 1, eq_ix2 i⟩
  pointwise [COL26]
  rw [REF_at, lad_i _ (by simp only; omega) (by simp only; omega)]
  exact congrArg (fun s => PROJ X G U (ix2 _ s)) (Fin.ext (by simp only; omega))

/-- The kernel's run: the projected array, its six cut-outs, and the arguments as they were. -/
theorem run_cuts (ρ : Dev nD → PrngReg) : θ_run defs (onTc (τ := τ) (main (F := Ideal))) ⟨m, fun _ => 0, ρ⟩ fun r => ∀ c : Dev nD,
      r.2.mem ((c.tc : Thread nD τ).loc main_v18) = (dats m 0 c).arrAt 3 cfg0.N
      ∧ r.2.mem ((c.tc : Thread nD τ).loc main_v21) = COL21 (m ((c : Thread nD τ).loc main_arg0)) (m ((c : Thread nD τ).loc main_arg1)) (m ((c : Thread nD τ).loc main_arg2))
      ∧ r.2.mem ((c.tc : Thread nD τ).loc main_v22) = COL22 (m ((c : Thread nD τ).loc main_arg0)) (m ((c : Thread nD τ).loc main_arg1)) (m ((c : Thread nD τ).loc main_arg2))
      ∧ r.2.mem ((c.tc : Thread nD τ).loc main_v23) = COL23 (m ((c : Thread nD τ).loc main_arg0)) (m ((c : Thread nD τ).loc main_arg1)) (m ((c : Thread nD τ).loc main_arg2))
      ∧ r.2.mem ((c.tc : Thread nD τ).loc main_v24) = COL24 (m ((c : Thread nD τ).loc main_arg0)) (m ((c : Thread nD τ).loc main_arg1)) (m ((c : Thread nD τ).loc main_arg2))
      ∧ r.2.mem ((c.tc : Thread nD τ).loc main_v25) = COL25 (m ((c : Thread nD τ).loc main_arg0)) (m ((c : Thread nD τ).loc main_arg1)) (m ((c : Thread nD τ).loc main_arg2))
      ∧ r.2.mem ((c.tc : Thread nD τ).loc main_v26) = COL26 (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 3,
      ((h.1 c).2 main_v21 (Pipeline.mem_restRefs_of main_v21 (by decide) (by decide))).trans ((tail21 m c).trans (by rw [final m c]; exact col21 _ _ _)),
      ((h.1 c).2 main_v22 (Pipeline.mem_restRefs_of main_v22 (by decide) (by decide))).trans ((tail22 m c).trans (by rw [final m c]; exact col22 _ _ _)),
      ((h.1 c).2 main_v23 (Pipeline.mem_restRefs_of main_v23 (by decide) (by decide))).trans ((tail23 m c).trans (by rw [final m c]; exact col23 _ _ _)),
      ((h.1 c).2 main_v24 (Pipeline.mem_restRefs_of main_v24 (by decide) (by decide))).trans ((tail24 m c).trans (by rw [final m c]; exact col24 _ _ _)),
      ((h.1 c).2 main_v25 (Pipeline.mem_restRefs_of main_v25 (by decide) (by decide))).trans ((tail25 m c).trans (by rw [final m c]; exact col25 _ _ _)),
      ((h.1 c).2 main_v26 (Pipeline.mem_restRefs_of main_v26 (by decide) (by decide))).trans ((tail26 m c).trans (by rw [final m c]; exact col26 _ _ _)),
      h.2 c⟩) (θ_run_and (run_main m ρ) (unchanged m ρ))

/-- The reference's results on arguments that agree with the kernel's are what the kernel leaves. -/
theorem agree (m' : (ℓ : Loc Cert.InprojRefIdeal.nD Cert.InprojRefIdeal.τ Cert.InprojRefIdeal.sig) → Buf (Elt Ideal) ℓ) (c : Dev nD)
    (h : m' ((c.tc : Thread _ _).loc Cert.InprojRefIdeal.main_arg0) = m ((c.tc : Thread nD τ).loc main_arg0)
      ∧ m' ((c.tc : Thread _ _).loc Cert.InprojRefIdeal.main_arg1) = m ((c.tc : Thread nD τ).loc main_arg1)
      ∧ m' ((c.tc : Thread _ _).loc Cert.InprojRefIdeal.main_arg2) = m ((c.tc : Thread nD τ).loc main_arg2)) :
    Cert.InprojRefIdeal.Value.res_main_v32 m' c = (dats m 0 c).arrAt 3 cfg0.N
      ∧ COL21 (m' ((c.tc : Thread _ _).loc Cert.InprojRefIdeal.main_arg0)) (m' ((c.tc : Thread _ _).loc Cert.InprojRefIdeal.main_arg1)) (m' ((c.tc : Thread _ _).loc Cert.InprojRefIdeal.main_arg2)) = COL21 (m ((c : Thread nD τ).loc main_arg0)) (m ((c : Thread nD τ).loc main_arg1)) (m ((c : Thread nD τ).loc main_arg2))
      ∧ COL22 (m' ((c.tc : Thread _ _).loc Cert.InprojRefIdeal.main_arg0)) (m' ((c.tc : Thread _ _).loc Cert.InprojRefIdeal.main_arg1)) (m' ((c.tc : Thread _ _).loc Cert.InprojRefIdeal.main_arg2)) = COL22 (m ((c : Thread nD τ).loc main_arg0)) (m ((c : Thread nD τ).loc main_arg1)) (m ((c : Thread nD τ).loc main_arg2))
      ∧ COL23 (m' ((c.tc : Thread _ _).loc Cert.InprojRefIdeal.main_arg0)) (m' ((c.tc : Thread _ _).loc Cert.InprojRefIdeal.main_arg1)) (m' ((c.tc : Thread _ _).loc Cert.InprojRefIdeal.main_arg2)) = COL23 (m ((c : Thread nD τ).loc main_arg0)) (m ((c : Thread nD τ).loc main_arg1)) (m ((c : Thread nD τ).loc main_arg2))
      ∧ COL24 (m' ((c.tc : Thread _ _).loc Cert.InprojRefIdeal.main_arg0)) (m' ((c.tc : Thread _ _).loc Cert.InprojRefIdeal.main_arg1)) (m' ((c.tc : Thread _ _).loc Cert.InprojRefIdeal.main_arg2)) = COL24 (m ((c : Thread nD τ).loc main_arg0)) (m ((c : Thread nD τ).loc main_arg1)) (m ((c : Thread nD τ).loc main_arg2))
      ∧ COL25 (m' ((c.tc : Thread _ _).loc Cert.InprojRefIdeal.main_arg0)) (m' ((c.tc : Thread _ _).loc Cert.InprojRefIdeal.main_arg1)) (m' ((c.tc : Thread _ _).loc Cert.InprojRefIdeal.main_arg2)) = COL25 (m ((c : Thread nD τ).loc main_arg0)) (m ((c : Thread nD τ).loc main_arg1)) (m ((c : Thread nD τ).loc main_arg2))
      ∧ COL26 (m' ((c.tc : Thread _ _).loc Cert.InprojRefIdeal.main_arg0)) (m' ((c.tc : Thread _ _).loc Cert.InprojRefIdeal.main_arg1)) (m' ((c.tc : Thread _ _).loc Cert.InprojRefIdeal.main_arg2)) = COL26 (m ((c : Thread nD τ).loc main_arg0)) (m ((c : Thread nD τ).loc main_arg1)) (m ((c : Thread nD τ).loc main_arg2)) := by
  obtain ⟨h0, h1, h2⟩ := h
  rw [final m c, ← h0, ← h1, ← h2]
  exact ⟨rfl, rfl, rfl, rfl, rfl, rfl, rfl⟩

end Cert.InprojIdeal.Tie
-- ==== Proof.GmlpTerms.lean ====
module

public import proofs.«01_k».proof.Proof.Gen.GmlpIdeal.Value
public import proofs.«01_k».proof.Proof.Gen.GmlpRefIdeal.Run
public import Idealize.ShloMosaic.Lib.Pipeline.ValueKit
public import Idealize.ShloMosaic.Lib.Pipeline.ReadBack
public import Idealize.ShloMosaic.Lib.Pointwise

/-! The spatial gating call: its terms, read at an index. -/

set_option maxRecDepth 16384

@[expose] public section

noncomputable section

open Idealize.ShloMosaic Idealize.ShloMosaic.TcCoe Idealize.SL.Sem
open Idealize.ShloMosaic.Pipeline (Dat)

namespace Cert.GmlpRefIdeal.Ref

open Cert.GmlpRefIdeal Cert.GmlpRefIdeal.Gen

/-- The gate's activation on an array. -/
def GEL (A : FVec Ideal S9216x512 .f32) : FVec Ideal S9216x512 .f32 :=
  (mulf A (mulf (broadcastInDim S9216x512 ![] bcast_S_S9216x512 (constant S_ .f32 0x3F000000#32)) (addf (broadcastInDim S9216x512 ![] bcast_S_S9216x512 (constant S_ .f32 0x3F800000#32)) (Host.tanh (mulf (broadcastInDim S9216x512 ![] bcast_S_S9216x512 (constant S_ .f32 0x3F4C422A#32)) (addf A (mulf (broadcastInDim S9216x512 ![] bcast_S_S9216x512 (constant S_ .f32 0x3D372713#32)) (mulf (mulf A A) A))))))))

/-- The activated first half. -/
def UU (X : FVec Ideal S9216x5376 .f32) : FVec Ideal S9216x512 .f32 :=
  GEL (extractStridedSlice S9216x512 ![0, 4096] X slices_S9216x5376_S9216x512_0_4096)

/-- The activated second half, normalized group by group. -/
def VN (X : FVec Ideal S9216x5376 .f32) (G : FVec Ideal S4x512 .f32) : FVec Ideal S9216x512 .f32 :=
  (shapeCast _ (mulf (mulf (shapeCast _ (GEL (extractStridedSlice S9216x512 ![0, 4608] X slices_S9216x5376_S9216x512_0_4608)) shapeCasts_S9216x512_S9216x4x128) (broadcastInDim S9216x4x128 ![0, 1, 2] bcast_S9216x4x1_S9216x4x128_0_1_2 (Host.rsqrt (addf (Host.divf (broadcastInDim S9216x4x1 ![0, 1] bcast_S9216x4_S9216x4x1_0_1 (Host.reduceAdd (mulf (shapeCast _ (GEL (extractStridedSlice S9216x512 ![0, 4608] X slices_S9216x5376_S9216x512_0_4608)) shapeCasts_S9216x512_S9216x4x128) (shapeCast _ (GEL (extractStridedSlice S9216x512 ![0, 4608] X slices_S9216x5376_S9216x512_0_4608)) shapeCasts_S9216x512_S9216x4x128)) (constant S_ .f32 0x00000000#32) reducesTo_S9216x4x128_S9216x4_d2 h_S_)) (broadcastInDim S9216x4x1 ![] bcast_S_S9216x4x1 (constant S_ .f32 0x43000000#32))) (broadcastInDim S9216x4x1 ![] bcast_S_S9216x4x1 (constant S_ .f32 0x358637BD#32)))))) (broadcastInDim S9216x4x128 ![0, 1, 2] bcast_S1x4x128_S9216x4x128_0_1_2 (broadcastInDim S1x4x128 ![1, 2] bcast_S4x128_S1x4x128_1_2 (shapeCast _ (shapeCast _ (extractStridedSlice S1x512 ![0, 0] G slices_S4x512_S1x512_0_0) shapeCasts_S1x512_S512) shapeCasts_S512_S4x128)))) shapeCasts_S9216x4x128_S9216x512)

/-- The mixing weights, zero above the diagonal. -/
def WM (W : FVec Ideal S4x4x128x128 .f32) : FVec Ideal S4x128x128 .f32 :=
  (select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ (extractStridedSlice S1x4x128x128 ![0, 0, 0, 0] W slices_S4x4x128x128_S1x4x128x128_0_0_0_0) shapeCasts_S1x4x128x128_S4x128x128) (broadcastInDim S4x128x128 ![] bcast_S_S4x128x128 (constant S_ .f32 0x00000000#32)))

/-- The gated rows of the prompt. -/
def YP (X : FVec Ideal S9216x5376 .f32) (G : FVec Ideal S4x512 .f32) (W : FVec Ideal S4x4x128x128 .f32) (B : FVec Ideal S4x4x128 .f32) : FVec Ideal S8192x512 .f32 :=
  (mulf (extractStridedSlice S8192x512 ![0, 0] (UU X) slices_S9216x512_S8192x512_0_0) (shapeCast _ (addf (transpose S64x128x4x128 [1, 3, 0, 2] (Host.dotGeneral dot_S64x128x4x128_S4x128x128_S4x64x128x128_1_2_03_1_2_0 none (shapeCast _ (extractStridedSlice S8192x512 ![0, 0] (VN X G) slices_S9216x512_S8192x512_0_0) shapeCasts_S8192x512_S64x128x4x128) (WM W)) transposes_S4x64x128x128_S64x128x4x128_1_3_0_2) (broadcastInDim S64x128x4x128 ![0, 1, 2, 3] bcast_S1x128x4x1_S64x128x4x128_0_1_2_3 (broadcastInDim S1x128x4x1 ![1, 2] bcast_S128x4_S1x128x4x1_1_2 (transpose S128x4 [1, 0] (shapeCast _ (extractStridedSlice S1x4x128 ![0, 0, 0] B slices_S4x4x128_S1x4x128_0_0_0) shapeCasts_S1x4x128_S4x128) transposes_S4x128_S128x4_1_0)))) shapeCasts_S64x128x4x128_S8192x512))

/-- The gated rows of the samples. -/
def YS (X : FVec Ideal S9216x5376 .f32) (G : FVec Ideal S4x512 .f32) (W : FVec Ideal S4x4x128x128 .f32) (B : FVec Ideal S4x4x128 .f32) : FVec Ideal S1024x512 .f32 :=
  (mulf (extractStridedSlice S1024x512 ![8192, 0] (UU X) slices_S9216x512_S1024x512_8192_0) (shapeCast _ (addf (transpose S16x64x4x128 [1, 3, 0, 2] (Host.dotGeneral dot_S16x64x4x128_S4x64x64_S4x16x128x64_1_2_03_1_2_0 none (shapeCast _ (extractStridedSlice S1024x512 ![8192, 0] (VN X G) slices_S9216x512_S1024x512_8192_0) shapeCasts_S1024x512_S16x64x4x128) (extractStridedSlice S4x64x64 ![0, 0, 0] (WM W) slices_S4x128x128_S4x64x64_0_0_0)) transposes_S4x16x128x64_S16x64x4x128_1_3_0_2) (broadcastInDim S16x64x4x128 ![0, 1, 2, 3] bcast_S1x64x4x1_S16x64x4x128_0_1_2_3 (broadcastInDim S1x64x4x1 ![1, 2] bcast_S64x4_S1x64x4x1_1_2 (extractStridedSlice S64x4 ![0, 0] (transpose S128x4 [1, 0] (shapeCast _ (extractStridedSlice S1x4x128 ![0, 0, 0] B slices_S4x4x128_S1x4x128_0_0_0) shapeCasts_S1x4x128_S4x128) transposes_S4x128_S128x4_1_0) slices_S128x4_S64x4_0_0)))) shapeCasts_S16x64x4x128_S1024x512))

/-- The reference's first result: the gated rows. -/
def REF (X : FVec Ideal S9216x5376 .f32) (G : FVec Ideal S4x512 .f32) (W : FVec Ideal S4x4x128x128 .f32) (B : FVec Ideal S4x4x128 .f32) : FVec Ideal S9216x512 .bf16 :=
  truncf .bf16 (concatenate S9216x512 0 [⟨S8192x512, YP X G W B⟩, ⟨S1024x512, YS X G W B⟩] concatenates_S8192x512_S1024x512_S9216x512_d0) bitsLt_bf16_f32

/-- The reference's second result: the samples' normalized rows. -/
def REFV (X : FVec Ideal S9216x5376 .f32) (G : FVec Ideal S4x512 .f32) : FVec Ideal S1024x512 .f32 :=
  extractStridedSlice S1024x512 ![8192, 0] (VN X G) slices_S9216x512_S1024x512_8192_0

/-- The activation of one entry. -/
def gel (a : EReal) : EReal :=
  a * (Ideal.ofBits .f32 0x3F000000#32 * (1 + Ideal.tanh (Ideal.ofBits .f32 0x3F4C422A#32 * (a + Ideal.ofBits .f32 0x3D372713#32 * (a * (a * a))))))

/-- One entry of a normalized group: the group's entries `f`, the entry's gain `g`. -/
def vn (f : Fin 128 → EReal) (g : EReal) (k : Fin 128) : EReal :=
  f k * Ideal.rsqrt (Ideal.div (∑ q, f q * f q) (Ideal.ofBits .f32 0x43000000#32) + Ideal.ofBits .f32 0x358637BD#32) * g

theorem GEL_at (A : FVec Ideal S9216x512 .f32) (r : Fin 9216) (s : Fin 512) : GEL A (ix2 r s) = gel (A (ix2 r s)) := by
  pointwise [GEL, gel]
  rw [mul_comm (A (ix2 r s) * A (ix2 r s))]

theorem UU_at (X : FVec Ideal S9216x5376 .f32) (r : Fin 9216) (s : Fin 512) :
    UU X (ix2 r s) = gel (X (ix2 r ⟨4096 + s.val, by omega⟩)) := by
  unfold UU
  rw [GEL_at]
  pointwise []

theorem VN_at (X : FVec Ideal S9216x5376 .f32) (G : FVec Ideal S4x512 .f32) (r : Fin 9216) (s : Fin 512) :
    VN X G (ix2 r s) = vn (fun q => gel (X (ix2 r ⟨4608 + (s.val / 128 * 128 + q.val), by omega⟩))) (G (ix2 0 s)) ⟨s.val % 128, by omega⟩ := by
  pointwise [VN, vn, GEL_at]
  have e : (⟨4608 + (s.val / 128 * 128 + s.val % 128), by omega⟩ : Fin 5376) = ⟨4608 + s.val, by omega⟩ := Fin.ext (by
    show 4608 + (s.val / 128 * 128 + s.val % 128) = 4608 + s.val
    omega)
  rw [e]

theorem tri_at : ∀ a b : Fin 128, Scalar.select (IntOp.cmpi CmpIPredicate.sge (IntOp.addi (BitVec.ofNat 32 a.val) 0#32) (BitVec.ofNat 32 b.val)) 1#1 0#1
    = BitVec.ofBool (decide (b.val ≤ a.val)) := by
  decide +kernel

theorem WM_at (W : FVec Ideal S4x4x128x128 .f32) (g : Fin 4) (a b : Fin 128) :
    WM W (ix3 g a b) = if b.val ≤ a.val then W (ix4 0 g a b) else 0 := by
  pointwise [WM]
  rw [tri_at]
  simp only [hlo_ix]

theorem YP_at (X : FVec Ideal S9216x5376 .f32) (G : FVec Ideal S4x512 .f32) (W : FVec Ideal S4x4x128x128 .f32) (B : FVec Ideal S4x4x128 .f32)
    (r : Fin 8192) (s : Fin 512) : YP X G W B (ix2 r s) = UU X (ix2 ⟨r.val, by omega⟩ s)
      * ((∑ k : Fin 128, VN X G (ix2 ⟨r.val / 128 * 128 + k.val, by omega⟩ s) * WM W (ix3 ⟨s.val / 128, by omega⟩ ⟨r.val % 128, by omega⟩ k))
          + B (ix3 0 ⟨s.val / 128, by omega⟩ ⟨r.val % 128, by omega⟩)) := by
  pointwise [YP]

theorem YS_at (X : FVec Ideal S9216x5376 .f32) (G : FVec Ideal S4x512 .f32) (W : FVec Ideal S4x4x128x128 .f32) (B : FVec Ideal S4x4x128 .f32)
    (r : Fin 1024) (s : Fin 512) : YS X G W B (ix2 r s) = UU X (ix2 ⟨8192 + r.val, by omega⟩ s)
      * ((∑ k : Fin 64, VN X G (ix2 ⟨8192 + (r.val / 64 * 64 + k.val), by omega⟩ s) * WM W (ix3 ⟨s.val / 128, by omega⟩ ⟨r.val % 64, by omega⟩ ⟨k.val, by omega⟩))
          + B (ix3 0 ⟨s.val / 128, by omega⟩ ⟨r.val % 64, by omega⟩)) := by
  pointwise [YS]

theorem REF_at (X : FVec Ideal S9216x5376 .f32) (G : FVec Ideal S4x512 .f32) (W : FVec Ideal S4x4x128x128 .f32) (B : FVec Ideal S4x4x128 .f32)
    (r : Fin 9216) (s : Fin 512) : REF X G W B (ix2 r s)
      = if h : r.val < 8192 then YP X G W B (ix2 ⟨r.val, h⟩ s) else YS X G W B (ix2 ⟨r.val - 8192, by omega⟩ s) := by
  pointwise [REF]

end Cert.GmlpRefIdeal.Ref

namespace Cert.GmlpIdeal.Tie

open Cert.GmlpIdeal Cert.GmlpIdeal.Gen Cert.GmlpRefIdeal.Ref

/-- One entry of the mixed rows: the gate, the masked weights' sum and the bias. -/
def mix (M : IVec S256x256 1) (u : EReal) (w : Fin 256 → EReal) (v : Fin 256 → EReal) (r : Fin 256) (b : EReal) : EReal :=
  u * ((∑ k, Scalar.select (M (ix2 r k)) (w k * v k) 0) + b)

theorem pay2_at (x : Vec Ideal S256x1024 .f32) (r : Fin 256) (s : Fin 512) : k0_pay2 x (ix2 r s) = gel (x (ix2 r ⟨s.val, by omega⟩)) := by
  pointwise [k0_pay2, gel]

theorem pay3_at (x : Vec Ideal S256x1024 .f32) (r : Fin 256) (s : Fin 512) : k0_pay3 x (ix2 r s) = gel (x (ix2 r ⟨512 + s.val, by omega⟩)) := by
  pointwise [k0_pay3, gel]

theorem n0_at (x : Vec Ideal S256x1024 .f32) (g : Vec Ideal S1x1x128 .f32) (r : Fin 256) (k : Fin 128) :
    k0_pay7 (k0_pay5 x) (k0_pay6 x) (Scalar.ofBits .f32 0x43000000#32) g (ix2 r k)
      = vn (fun q => gel (x (ix2 r ⟨512 + q.val, by omega⟩))) (g (ix3 0 0 k)) k := by
  pointwise [k0_pay7, k0_pay5, k0_pay6, pay3_at, vn]

theorem n1_at (x : Vec Ideal S256x1024 .f32) (g : Vec Ideal S1x1x128 .f32) (r : Fin 256) (k : Fin 128) :
    k0_pay11 (k0_pay9 (k0_pay3 x)) (k0_pay10 (k0_pay3 x)) g (ix2 r k)
      = vn (fun q => gel (x (ix2 r ⟨512 + (128 + q.val), by omega⟩))) (g (ix3 0 0 k)) k := by
  pointwise [k0_pay11, k0_pay9, k0_pay10, pay3_at, vn]

theorem n2_at (x : Vec Ideal S256x1024 .f32) (g : Vec Ideal S1x1x128 .f32) (r : Fin 256) (k : Fin 128) :
    k0_pay14 (k0_pay13 (k0_pay3 x)) g (ix2 r k)
      = vn (fun q => gel (x (ix2 r ⟨512 + (256 + q.val), by omega⟩))) (g (ix3 0 0 k)) k := by
  pointwise [k0_pay14, k0_pay13, pay3_at, vn]

theorem n3_at (x : Vec Ideal S256x1024 .f32) (g : Vec Ideal S1x1x128 .f32) (r : Fin 256) (k : Fin 128) :
    k0_pay16 (k0_pay3 x) g (ix2 r k)
      = vn (fun q => gel (x (ix2 r ⟨512 + (384 + q.val), by omega⟩))) (g (ix3 0 0 k)) k := by
  pointwise [k0_pay16, pay3_at, vn]

theorem m0_at (u : FVec Ideal S256x512 .f32) (M : IVec S256x256 1) (a : FVec Ideal S256x128 .f32) (e : FVec Ideal S256x1 .f32) (o : Ideal .f32)
    (g : Vec Ideal S1x1x128 .f32) (w : Vec Ideal S1x1x1x256x256 .f32) (b : Vec Ideal S1x1x256x4 .f32) (r : Fin 256) (k : Fin 128) :
    k0_pay8 u M a e o g w b (ix2 r k) = mix M (u (ix2 r ⟨k.val, by omega⟩)) (fun j => w (ix5 0 0 0 r j)) (fun j => k0_pay7 a e o g (ix2 j k)) r (b (ix4 0 0 r 0)) := by
  pointwise [k0_pay8, mix]

theorem m1_at (u : FVec Ideal S256x512 .f32) (M : IVec S256x256 1) (a : FVec Ideal S256x128 .f32) (e : FVec Ideal S256x1 .f32)
    (g : Vec Ideal S1x1x128 .f32) (w : Vec Ideal S1x1x1x256x256 .f32) (b : Vec Ideal S1x1x256x4 .f32) (r : Fin 256) (k : Fin 128) :
    k0_pay12 u M a e g w b (ix2 r k) = mix M (u (ix2 r ⟨128 + k.val, by omega⟩)) (fun j => w (ix5 0 0 0 r j)) (fun j => k0_pay11 a e g (ix2 j k)) r (b (ix4 0 0 r 1)) := by
  pointwise [k0_pay12, mix]

theorem m2_at (u : FVec Ideal S256x512 .f32) (M : IVec S256x256 1) (a : FVec Ideal S256x128 .f32)
    (g : Vec Ideal S1x1x128 .f32) (w : Vec Ideal S1x1x1x256x256 .f32) (b : Vec Ideal S1x1x256x4 .f32) (r : Fin 256) (k : Fin 128) :
    k0_pay15 u M a g w b (ix2 r k) = mix M (u (ix2 r ⟨256 + k.val, by omega⟩)) (fun j => w (ix5 0 0 0 r j)) (fun j => k0_pay14 a g (ix2 j k)) r (b (ix4 0 0 r 2)) := by
  pointwise [k0_pay15, mix]

theorem m3_at (u : FVec Ideal S256x512 .f32) (M : IVec S256x256 1) (v : FVec Ideal S256x128 .f32)
    (w : Vec Ideal S1x1x1x256x256 .f32) (b : Vec Ideal S1x1x256x4 .f32) (r : Fin 256) (k : Fin 128) :
    k0_pay1 u M v w b (ix2 r k) = mix M (u (ix2 r ⟨384 + k.val, by omega⟩)) (fun j => w (ix5 0 0 0 r j)) (fun j => v (ix2 j k)) r (b (ix4 0 0 r 3)) := by
  pointwise [k0_pay1, mix]

theorem shift_at : ∀ n : Fin 36, Scalar.subi (7#32) (Scalar.extui (Scalar.cmpi CmpIPredicate.sge (BitVec.ofNat 32 n.val) 32#32)) = if n.val < 32 then 7#32 else 6#32 := by
  decide +kernel

theorem shr7 : ∀ r : Fin 256, IntOp.shrsi ArithUnit.vector (BitVec.ofNat 32 r.val) 7#32 = BitVec.ofNat 32 (r.val / 128) := by
  decide +kernel

theorem shr6 : ∀ r : Fin 256, IntOp.shrsi ArithUnit.vector (BitVec.ofNat 32 r.val) 6#32 = BitVec.ofNat 32 (r.val / 64) := by
  decide +kernel

theorem sle_at (r k : Fin 256) : IntOp.cmpi CmpIPredicate.sle (BitVec.ofNat 32 k.val) (BitVec.ofNat 32 r.val) = BitVec.ofBool (decide (k.val ≤ r.val)) := by
  word_cmp

theorem eq_at (a b : Nat) (ha : a < 256) (hb : b < 256) : IntOp.cmpi CmpIPredicate.eq (BitVec.ofNat 32 a) (BitVec.ofNat 32 b) = BitVec.ofBool (decide (a = b)) := by
  word_cmp

theorem and_at (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem mask_at (i : grid0.Coords) (r k : Fin 256) : k0_pay4 i (ix2 r k)
    = BitVec.ofBool (decide (k.val ≤ r.val ∧ (if (i 0).val < 32 then r.val / 128 = k.val / 128 else r.val / 64 = k.val / 64))) := by
  have hi : (i 0).val < 36 := (i 0).isLt
  have hs := shift_at ⟨(i 0).val, hi⟩
  pointwise [k0_pay4]
  rw [sle_at r k]
  by_cases h : (i 0).val < 32
  · rw [if_pos h] at hs
    rw [show Scalar.subi (7#32) (Scalar.extui (Scalar.cmpi CmpIPredicate.sge (BitVec.ofNat 32 (i 0).val) 32#32)) = 7#32 from hs]
    rw [shr7, shr7, eq_at _ _ (by omega) (by omega), and_at]
    simp only [h, if_true]
  · rw [if_neg h] at hs
    rw [show Scalar.subi (7#32) (Scalar.extui (Scalar.cmpi CmpIPredicate.sge (BitVec.ofNat 32 (i 0).val) 32#32)) = 6#32 from hs]
    rw [shr6, shr6, eq_at _ _ (by omega) (by omega), and_at]
    simp only [h, if_false]

/-- The weights the host tiles for the prompt and for the samples. -/
def W9 (W : FVec Ideal S4x4x128x128 .f32) : FVec Ideal S4x2x4x256x256 .f32 :=
  concatenate S4x2x4x256x256 1 [⟨S4x1x4x256x256, broadcastInDim S4x1x4x256x256 ![0, 2, 3, 4] bcast_S4x4x256x256_S4x1x4x256x256_0_2_3_4 (shapeCast S4x4x256x256 (broadcastInDim S1x4x1x4x2x128x2x128 ![0, 1, 2, 3, 4, 5, 6, 7] bcast_S1x4x1x4x1x128x1x128_S1x4x1x4x2x128x2x128_0_1_2_3_4_5_6_7 (shapeCast S1x4x1x4x1x128x1x128 W shapeCasts_S4x4x128x128_S1x4x1x4x1x128x1x128)) shapeCasts_S1x4x1x4x2x128x2x128_S4x4x256x256)⟩, ⟨S4x1x4x256x256, broadcastInDim S4x1x4x256x256 ![0, 2, 3, 4] bcast_S4x4x256x256_S4x1x4x256x256_0_2_3_4 (shapeCast S4x4x256x256 (broadcastInDim S1x4x1x4x4x64x4x64 ![0, 1, 2, 3, 4, 5, 6, 7] bcast_S1x4x1x4x1x64x1x64_S1x4x1x4x4x64x4x64_0_1_2_3_4_5_6_7 (shapeCast S1x4x1x4x1x64x1x64 (extractStridedSlice S4x4x64x64 ![0, 0, 0, 0] W slices_S4x4x128x128_S4x4x64x64_0_0_0_0) shapeCasts_S4x4x64x64_S1x4x1x4x1x64x1x64)) shapeCasts_S1x4x1x4x4x64x4x64_S4x4x256x256)⟩] concatenates_S4x1x4x256x256_S4x1x4x256x256_S4x2x4x256x256_d1

theorem W9_at (W : FVec Ideal S4x4x128x128 .f32) (p : Fin 2) (g : Fin 4) (r k : Fin 256) :
    W9 W (ix5 0 p g r k) = if p.val < 1 then W (ix4 0 g ⟨r.val % 128, by omega⟩ ⟨k.val % 128, by omega⟩)
      else W (ix4 0 g ⟨r.val % 64, by omega⟩ ⟨k.val % 64, by omega⟩) := by
  pointwise [W9]
  rfl

/-- The biases the host tiles for the prompt and for the samples. -/
def B20 (B : FVec Ideal S4x4x128 .f32) : FVec Ideal S4x2x256x4 .f32 :=
  transpose S4x2x256x4 [0, 1, 3, 2] (concatenate S4x2x4x256 1 [⟨S4x1x4x256, broadcastInDim S4x1x4x256 ![0, 2, 3] bcast_S4x4x256_S4x1x4x256_0_2_3 (shapeCast S4x4x256 (broadcastInDim S1x4x1x4x2x128 ![0, 1, 2, 3, 4, 5] bcast_S1x4x1x4x1x128_S1x4x1x4x2x128_0_1_2_3_4_5 (shapeCast S1x4x1x4x1x128 B shapeCasts_S4x4x128_S1x4x1x4x1x128)) shapeCasts_S1x4x1x4x2x128_S4x4x256)⟩, ⟨S4x1x4x256, broadcastInDim S4x1x4x256 ![0, 2, 3] bcast_S4x4x256_S4x1x4x256_0_2_3 (shapeCast S4x4x256 (broadcastInDim S1x4x1x4x4x64 ![0, 1, 2, 3, 4, 5] bcast_S1x4x1x4x1x64_S1x4x1x4x4x64_0_1_2_3_4_5 (shapeCast S1x4x1x4x1x64 (extractStridedSlice S4x4x64 ![0, 0, 0] B slices_S4x4x128_S4x4x64_0_0_0) shapeCasts_S4x4x64_S1x4x1x4x1x64)) shapeCasts_S1x4x1x4x4x64_S4x4x256)⟩] concatenates_S4x1x4x256_S4x1x4x256_S4x2x4x256_d1) transposes_S4x2x4x256_S4x2x256x4_0_1_3_2

theorem B20_at (B : FVec Ideal S4x4x128 .f32) (p : Fin 2) (g : Fin 4) (r : Fin 256) :
    B20 B (ix4 0 p r g) = if p.val < 1 then B (ix3 0 g ⟨r.val % 128, by omega⟩) else B (ix3 0 g ⟨r.val % 64, by omega⟩) := by
  pointwise [B20]
  rfl

variable (m : (ℓ : Loc nD τ sig) → Buf (Elt Ideal) ℓ)

theorem V9 (c : Dev nD) : V m c main_v9 = W9 (m ((c : Thread nD τ).loc main_arg2)) := by
  show StableHlo.after hostOps0 (fun b => m (c, b)) main_v9 = _
  after_results <;> rfl

theorem V20 (c : Dev nD) : V m c main_v20 = B20 (m ((c : Thread nD τ).loc main_arg3)) := by
  show StableHlo.after hostOps0 (fun b => m (c, b)) main_v20 = _
  after_results <;> rfl

/-- Where each window's block sits at a point of the grid. -/
theorem idx : ∀ t : Fin cfg0.N, win0_0.index t = ![t.val, 4] ∧ win0_1.index t = ![0, 0, 0]
    ∧ win0_2.index t = ![0, t.val / 32, 0, 0, 0] ∧ win0_3.index t = ![0, t.val / 32, 0, 0]
    ∧ win0_4.index t = ![t.val, 0] ∧ win0_5.index t = ![t.val - 32, 0] :=
  (by decide +kernel : ∀ t : Fin grid0.N, _)

/-- The rows a point reads. -/
theorem x_at (c : Dev nD) (t : Fin cfg0.N) (r : Fin 256) (s : Fin 1024) (hl : t.val * 256 + r.val < 9216) :
    X0_0 m c t (ix2 r s) = m ((c : Thread nD τ).loc main_arg0) (ix2 ⟨t.val * 256 + r.val, hl⟩ ⟨4096 + s.val, by omega⟩) := by
  unfold X0_0 Pipeline.Window.fill
  rw [dif_pos (moved0_0 t _)]
  blk_ext [iblk, V, idx t]

theorem g_at (c : Dev nD) (t : Fin cfg0.N) (s : Fin 512) : iblk m c 1 t (ix3 0 0 s) = m ((c : Thread nD τ).loc main_arg1) (ix2 0 s) := by
  blk_ext! [iblk, V, idx t]

theorem w_at (c : Dev nD) (t : Fin cfg0.N) (g : Fin 4) (r k : Fin 256) (hp : t.val / 32 < 2) :
    iblk m c 2 t (ix5 0 0 g r k) = W9 (m ((c : Thread nD τ).loc main_arg2)) (ix5 0 ⟨t.val / 32, hp⟩ g r k) := by
  rw [← V9 m c]
  blk_ext [iblk, idx t]

theorem b_at (c : Dev nD) (t : Fin cfg0.N) (g : Fin 4) (r : Fin 256) (hp : t.val / 32 < 2) :
    iblk m c 3 t (ix4 0 0 r g) = B20 (m ((c : Thread nD τ).loc main_arg3)) (ix4 0 ⟨t.val / 32, hp⟩ r g) := by
  rw [← V20 m c]
  blk_ext [iblk, idx t]

end Cert.GmlpIdeal.Tie
-- ==== Proof.GmlpValue.lean ====
module

public import proofs.«01_k».proof.Proof.GmlpTerms

/-! The spatial gating call: the arrays the kernel leaves are the reference's. -/

set_option maxRecDepth 16384

@[expose] public section

noncomputable section

open Idealize.ShloMosaic Idealize.ShloMosaic.TcCoe Idealize.SL.Sem
open Idealize.ShloMosaic.Pipeline (Dat)

namespace Cert.GmlpIdeal.Tie

open Cert.GmlpIdeal Cert.GmlpIdeal.Gen Cert.GmlpRefIdeal.Ref

variable (m : (ℓ : Loc nD τ sig) → Buf (Elt Ideal) ℓ)

/-- A normalized entry of a point's rows is the reference's. -/
theorem vn_tie (c : Dev nD) (t : Fin cfg0.N) (r : Fin 256) (k : Fin 128) (s : Fin 512) (e : Fin 128 → Fin 1024)
    (he : ∀ q, (e q).val = 512 + (s.val / 128 * 128 + q.val)) (hk : s.val % 128 = k.val) (hl : t.val * 256 + r.val < 9216) :
    vn (fun q => gel (X0_0 m c t (ix2 r (e q)))) (iblk m c 1 t (ix3 0 0 s)) k
      = VN (m ((c : Thread nD τ).loc main_arg0)) (m ((c : Thread nD τ).loc main_arg1)) (ix2 ⟨t.val * 256 + r.val, hl⟩ s) := by
  rw [VN_at, g_at m c t s]
  have hk' : (⟨s.val % 128, by omega⟩ : Fin 128) = k := Fin.ext hk
  rw [hk']
  refine congrArg (fun f => vn f _ k) (funext fun q => congrArg gel ?_)
  rw [x_at m c t r (e q) hl]
  exact congrArg (fun v => m ((c : Thread nD τ).loc main_arg0) (ix2 ⟨t.val * 256 + r.val, hl⟩ v)) (Fin.ext (by
    show 4096 + (e q).val = 4608 + (s.val / 128 * 128 + q.val)
    rw [he q]; omega))

/-- A masked sum over a block's rows keeps the rows of one chunk of 128. -/
theorem chunk128 (F : Fin 256 → EReal) (r : Fin 256) :
    (∑ k : Fin 256, Scalar.select (BitVec.ofBool (decide (k.val ≤ r.val ∧ r.val / 128 = k.val / 128))) (F k) (0 : EReal))
      = ∑ a : Fin 128, if a.val ≤ r.val % 128 then F ⟨r.val / 128 * 128 + a.val, by omega⟩ else 0 := by
  simp only [hlo_ix]
  rw [Fin.sum_univ_tiles 2 128 rfl, Finset.sum_eq_single (⟨r.val / 128, by omega⟩ : Fin 2)]
  · refine Finset.sum_congr rfl fun a _ => if_congr ?_ rfl rfl
    constructor <;> intro h <;> simp only at * <;> omega
  · intro j _ hj
    refine Finset.sum_eq_zero fun a _ => if_neg ?_
    intro h
    exact hj (Fin.ext (by simp only at *; omega))
  · intro h; exact absurd (Finset.mem_univ _) h

/-- A masked sum over a block's rows keeps the rows of one chunk of 64. -/
theorem chunk64 (F : Fin 256 → EReal) (r : Fin 256) :
    (∑ k : Fin 256, Scalar.select (BitVec.ofBool (decide (k.val ≤ r.val ∧ r.val / 64 = k.val / 64))) (F k) (0 : EReal))
      = ∑ a : Fin 64, if a.val ≤ r.val % 64 then F ⟨r.val / 64 * 64 + a.val, by omega⟩ else 0 := by
  simp only [hlo_ix]
  rw [Fin.sum_univ_tiles 4 64 rfl, Finset.sum_eq_single (⟨r.val / 64, by omega⟩ : Fin 4)]
  · refine Finset.sum_congr rfl fun a _ => if_congr ?_ rfl rfl
    constructor <;> intro h <;> simp only at * <;> omega
  · intro j _ hj
    refine Finset.sum_eq_zero fun a _ => if_neg ?_
    intro h
    exact hj (Fin.ext (by simp only at *; omega))
  · intro h; exact absurd (Finset.mem_univ _) h

/-- A point of the grid is its own coordinate. -/
theorem coord : ∀ t : Fin cfg0.N, ((grid0.coords t) 0).val = t.val :=
  (by decide +kernel : ∀ t : Fin grid0.N, _)

/-- A mixed entry of a point's rows is the reference's. -/
theorem mix_tie (c : Dev nD) (t : Fin cfg0.N) (r : Fin 256) (s : Fin 512) (g : Fin 4) (hg : s.val / 128 = g.val) (hl : t.val * 256 + r.val < 9216)
    (u : EReal) (w v : Fin 256 → EReal) (b : EReal)
    (hu : u = UU (m ((c : Thread nD τ).loc main_arg0)) (ix2 ⟨t.val * 256 + r.val, hl⟩ s))
    (hw : ∀ j, w j = iblk m c 2 t (ix5 0 0 g r j))
    (hv : ∀ j : Fin 256, v j = VN (m ((c : Thread nD τ).loc main_arg0)) (m ((c : Thread nD τ).loc main_arg1)) (ix2 ⟨t.val * 256 + j.val, by omega⟩ s))
    (hb : b = iblk m c 3 t (ix4 0 0 r g)) :
    mix (k0_pay4 (grid0.coords t)) u w v r b
      = REF (m ((c : Thread nD τ).loc main_arg0)) (m ((c : Thread nD τ).loc main_arg1)) (m ((c : Thread nD τ).loc main_arg2)) (m ((c : Thread nD τ).loc main_arg3))
          (ix2 ⟨t.val * 256 + r.val, hl⟩ s) := by
  have hp : t.val / 32 < 2 := by omega
  have hgs : (⟨s.val / 128, by omega⟩ : Fin 4) = g := Fin.ext hg
  unfold mix
  simp only [mask_at, coord]
  rw [hu, hb, b_at m c t g r hp, B20_at, REF_at]
  by_cases h : t.val < 32
  · simp only [if_pos h]
    have h1 : t.val / 32 < 1 := by omega
    have h2 : t.val * 256 + r.val < 8192 := by omega
    rw [chunk128 (fun k => w k * v k) r, dif_pos h2, YP_at, if_pos h1]
    have e1 : (⟨(t.val * 256 + r.val) % 128, by omega⟩ : Fin 128) = ⟨r.val % 128, by omega⟩ := Fin.ext (by show (t.val * 256 + r.val) % 128 = r.val % 128; omega)
    rw [e1, hgs]
    refine congrArg (fun S => _ * (S + _)) (Finset.sum_congr rfl fun a _ => ?_)
    rw [WM_at, hw, hv, w_at m c t g r _ hp, W9_at, if_pos h1]
    have e2 : (⟨(r.val / 128 * 128 + a.val) % 128, by omega⟩ : Fin 128) = a := Fin.ext (by show (r.val / 128 * 128 + a.val) % 128 = a.val; omega)
    have e3 : (⟨t.val * 256 + (r.val / 128 * 128 + a.val), by omega⟩ : Fin 9216) = ⟨(t.val * 256 + r.val) / 128 * 128 + a.val, by omega⟩ :=
      Fin.ext (by show t.val * 256 + (r.val / 128 * 128 + a.val) = (t.val * 256 + r.val) / 128 * 128 + a.val; omega)
    simp only [e2, e3]
    by_cases ha : a.val ≤ r.val % 128
    · rw [if_pos ha, if_pos ha, mul_comm]
    · rw [if_neg ha, if_neg ha, mul_zero]
  · simp only [if_neg h]
    have h1 : ¬ t.val / 32 < 1 := by omega
    have h2 : ¬ t.val * 256 + r.val < 8192 := by omega
    rw [chunk64 (fun k => w k * v k) r, dif_neg h2, YS_at, if_neg h1]
    have e0 : (⟨8192 + (t.val * 256 + r.val - 8192), by omega⟩ : Fin 9216) = ⟨t.val * 256 + r.val, hl⟩ := Fin.ext (by show 8192 + (t.val * 256 + r.val - 8192) = t.val * 256 + r.val; omega)
    have e1 : (⟨(t.val * 256 + r.val - 8192) % 64, by omega⟩ : Fin 128) = ⟨r.val % 64, by omega⟩ := Fin.ext (by show (t.val * 256 + r.val - 8192) % 64 = r.val % 64; omega)
    simp only [e0]
    rw [e1, hgs]
    refine congrArg (fun S => _ * (S + _)) (Finset.sum_congr rfl fun a _ => ?_)
    rw [WM_at, hw, hv, w_at m c t g r _ hp, W9_at, if_neg h1]
    have e2 : (⟨(r.val / 64 * 64 + a.val) % 64, by omega⟩ : Fin 128) = ⟨a.val, by omega⟩ := Fin.ext (by show (r.val / 64 * 64 + a.val) % 64 = a.val; omega)
    have e3 : (⟨t.val * 256 + (r.val / 64 * 64 + a.val), by omega⟩ : Fin 9216) = ⟨8192 + ((t.val * 256 + r.val - 8192) / 64 * 64 + a.val), by omega⟩ :=
      Fin.ext (by show t.val * 256 + (r.val / 64 * 64 + a.val) = 8192 + ((t.val * 256 + r.val - 8192) / 64 * 64 + a.val); omega)
    simp only [e2, e3]
    by_cases ha : a.val ≤ r.val % 64
    · rw [if_pos ha, if_pos ha, mul_comm]
    · rw [if_neg ha, if_neg ha, mul_zero]

theorem nt0 (c : Dev nD) (t : Fin cfg0.N) (r : Fin 256) (k : Fin 128) (s : Fin 512) (hs : s.val = 0 + k.val) (hl : t.val * 256 + r.val < 9216) :
    k0_pay7 (k0_pay5 (X0_0 m c t)) (k0_pay6 (X0_0 m c t)) (Scalar.ofBits .f32 0x43000000#32) (View.ld (iblk m c 1 t) (Rect.unit ![0, 0, 0] ![1, 1, 128] inb_S1x1x512_S1x1x128_0_0_0)) (ix2 r k)
      = VN (m ((c : Thread nD τ).loc main_arg0)) (m ((c : Thread nD τ).loc main_arg1)) (ix2 ⟨t.val * 256 + r.val, hl⟩ s) := by
  rw [n0_at]
  have e : View.ld (iblk m c 1 t) (Rect.unit ![0, 0, 0] ![1, 1, 128] inb_S1x1x512_S1x1x128_0_0_0) (ix3 0 0 k) = iblk m c 1 t (ix3 0 0 s) := by
    have e' : s = ⟨0 + k.val, by omega⟩ := Fin.ext hs
    rw [e']
    pointwise []
  rw [e]
  refine vn_tie m c t r k s _ (fun q => ?_) (by omega) hl
  show 512 + q.val = 512 + (s.val / 128 * 128 + q.val)
  omega

theorem nt1 (c : Dev nD) (t : Fin cfg0.N) (r : Fin 256) (k : Fin 128) (s : Fin 512) (hs : s.val = 128 + k.val) (hl : t.val * 256 + r.val < 9216) :
    k0_pay11 (k0_pay9 (k0_pay3 (X0_0 m c t))) (k0_pay10 (k0_pay3 (X0_0 m c t))) (View.ld (iblk m c 1 t) (Rect.unit ![0, 0, 128] ![1, 1, 128] inb_S1x1x512_S1x1x128_0_0_128)) (ix2 r k)
      = VN (m ((c : Thread nD τ).loc main_arg0)) (m ((c : Thread nD τ).loc main_arg1)) (ix2 ⟨t.val * 256 + r.val, hl⟩ s) := by
  rw [n1_at]
  have e : View.ld (iblk m c 1 t) (Rect.unit ![0, 0, 128] ![1, 1, 128] inb_S1x1x512_S1x1x128_0_0_128) (ix3 0 0 k) = iblk m c 1 t (ix3 0 0 s) := by
    have e' : s = ⟨128 + k.val, by omega⟩ := Fin.ext hs
    rw [e']
    pointwise []
  rw [e]
  refine vn_tie m c t r k s _ (fun q => ?_) (by omega) hl
  show 512 + (128 + q.val) = 512 + (s.val / 128 * 128 + q.val)
  omega

theorem nt2 (c : Dev nD) (t : Fin cfg0.N) (r : Fin 256) (k : Fin 128) (s : Fin 512) (hs : s.val = 256 + k.val) (hl : t.val * 256 + r.val < 9216) :
    k0_pay14 (k0_pay13 (k0_pay3 (X0_0 m c t))) (View.ld (iblk m c 1 t) (Rect.unit ![0, 0, 256] ![1, 1, 128] inb_S1x1x512_S1x1x128_0_0_256)) (ix2 r k)
      = VN (m ((c : Thread nD τ).loc main_arg0)) (m ((c : Thread nD τ).loc main_arg1)) (ix2 ⟨t.val * 256 + r.val, hl⟩ s) := by
  rw [n2_at]
  have e : View.ld (iblk m c 1 t) (Rect.unit ![0, 0, 256] ![1, 1, 128] inb_S1x1x512_S1x1x128_0_0_256) (ix3 0 0 k) = iblk m c 1 t (ix3 0 0 s) := by
    have e' : s = ⟨256 + k.val, by omega⟩ := Fin.ext hs
    rw [e']
    pointwise []
  rw [e]
  refine vn_tie m c t r k s _ (fun q => ?_) (by omega) hl
  show 512 + (256 + q.val) = 512 + (s.val / 128 * 128 + q.val)
  omega

theorem nt3 (c : Dev nD) (t : Fin cfg0.N) (r : Fin 256) (k : Fin 128) (s : Fin 512) (hs : s.val = 384 + k.val) (hl : t.val * 256 + r.val < 9216) :
    k0_pay16 (k0_pay3 (X0_0 m c t)) (View.ld (iblk m c 1 t) (Rect.unit ![0, 0, 384] ![1, 1, 128] inb_S1x1x512_S1x1x128_0_0_384)) (ix2 r k)
      = VN (m ((c : Thread nD τ).loc main_arg0)) (m ((c : Thread nD τ).loc main_arg1)) (ix2 ⟨t.val * 256 + r.val, hl⟩ s) := by
  rw [n3_at]
  have e : View.ld (iblk m c 1 t) (Rect.unit ![0, 0, 384] ![1, 1, 128] inb_S1x1x512_S1x1x128_0_0_384) (ix3 0 0 k) = iblk m c 1 t (ix3 0 0 s) := by
    have e' : s = ⟨384 + k.val, by omega⟩ := Fin.ext hs
    rw [e']
    pointwise []
  rw [e]
  refine vn_tie m c t r k s _ (fun q => ?_) (by omega) hl
  show 512 + (384 + q.val) = 512 + (s.val / 128 * 128 + q.val)
  omega

theorem eta (x : S256x128.Idx) : x = ix2 (x 0) (x 1) := by
  funext i
  match i with
  | 0 => rfl
  | 1 => rfl

/-- A gate of a point's rows is the reference's. -/
theorem u_tie (c : Dev nD) (t : Fin cfg0.N) (r : Fin 256) (s s' : Fin 512) (hs : s' = s) (hl : t.val * 256 + r.val < 9216) :
    k0_pay2 (X0_0 m c t) (ix2 r s') = UU (m ((c : Thread nD τ).loc main_arg0)) (ix2 ⟨t.val * 256 + r.val, hl⟩ s) := by
  rw [hs, pay2_at, UU_at, x_at m c t r _ hl]

theorem mt0 (c : Dev nD) (t : Fin cfg0.N) (r : Fin 256) (k : Fin 128) (s : Fin 512) (hs : s.val = 0 + k.val) (hl : t.val * 256 + r.val < 9216) :
    k0_pay8 (k0_pay2 (X0_0 m c t)) (k0_pay4 (grid0.coords t)) (k0_pay5 (X0_0 m c t)) (k0_pay6 (X0_0 m c t)) (Scalar.ofBits .f32 0x43000000#32) (View.ld (iblk m c 1 t) (Rect.unit ![0, 0, 0] ![1, 1, 128] inb_S1x1x512_S1x1x128_0_0_0))
        (View.ld (iblk m c 2 t) (Rect.unit ![0, 0, 0, 0, 0] ![1, 1, 1, 256, 256] inb_S1x1x4x256x256_S1x1x1x256x256_0_0_0_0_0)) (iblk m c 3 t) (ix2 r k)
      = REF (m ((c : Thread nD τ).loc main_arg0)) (m ((c : Thread nD τ).loc main_arg1)) (m ((c : Thread nD τ).loc main_arg2)) (m ((c : Thread nD τ).loc main_arg3)) (ix2 ⟨t.val * 256 + r.val, hl⟩ s) := by
  rw [m0_at]
  have ht : t.val < 36 := lt_of_lt_of_eq t.isLt (by decide +kernel)
  exact mix_tie m c t r s 0 (by show s.val / 128 = 0; omega) hl _ _ _ _ (u_tie m c t r s _ (Fin.ext (by show k.val = s.val; omega)) hl)
    (fun j => by pointwise []) (fun j => nt0 m c t j k s hs _) rfl

theorem mt1 (c : Dev nD) (t : Fin cfg0.N) (r : Fin 256) (k : Fin 128) (s : Fin 512) (hs : s.val = 128 + k.val) (hl : t.val * 256 + r.val < 9216) :
    k0_pay12 (k0_pay2 (X0_0 m c t)) (k0_pay4 (grid0.coords t)) (k0_pay9 (k0_pay3 (X0_0 m c t))) (k0_pay10 (k0_pay3 (X0_0 m c t))) (View.ld (iblk m c 1 t) (Rect.unit ![0, 0, 128] ![1, 1, 128] inb_S1x1x512_S1x1x128_0_0_128))
        (View.ld (iblk m c 2 t) (Rect.unit ![0, 0, 1, 0, 0] ![1, 1, 1, 256, 256] inb_S1x1x4x256x256_S1x1x1x256x256_0_0_1_0_0)) (iblk m c 3 t) (ix2 r k)
      = REF (m ((c : Thread nD τ).loc main_arg0)) (m ((c : Thread nD τ).loc main_arg1)) (m ((c : Thread nD τ).loc main_arg2)) (m ((c : Thread nD τ).loc main_arg3)) (ix2 ⟨t.val * 256 + r.val, hl⟩ s) := by
  rw [m1_at]
  have ht : t.val < 36 := lt_of_lt_of_eq t.isLt (by decide +kernel)
  exact mix_tie m c t r s 1 (by show s.val / 128 = 1; omega) hl _ _ _ _ (u_tie m c t r s _ (Fin.ext (by show 128 + k.val = s.val; omega)) hl)
    (fun j => by pointwise []) (fun j => nt1 m c t j k s hs _) rfl

theorem mt2 (c : Dev nD) (t : Fin cfg0.N) (r : Fin 256) (k : Fin 128) (s : Fin 512) (hs : s.val = 256 + k.val) (hl : t.val * 256 + r.val < 9216) :
    k0_pay15 (k0_pay2 (X0_0 m c t)) (k0_pay4 (grid0.coords t)) (k0_pay13 (k0_pay3 (X0_0 m c t))) (View.ld (iblk m c 1 t) (Rect.unit ![0, 0, 256] ![1, 1, 128] inb_S1x1x512_S1x1x128_0_0_256))
        (View.ld (iblk m c 2 t) (Rect.unit ![0, 0, 2, 0, 0] ![1, 1, 1, 256, 256] inb_S1x1x4x256x256_S1x1x1x256x256_0_0_2_0_0)) (iblk m c 3 t) (ix2 r k)
      = REF (m ((c : Thread nD τ).loc main_arg0)) (m ((c : Thread nD τ).loc main_arg1)) (m ((c : Thread nD τ).loc main_arg2)) (m ((c : Thread nD τ).loc main_arg3)) (ix2 ⟨t.val * 256 + r.val, hl⟩ s) := by
  rw [m2_at]
  have ht : t.val < 36 := lt_of_lt_of_eq t.isLt (by decide +kernel)
  exact mix_tie m c t r s 2 (by show s.val / 128 = 2; omega) hl _ _ _ _ (u_tie m c t r s _ (Fin.ext (by show 256 + k.val = s.val; omega)) hl)
    (fun j => by pointwise []) (fun j => nt2 m c t j k s hs _) rfl

theorem mt3 (c : Dev nD) (t : Fin cfg0.N) (r : Fin 256) (k : Fin 128) (s : Fin 512) (hs : s.val = 384 + k.val) (hl : t.val * 256 + r.val < 9216) :
    k0_pay1 (k0_pay2 (X0_0 m c t)) (k0_pay4 (grid0.coords t)) (k0_pay16 (k0_pay3 (X0_0 m c t)) (View.ld (iblk m c 1 t) (Rect.unit ![0, 0, 384] ![1, 1, 128] inb_S1x1x512_S1x1x128_0_0_384)))
        (View.ld (iblk m c 2 t) (Rect.unit ![0, 0, 3, 0, 0] ![1, 1, 1, 256, 256] inb_S1x1x4x256x256_S1x1x1x256x256_0_0_3_0_0)) (iblk m c 3 t) (ix2 r k)
      = REF (m ((c : Thread nD τ).loc main_arg0)) (m ((c : Thread nD τ).loc main_arg1)) (m ((c : Thread nD τ).loc main_arg2)) (m ((c : Thread nD τ).loc main_arg3)) (ix2 ⟨t.val * 256 + r.val, hl⟩ s) := by
  rw [m3_at]
  have ht : t.val < 36 := lt_of_lt_of_eq t.isLt (by decide +kernel)
  exact mix_tie m c t r s 3 (by show s.val / 128 = 3; omega) hl _ _ _ _ (u_tie m c t r s _ (Fin.ext (by show 384 + k.val = s.val; omega)) hl)
    (fun j => by pointwise []) (fun j => nt3 m c t j k s hs _) rfl

/-- The normalized rows a point leaves. -/
theorem point5 (c : Dev nD) (t : Fin cfg0.N) (y : S256x512.Idx) (hl : t.val * 256 + (y 0).val < 9216) :
    (outsAt0 m c t).2 y
      = VN (m ((c : Thread nD τ).loc main_arg0)) (m ((c : Thread nD τ).loc main_arg1)) (ix2 ⟨t.val * 256 + (y 0).val, hl⟩ (y 1)) := by
  unfold outsAt0
  frame_out
  canon_tiles x h
  all_goals
    have ha : y 0 = x 0 := Fin.ext h0
    rw [eta x]
    simp only [ha]
  · exact nt3 m c t (x 0) (x 1) (y 1) h1 _
  · exact nt2 m c t (x 0) (x 1) (y 1) h1 _
  · exact nt1 m c t (x 0) (x 1) (y 1) h1 _
  · exact nt0 m c t (x 0) (x 1) (y 1) (h1.trans (Nat.zero_add _).symm) _

/-- The gated rows a point leaves. -/
theorem point4 (c : Dev nD) (t : Fin cfg0.N) (y : S256x512.Idx) (hl : t.val * 256 + (y 0).val < 9216) :
    (outsAt0 m c t).1 y
      = REF (m ((c : Thread nD τ).loc main_arg0)) (m ((c : Thread nD τ).loc main_arg1)) (m ((c : Thread nD τ).loc main_arg2)) (m ((c : Thread nD τ).loc main_arg3)) (ix2 ⟨t.val * 256 + (y 0).val, hl⟩ (y 1)) := by
  unfold outsAt0
  frame_out
  canon_tiles x h
  all_goals
    have ha : y 0 = x 0 := Fin.ext h0
    rw [eta x]
    simp only [ha]
  · exact mt3 m c t (x 0) (x 1) (y 1) h1 _
  · exact mt2 m c t (x 0) (x 1) (y 1) h1 _
  · exact mt1 m c t (x 0) (x 1) (y 1) h1 _
  · exact mt0 m c t (x 0) (x 1) (y 1) (h1.trans (Nat.zero_add _).symm) _

/-- The gated rows the kernel leaves are the reference's term of the arguments. -/
theorem final4 (c : Dev nD) : (dats m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 36 := lt_of_lt_of_eq t.isLt (by decide +kernel)
  have hy0 : (y 0).val < 256 := (y 0).isLt
  have hy1 : (y 1).val < 512 := (y 1).isLt
  have hl : t.val * 256 + (y 0).val < 9216 := by omega
  have he : ((cfg0.win 4).blk t).view.emb y = ix2 ⟨t.val * 256 + (y 0).val, hl⟩ (y 1) := by
    funext d
    match d with
    | 0 => exact Fin.ext (by blk_simp [idx t])
    | 1 => exact Fin.ext (by blk_simp [idx t])
  blk_simp
  rw [after0_4, he]
  exact point4 m c t y hl

/-- The points that write the samples' rows back. -/
theorem late : ∀ t : Fin cfg0.N, (cfg0.win 5).flush t = true → 32 ≤ t.val :=
  (by decide +kernel : ∀ t : Fin grid0.N, win0_5.flush t = true → 32 ≤ t.val)

/-- The samples' normalized rows the kernel leaves are the reference's term of the arguments. -/
theorem final5 (c : Dev nD) : (dats m 0 c).arrAt 5 cfg0.N = REFV (m ((c : Thread nD τ).loc main_arg0)) (m ((c : Thread nD τ).loc main_arg1)) := by
  refine (dats m 0 c).arrAt_eq_of_covers 5 _ (by decide +kernel) fun t hf y => ?_
  have ht : t.val < 36 := lt_of_lt_of_eq t.isLt (by decide +kernel)
  have hlate := late t hf
  have hy0 : (y 0).val < 256 := (y 0).isLt
  have hy1 : (y 1).val < 512 := (y 1).isLt
  have hl : t.val * 256 + (y 0).val < 9216 := by omega
  have hs : (t.val - 32) * 256 + (y 0).val < 1024 := by omega
  have he : ((cfg0.win 5).blk t).view.emb y = ix2 ⟨(t.val - 32) * 256 + (y 0).val, hs⟩ (y 1) := by
    funext d
    match d with
    | 0 => exact Fin.ext (by blk_simp [idx t])
    | 1 => exact Fin.ext (by blk_simp [idx t])
  blk_simp
  rw [after0_5, he]
  refine (point5 m c t y hl).trans ?_
  have e : (⟨t.val * 256 + (y 0).val, hl⟩ : Fin 9216) = ⟨8192 + ((t.val - 32) * 256 + (y 0).val), by omega⟩ :=
    Fin.ext (by show t.val * 256 + (y 0).val = 8192 + ((t.val - 32) * 256 + (y 0).val); omega)
  rw [e]
  pointwise [REFV]

/-- The reference's results on arguments that agree with the kernel's are the arrays the kernel leaves. -/
theorem agree (m' : (ℓ : Loc Cert.GmlpRefIdeal.nD Cert.GmlpRefIdeal.τ Cert.GmlpRefIdeal.sig) → Buf (Elt Ideal) ℓ) (c : Dev nD)
    (h : m' ((c.tc : Thread _ _).loc Cert.GmlpRefIdeal.main_arg0) = m ((c.tc : Thread nD τ).loc main_arg0)
      ∧ m' ((c.tc : Thread _ _).loc Cert.GmlpRefIdeal.main_arg1) = m ((c.tc : Thread nD τ).loc main_arg1)
      ∧ m' ((c.tc : Thread _ _).loc Cert.GmlpRefIdeal.main_arg2) = m ((c.tc : Thread nD τ).loc main_arg2)
      ∧ m' ((c.tc : Thread _ _).loc Cert.GmlpRefIdeal.main_arg3) = m ((c.tc : Thread nD τ).loc main_arg3)) :
    Cert.GmlpRefIdeal.Value.res_main_v89 m' c = (dats m 0 c).arrAt 4 cfg0.N
      ∧ REFV (m' ((c.tc : Thread _ _).loc Cert.GmlpRefIdeal.main_arg0)) (m' ((c.tc : Thread _ _).loc Cert.GmlpRefIdeal.main_arg1)) = (dats m 0 c).arrAt 5 cfg0.N := by
  obtain ⟨h0, h1, h2, h3⟩ := h
  rw [final4 m c, final5 m c, ← h0, ← h1, ← h2, ← h3]
  exact ⟨rfl, rfl⟩

end Cert.GmlpIdeal.Tie
-- ==== Proof.NormpValue.lean ====
module

public import proofs.«01_k».proof.Proof.Gen.NormpIdeal.Value
public import proofs.«01_k».proof.Proof.Gen.NormpRefIdeal.Run
public import Idealize.ShloMosaic.Lib.Pipeline.ValueKit
public import Idealize.ShloMosaic.Lib.Pipeline.ReadBack
public import Idealize.ShloMosaic.Lib.Pointwise

/-! The final normalization call on the prompt' rows: the array the kernel leaves is the reference's. -/

set_option maxRecDepth 16384

@[expose] public section

noncomputable section

open Idealize.ShloMosaic Idealize.ShloMosaic.TcCoe Idealize.SL.Sem
open Idealize.ShloMosaic.Pipeline (Dat)

namespace Cert.NormpRefIdeal.Ref

open Cert.NormpRefIdeal Cert.NormpRefIdeal.Gen

/-- The rows the reference normalizes. -/
def ROWS (X : FVec Ideal S9216x2048 .f32) : FVec Ideal S8192x2048 .f32 :=
  extractStridedSlice S8192x2048 ![0, 0] X slices_S9216x2048_S8192x2048_0_0

/-- The reference's result. -/
def REF (X : FVec Ideal S9216x2048 .f32) (G : FVec Ideal S2048 .f32) : FVec Ideal S8192x2048 .f32 :=
  mulf (mulf (ROWS X) (broadcastInDim S8192x2048 ![0, 1] bcast_S8192x1_S8192x2048_0_1 (Host.rsqrt (addf (Host.divf (broadcastInDim S8192x1 ![0] bcast_S8192_S8192x1_0 (Host.reduceAdd (mulf (ROWS X) (ROWS X)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- One entry of a normalized row `f`, with its gain `g`. -/
def nrm (f : Fin 2048 → EReal) (g : EReal) (k : Fin 2048) : EReal :=
  f k * Ideal.rsqrt (Ideal.div (∑ q, f q * f q) (Ideal.ofBits .f32 0x45000000#32) + Ideal.ofBits .f32 0x358637BD#32) * g

theorem REF_at (X : FVec Ideal S9216x2048 .f32) (G : FVec Ideal S2048 .f32) (r : Fin 8192) (k : Fin 2048) :
    REF X G (ix2 r k) = nrm (fun q => X (ix2 ⟨r.val, by omega⟩ q)) (G (ix1 k)) k := by
  pointwise [REF, ROWS, nrm]

end Cert.NormpRefIdeal.Ref

namespace Cert.NormpIdeal.Tie

open Cert.NormpIdeal Cert.NormpIdeal.Gen Cert.NormpRefIdeal.Ref

variable (m : (ℓ : Loc nD τ sig) → Buf (Elt Ideal) ℓ)

theorem pay_at (x : Vec Ideal S1024x2048 .f32) (g : Vec Ideal S1x2048 .f32) (r : Fin 1024) (k : Fin 2048) :
    k0_pay1 x g (ix2 r k) = nrm (fun q => x (ix2 r q)) (g (ix2 0 k)) k := by
  pointwise [k0_pay1, nrm]

/-- Where each window's block sits at a point of the grid. -/
theorem idx : ∀ t : Fin cfg0.N, win0_0.index t = ![t.val, 0] ∧ win0_1.index t = ![0, 0] ∧ win0_2.index t = ![t.val, 0] :=
  (by decide +kernel : ∀ t : Fin grid0.N, _)

theorem x_at (c : Dev nD) (t : Fin cfg0.N) (r : Fin 1024) (k : Fin 2048) (hl : t.val * 1024 + r.val < 9216) :
    iblk m c 0 t (ix2 r k) = m ((c : Thread nD τ).loc main_arg0) (ix2 ⟨_, hl⟩ k) := by
  blk_ext [iblk, V, idx t]

theorem g_at (c : Dev nD) (t : Fin cfg0.N) (k : Fin 2048) : iblk m c 1 t (ix2 0 k) = m ((c : Thread nD τ).loc main_arg1) (ix1 k) := by
  blk_ext! [iblk, V, idx t]

/-- The array the kernel leaves is the reference's term of the arguments. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  have ht : t.val < 8 := lt_of_lt_of_eq t.isLt (by decide +kernel)
  have hy0 : (y 0).val < 1024 := (y 0).isLt
  have hl : t.val * 1024 + (y 0).val < 8192 := by omega
  have he : ((cfg0.win 2).blk t).view.emb y = ix2 ⟨t.val * 1024 + (y 0).val, hl⟩ (y 1) := by
    funext d
    match d with
    | 0 => exact Fin.ext (by blk_simp [idx t])
    | 1 => exact Fin.ext (by blk_simp [idx t])
  have hy : y = ix2 (y 0) (y 1) := by
    funext d
    match d with
    | 0 => rfl
    | 1 => rfl
  blk_simp
  rw [after0_2]
  frame_out
  rw [he]
  refine Eq.trans ?_ (REF_at _ _ ⟨_, hl⟩ (y 1)).symm
  refine (congrArg _ hy).trans ((pay_at _ _ (y 0) (y 1)).trans ?_)
  rw [g_at m c t (y 1)]
  refine congrArg (fun f => nrm f _ (y 1)) (funext fun q => ?_)
  exact x_at m c t (y 0) q (by omega)

/-- The reference's result on arguments that agree with the kernel's is the array the kernel leaves. -/
theorem agree (m' : (ℓ : Loc Cert.NormpRefIdeal.nD Cert.NormpRefIdeal.τ Cert.NormpRefIdeal.sig) → Buf (Elt Ideal) ℓ) (c : Dev nD)
    (h : m' ((c.tc : Thread _ _).loc Cert.NormpRefIdeal.main_arg0) = m ((c.tc : Thread nD τ).loc main_arg0)
      ∧ m' ((c.tc : Thread _ _).loc Cert.NormpRefIdeal.main_arg1) = m ((c.tc : Thread nD τ).loc main_arg1)) :
    REF (m' ((c.tc : Thread _ _).loc Cert.NormpRefIdeal.main_arg0)) (m' ((c.tc : Thread _ _).loc Cert.NormpRefIdeal.main_arg1)) = (dats m 0 c).arrAt 2 cfg0.N := by
  obtain ⟨h0, h1⟩ := h
  rw [final m c, h0, h1]

end Cert.NormpIdeal.Tie
-- ==== Proof.NormsValue.lean ====
module

public import proofs.«01_k».proof.Proof.Gen.NormsIdeal.Value
public import proofs.«01_k».proof.Proof.Gen.NormsRefIdeal.Run
public import Idealize.ShloMosaic.Lib.Pipeline.ValueKit
public import Idealize.ShloMosaic.Lib.Pipeline.ReadBack
public import Idealize.ShloMosaic.Lib.Pointwise

/-! The final normalization call on the samples' rows: the array the kernel leaves is the reference's. -/

set_option maxRecDepth 16384

@[expose] public section

noncomputable section

open Idealize.ShloMosaic Idealize.ShloMosaic.TcCoe Idealize.SL.Sem
open Idealize.ShloMosaic.Pipeline (Dat)

namespace Cert.NormsRefIdeal.Ref

open Cert.NormsRefIdeal Cert.NormsRefIdeal.Gen

/-- The rows the reference normalizes. -/
def ROWS (X : FVec Ideal S9216x2048 .f32) : FVec Ideal S1024x2048 .f32 :=
  extractStridedSlice S1024x2048 ![8192, 0] X slices_S9216x2048_S1024x2048_8192_0

/-- The reference's result. -/
def REF (X : FVec Ideal S9216x2048 .f32) (G : FVec Ideal S2048 .f32) : FVec Ideal S1024x2048 .f32 :=
  mulf (mulf (ROWS X) (broadcastInDim S1024x2048 ![0, 1] bcast_S1024x1_S1024x2048_0_1 (Host.rsqrt (addf (Host.divf (broadcastInDim S1024x1 ![0] bcast_S1024_S1024x1_0 (Host.reduceAdd (mulf (ROWS X) (ROWS X)) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 G))

/-- One entry of a normalized row `f`, with its gain `g`. -/
def nrm (f : Fin 2048 → EReal) (g : EReal) (k : Fin 2048) : EReal :=
  f k * Ideal.rsqrt (Ideal.div (∑ q, f q * f q) (Ideal.ofBits .f32 0x45000000#32) + Ideal.ofBits .f32 0x358637BD#32) * g

theorem REF_at (X : FVec Ideal S9216x2048 .f32) (G : FVec Ideal S2048 .f32) (r : Fin 1024) (k : Fin 2048) :
    REF X G (ix2 r k) = nrm (fun q => X (ix2 ⟨8192 + r.val, by omega⟩ q)) (G (ix1 k)) k := by
  pointwise [REF, ROWS, nrm]

end Cert.NormsRefIdeal.Ref

namespace Cert.NormsIdeal.Tie

open Cert.NormsIdeal Cert.NormsIdeal.Gen Cert.NormsRefIdeal.Ref

variable (m : (ℓ : Loc nD τ sig) → Buf (Elt Ideal) ℓ)

theorem pay_at (x : Vec Ideal S1024x2048 .f32) (g : Vec Ideal S1x2048 .f32) (r : Fin 1024) (k : Fin 2048) :
    k0_pay1 x g (ix2 r k) = nrm (fun q => x (ix2 r q)) (g (ix2 0 k)) k := by
  pointwise [k0_pay1, nrm]

/-- Where each window's block sits at a point of the grid. -/
theorem idx : ∀ t : Fin cfg0.N, win0_0.index t = ![8 + t.val, 0] ∧ win0_1.index t = ![0, 0] ∧ win0_2.index t = ![t.val, 0] :=
  (by decide +kernel : ∀ t : Fin grid0.N, _)

theorem x_at (c : Dev nD) (t : Fin cfg0.N) (r : Fin 1024) (k : Fin 2048) (hl : 8192 + (t.val * 1024 + r.val) < 9216) :
    iblk m c 0 t (ix2 r k) = m ((c : Thread nD τ).loc main_arg0) (ix2 ⟨_, hl⟩ k) := by
  blk_ext [iblk, V, idx t]

theorem g_at (c : Dev nD) (t : Fin cfg0.N) (k : Fin 2048) : iblk m c 1 t (ix2 0 k) = m ((c : Thread nD τ).loc main_arg1) (ix1 k) := by
  blk_ext! [iblk, V, idx t]

/-- The array the kernel leaves is the reference's term of the arguments. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  have ht : t.val < 1 := lt_of_lt_of_eq t.isLt (by decide +kernel)
  have hy0 : (y 0).val < 1024 := (y 0).isLt
  have hl : t.val * 1024 + (y 0).val < 1024 := by omega
  have he : ((cfg0.win 2).blk t).view.emb y = ix2 ⟨t.val * 1024 + (y 0).val, hl⟩ (y 1) := by
    funext d
    match d with
    | 0 => exact Fin.ext (by blk_simp [idx t])
    | 1 => exact Fin.ext (by blk_simp [idx t])
  have hy : y = ix2 (y 0) (y 1) := by
    funext d
    match d with
    | 0 => rfl
    | 1 => rfl
  blk_simp
  rw [after0_2]
  frame_out
  rw [he]
  refine Eq.trans ?_ (REF_at _ _ ⟨_, hl⟩ (y 1)).symm
  refine (congrArg _ hy).trans ((pay_at _ _ (y 0) (y 1)).trans ?_)
  rw [g_at m c t (y 1)]
  refine congrArg (fun f => nrm f _ (y 1)) (funext fun q => ?_)
  exact x_at m c t (y 0) q (by omega)

/-- The reference's result on arguments that agree with the kernel's is the array the kernel leaves. -/
theorem agree (m' : (ℓ : Loc Cert.NormsRefIdeal.nD Cert.NormsRefIdeal.τ Cert.NormsRefIdeal.sig) → Buf (Elt Ideal) ℓ) (c : Dev nD)
    (h : m' ((c.tc : Thread _ _).loc Cert.NormsRefIdeal.main_arg0) = m ((c.tc : Thread nD τ).loc main_arg0)
      ∧ m' ((c.tc : Thread _ _).loc Cert.NormsRefIdeal.main_arg1) = m ((c.tc : Thread nD τ).loc main_arg1)) :
    REF (m' ((c.tc : Thread _ _).loc Cert.NormsRefIdeal.main_arg0)) (m' ((c.tc : Thread _ _).loc Cert.NormsRefIdeal.main_arg1)) = (dats m 0 c).arrAt 2 cfg0.N := by
  obtain ⟨h0, h1⟩ := h
  rw [final m c, h0, h1]

end Cert.NormsIdeal.Tie
-- ==== Proof.GlaIdealRun.lean ====
module

public import proofs.«01_k».proof.Proof.Gen.GlaIdeal.Frame
public import proofs.«01_k».proof.Proof.Gen.GlaIdeal.Skeleton

@[expose] public section

set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- One staging buffer of each output window: the view its contents are stated through. -/
abbrev VO0_9 : View sig .tc .vmem S256x768 .bf16 := (Memref.whole cc0_stg9_0 : Memref sig .tc .vmem S256x768 .bf16).view
abbrev VO0_10 : View sig .tc .vmem S4x6x64x128 .f32 := (Memref.whole cc0_stg10_0 : Memref sig .tc .vmem S4x6x64x128 .f32).view
/-- Each window's staging memref at point `t`, and its wholeness. -/
abbrev ms0_0 (t : Fin cfg0.N) : Memref sig .tc .vmem S256x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x384 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4x6x64x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x6x64x128 .f32 := win0_10.stage (cfg0.slots t 10)
abbrev hs0_10 (t : Fin cfg0.N) : (ms0_10 t).IsWhole := hstage0_10 ((cfg0.slots t 10).cast nbuf0_10)
/-- The scratch the kernel carries between points, as a whole memref and as a view. -/
abbrev scM0_0 : Memref sig .tc .vmem S6x128x64 .f32 := Memref.whole cc0_scratch0
abbrev VS0_0 : View sig .tc .vmem S6x128x64 .f32 := scM0_0.view

/-- The class's invariant with the scratch as a memref owned at some contents. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

set_option maxHeartbeats 8000000 in
/-- One run of the body, the scratch found at `xs0`: the stores it makes into the two outputs and the scratch (last
    first), with the proof that it ends with the inputs as they were and those stores made. -/
noncomputable def kernelRun0 (c : Dev nD) (i : grid0.Coords) (arg1 : Memref sig .tc .vmem S256x384 .f32) (harg1 : arg1.IsWhole) (arg2 : Memref sig .tc .vmem S256x384 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x128 .f32) (harg5 : arg5.IsWhole) (arg6 : Memref sig .tc .vmem S1x16x384 .bf16) (harg6 : arg6.IsWhole) (arg7 : Memref sig .tc .vmem S1x1x384 .f32) (harg7 : arg7.IsWhole) (arg8 : Memref sig .tc .vmem S1x1x768 .f32) (harg8 : arg8.IsWhole) (arg9 : Memref sig .tc .vmem S1x4x6x64x128 .f32) (harg9 : arg9.IsWhole) (arg10 : Memref sig .tc .vmem S256x768 .bf16) (harg10 : arg10.IsWhole) (arg11 : Memref sig .tc .vmem S4x6x64x128 .f32) (harg11 : arg11.IsWhole) (arg12 : Memref sig .tc .vmem S6x128x64 .f32) (harg12 : arg12.IsWhole)
    (x0 : Vec F S256x384 .f32) (x1 : Vec F S256x384 .f32) (x2 : Vec F S256x768 .f32) (x3 : Vec F S256x768 .f32) (x4 : Vec F S256x128 .f32) (x5 : Vec F S1x16x384 .bf16) (x6 : Vec F S1x1x384 .f32) (x7 : Vec F S1x1x768 .f32) (x8 : Vec F S1x4x6x64x128 .f32) (xs0 : Vec F S6x128x64 .f32) :
    Σ' (L9 : List (View.Piece (Elt F) S256x768 .bf16)) (L10 : List (View.Piece (Elt F) S4x6x64x128 .f32)), { LS0 : List (View.Piece (Elt F) S6x128x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_gla i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_gla_eq_skeleton]; unfold cc0_gla_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.GlaIdeal.Gen

end
-- ==== Proof.GlaIdealFrame.lean ====
module

public import proofs.«01_k».proof.Proof.GlaIdealRun
public import Idealize.ShloMosaic.Lib.Claim

@[expose] public section

set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores into output 9 cover it. -/
theorem cover0_9 (c : Dev nD) (i : grid0.Coords) (arg1 : Memref sig .tc .vmem S256x384 .f32) (harg1 : arg1.IsWhole) (arg2 : Memref sig .tc .vmem S256x384 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x128 .f32) (harg5 : arg5.IsWhole) (arg6 : Memref sig .tc .vmem S1x16x384 .bf16) (harg6 : arg6.IsWhole) (arg7 : Memref sig .tc .vmem S1x1x384 .f32) (harg7 : arg7.IsWhole) (arg8 : Memref sig .tc .vmem S1x1x768 .f32) (harg8 : arg8.IsWhole) (arg9 : Memref sig .tc .vmem S1x4x6x64x128 .f32) (harg9 : arg9.IsWhole) (arg10 : Memref sig .tc .vmem S256x768 .bf16) (harg10 : arg10.IsWhole) (arg11 : Memref sig .tc .vmem S4x6x64x128 .f32) (harg11 : arg11.IsWhole) (arg12 : Memref sig .tc .vmem S6x128x64 .f32) (harg12 : arg12.IsWhole)
    (x0 : Vec F S256x384 .f32) (x1 : Vec F S256x384 .f32) (x2 : Vec F S256x768 .f32) (x3 : Vec F S256x768 .f32) (x4 : Vec F S256x128 .f32) (x5 : Vec F S1x16x384 .bf16) (x6 : Vec F S1x1x384 .f32) (x7 : Vec F S1x1x768 .f32) (x8 : Vec F S1x4x6x64x128 .f32) (xs0 : Vec F S6x128x64 .f32) (y : S256x768.Idx) :
    ∃ pc ∈ (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).1, y ∈ pc.1.set :=
  View.cover_of_tiledL (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).1 S256x128.size (by sl_kernel_rfl) y

/-- The stores into output 10 cover it. -/
theorem cover0_10 (c : Dev nD) (i : grid0.Coords) (arg1 : Memref sig .tc .vmem S256x384 .f32) (harg1 : arg1.IsWhole) (arg2 : Memref sig .tc .vmem S256x384 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x128 .f32) (harg5 : arg5.IsWhole) (arg6 : Memref sig .tc .vmem S1x16x384 .bf16) (harg6 : arg6.IsWhole) (arg7 : Memref sig .tc .vmem S1x1x384 .f32) (harg7 : arg7.IsWhole) (arg8 : Memref sig .tc .vmem S1x1x768 .f32) (harg8 : arg8.IsWhole) (arg9 : Memref sig .tc .vmem S1x4x6x64x128 .f32) (harg9 : arg9.IsWhole) (arg10 : Memref sig .tc .vmem S256x768 .bf16) (harg10 : arg10.IsWhole) (arg11 : Memref sig .tc .vmem S4x6x64x128 .f32) (harg11 : arg11.IsWhole) (arg12 : Memref sig .tc .vmem S6x128x64 .f32) (harg12 : arg12.IsWhole)
    (x0 : Vec F S256x384 .f32) (x1 : Vec F S256x384 .f32) (x2 : Vec F S256x768 .f32) (x3 : Vec F S256x768 .f32) (x4 : Vec F S256x128 .f32) (x5 : Vec F S1x16x384 .bf16) (x6 : Vec F S1x1x384 .f32) (x7 : Vec F S1x1x768 .f32) (x8 : Vec F S1x4x6x64x128 .f32) (xs0 : Vec F S6x128x64 .f32) (y : S4x6x64x128.Idx) :
    ∃ pc ∈ (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).2.1, y ∈ pc.1.set :=
  View.cover_of_tiledL (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).2.1 S1x1x64x128.size (by sl_kernel_rfl) y

/-- The stores into the scratch cover it. -/
theorem cover0_s (c : Dev nD) (i : grid0.Coords) (arg1 : Memref sig .tc .vmem S256x384 .f32) (harg1 : arg1.IsWhole) (arg2 : Memref sig .tc .vmem S256x384 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x128 .f32) (harg5 : arg5.IsWhole) (arg6 : Memref sig .tc .vmem S1x16x384 .bf16) (harg6 : arg6.IsWhole) (arg7 : Memref sig .tc .vmem S1x1x384 .f32) (harg7 : arg7.IsWhole) (arg8 : Memref sig .tc .vmem S1x1x768 .f32) (harg8 : arg8.IsWhole) (arg9 : Memref sig .tc .vmem S1x4x6x64x128 .f32) (harg9 : arg9.IsWhole) (arg10 : Memref sig .tc .vmem S256x768 .bf16) (harg10 : arg10.IsWhole) (arg11 : Memref sig .tc .vmem S4x6x64x128 .f32) (harg11 : arg11.IsWhole) (arg12 : Memref sig .tc .vmem S6x128x64 .f32) (harg12 : arg12.IsWhole)
    (x0 : Vec F S256x384 .f32) (x1 : Vec F S256x384 .f32) (x2 : Vec F S256x768 .f32) (x3 : Vec F S256x768 .f32) (x4 : Vec F S256x128 .f32) (x5 : Vec F S1x16x384 .bf16) (x6 : Vec F S1x1x384 .f32) (x7 : Vec F S1x1x768 .f32) (x8 : Vec F S1x4x6x64x128 .f32) (xs0 : Vec F S6x128x64 .f32) (y : S6x128x64.Idx) :
    ∃ pc ∈ (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).2.2.1, y ∈ pc.1.set :=
  View.cover_of_tiledL (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).2.2.1 S1x128x64.size (by sl_kernel_rfl) y

/-- What one run leaves in the two outputs and the scratch. -/
def step0 (c : Dev nD) (i : grid0.Coords) (arg1 : Memref sig .tc .vmem S256x384 .f32) (harg1 : arg1.IsWhole) (arg2 : Memref sig .tc .vmem S256x384 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x128 .f32) (harg5 : arg5.IsWhole) (arg6 : Memref sig .tc .vmem S1x16x384 .bf16) (harg6 : arg6.IsWhole) (arg7 : Memref sig .tc .vmem S1x1x384 .f32) (harg7 : arg7.IsWhole) (arg8 : Memref sig .tc .vmem S1x1x768 .f32) (harg8 : arg8.IsWhole) (arg9 : Memref sig .tc .vmem S1x4x6x64x128 .f32) (harg9 : arg9.IsWhole) (arg10 : Memref sig .tc .vmem S256x768 .bf16) (harg10 : arg10.IsWhole) (arg11 : Memref sig .tc .vmem S4x6x64x128 .f32) (harg11 : arg11.IsWhole) (arg12 : Memref sig .tc .vmem S6x128x64 .f32) (harg12 : arg12.IsWhole)
    (x0 : Vec F S256x384 .f32) (x1 : Vec F S256x384 .f32) (x2 : Vec F S256x768 .f32) (x3 : Vec F S256x768 .f32) (x4 : Vec F S256x128 .f32) (x5 : Vec F S1x16x384 .bf16) (x6 : Vec F S1x1x384 .f32) (x7 : Vec F S1x1x768 .f32) (x8 : Vec F S1x4x6x64x128 .f32) (xs0 : Vec F S6x128x64 .f32) : Vec F S256x768 .bf16 × Vec F S4x6x64x128 .f32 × Vec F S6x128x64 .f32 :=
  (VO0_9.read (Elt F) (VO0_9.writes (Elt F) VO0_9.junk (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).1),
   VO0_10.read (Elt F) (VO0_10.writes (Elt F) VO0_10.junk (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).2.1),
   VS0_0.read (Elt F) (VS0_0.writes (Elt F) VS0_0.junk (kernelRun0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).2.2.1))

/-- At the first point the start bit is set. -/
theorem first_bit (v : BitVec 1) : Scalar.ori v (Scalar.andi (Scalar.cmpi .eq 0#32 0#32) 1#1) = 1#1 := by
  revert v; decide

/-- A placeholder for a scratch that is not looked at. -/
abbrev Z1 : Vec F S1x128x64 .f32 := (broadcast S1x128x64 (Scalar.ofBits .f32 0x00000000#32 : F .f32) : FVec F S1x128x64 .f32)

theorem select_one {α : Type} (x y : α) : Scalar.select 1#1 x y = x := if_pos rfl

abbrev Z2 : FVec F S128x64 .f32 := k0_pay64 Z1

section
variable (i : grid0.Coords) (hi : (i 0).val = 0)
include hi

theorem k0_pay21_first (v0 : BitVec 1) (v100 : Vec F S1x128x64 .f32) (v105 : Vec F S1x1x1x64x128 .f32) :
    k0_pay21 (BitVec.ofNat 32 (i 0).val) v0 v100 v105 = k0_pay21 0#32 v0 Z1 v105 := by
  rw [hi]; unfold k0_pay21; simp only [first_bit, select_one]

theorem k0_pay22_first (v0 : BitVec 1) (v77 : FVec F S256x384 .bf16) (v100 : Vec F S1x128x64 .f32) (v105 : Vec F S1x1x1x64x128 .f32) :
    k0_pay22 (BitVec.ofNat 32 (i 0).val) v0 v77 v100 v105 = k0_pay22 0#32 v0 v77 Z1 v105 := by
  unfold k0_pay22; simp only [k0_pay21_first i hi]

theorem k0_pay23_first (v0 : BitVec 1) (v89 : FVec F S256x384 .bf16) (v90 : FVec F S256x384 .f32) (v91 : Vec F S256x128 .f32) (v100 : Vec F S1x128x64 .f32) (v105 : Vec F S1x1x1x64x128 .f32) :
    k0_pay23 (BitVec.ofNat 32 (i 0).val) v0 v89 v90 v91 v100 v105 = k0_pay23 0#32 v0 v89 v90 v91 Z1 v105 := by
  unfold k0_pay23; simp only [k0_pay21_first i hi]

theorem k0_pay24_first (v0 : BitVec 1) (v89 : FVec F S256x384 .bf16) (v90 : FVec F S256x384 .f32) (v91 : Vec F S256x128 .f32) (v100 : Vec F S1x128x64 .f32) (v105 : Vec F S1x1x1x64x128 .f32) :
    k0_pay24 (BitVec.ofNat 32 (i 0).val) v0 v89 v90 v91 v100 v105 = k0_pay24 0#32 v0 v89 v90 v91 Z1 v105 := by
  unfold k0_pay24; simp only [k0_pay23_first i hi]

theorem k0_pay41_first (v0 : BitVec 1) (v220 : Vec F S1x128x64 .f32) (v225 : Vec F S1x1x1x64x128 .f32) :
    k0_pay41 (BitVec.ofNat 32 (i 0).val) v0 v220 v225 = k0_pay41 0#32 v0 Z1 v225 := by
  rw [hi]; unfold k0_pay41; simp only [first_bit, select_one]

theorem k0_pay42_first (v0 : BitVec 1) (v77 : FVec F S256x384 .bf16) (v220 : Vec F S1x128x64 .f32) (v225 : Vec F S1x1x1x64x128 .f32) :
    k0_pay42 (BitVec.ofNat 32 (i 0).val) v0 v77 v220 v225 = k0_pay42 0#32 v0 v77 Z1 v225 := by
  unfold k0_pay42; simp only [k0_pay41_first i hi]

theorem k0_pay43_first (v0 : BitVec 1) (v90 : FVec F S256x384 .f32) (v220 : Vec F S1x128x64 .f32) (v225 : Vec F S1x1x1x64x128 .f32) :
    k0_pay43 (BitVec.ofNat 32 (i 0).val) v0 v90 v220 v225 = k0_pay43 0#32 v0 v90 Z1 v225 := by
  unfold k0_pay43; simp only [k0_pay41_first i hi]

theorem k0_pay65_first (v0 : BitVec 1) (v341 : FVec F S128x64 .f32) (v345 : Vec F S1x1x1x64x128 .f32) :
    k0_pay65 v341 (Scalar.ori v0 (Scalar.andi (Scalar.cmpi .eq (BitVec.ofNat 32 (i 0).val) 0#32) 1#1)) v345 = k0_pay65 Z2 1#1 v345 := by
  rw [hi, first_bit]; unfold k0_pay65; simp only [select_one]

theorem k0_pay66_first (v0 : BitVec 1) (v77 : FVec F S256x384 .bf16) (v341 : FVec F S128x64 .f32) (v345 : Vec F S1x1x1x64x128 .f32) :
    k0_pay66 v77 v341 (Scalar.ori v0 (Scalar.andi (Scalar.cmpi .eq (BitVec.ofNat 32 (i 0).val) 0#32) 1#1)) v345 = k0_pay66 v77 Z2 1#1 v345 := by
  unfold k0_pay66; simp only [k0_pay65_first i hi]

theorem k0_pay67_first (v0 : BitVec 1) (v89 : FVec F S256x384 .bf16) (v90 : FVec F S256x384 .f32) (v332 : FVec F S256x128 .bf16) (v341 : FVec F S128x64 .f32) (v345 : Vec F S1x1x1x64x128 .f32) :
    k0_pay67 v89 v90 v332 v341 (Scalar.ori v0 (Scalar.andi (Scalar.cmpi .eq (BitVec.ofNat 32 (i 0).val) 0#32) 1#1)) v345 = k0_pay67 v89 v90 v332 Z2 1#1 v345 := by
  unfold k0_pay67; simp only [k0_pay65_first i hi]

theorem k0_pay68_first (v0 : BitVec 1) (v89 : FVec F S256x384 .bf16) (v90 : FVec F S256x384 .f32) (v332 : FVec F S256x128 .bf16) (v341 : FVec F S128x64 .f32) (v345 : Vec F S1x1x1x64x128 .f32) :
    k0_pay68 v89 v90 v332 v341 (Scalar.ori v0 (Scalar.andi (Scalar.cmpi .eq (BitVec.ofNat 32 (i 0).val) 0#32) 1#1)) v345 = k0_pay68 v89 v90 v332 Z2 1#1 v345 := by
  unfold k0_pay68; simp only [k0_pay67_first i hi]

theorem k0_pay69_first (arg0 : BitVec 32) (v0 : BitVec 1) (v89 : FVec F S256x384 .bf16) (v90 : FVec F S256x384 .f32) (v332 : FVec F S256x128 .bf16) (v341 : FVec F S128x64 .f32) (v345 : Vec F S1x1x1x64x128 .f32) (v366 : Vec F S1x1x1x64x128 .f32) :
    k0_pay69 arg0 v0 v89 v90 v332 v341 (Scalar.ori v0 (Scalar.andi (Scalar.cmpi .eq (BitVec.ofNat 32 (i 0).val) 0#32) 1#1)) v345 v366 = k0_pay69 arg0 v0 v89 v90 v332 Z2 1#1 v345 v366 := by
  unfold k0_pay69; simp only [k0_pay67_first i hi]

theorem k0_pay70_first (arg0 : BitVec 32) (v0 : BitVec 1) (v77 : FVec F S256x384 .bf16) (v89 : FVec F S256x384 .bf16) (v90 : FVec F S256x384 .f32) (v332 : FVec F S256x128 .bf16) (v341 : FVec F S128x64 .f32) (v345 : Vec F S1x1x1x64x128 .f32) (v366 : Vec F S1x1x1x64x128 .f32) :
    k0_pay70 arg0 v0 v77 v89 v90 v332 v341 (Scalar.ori v0 (Scalar.andi (Scalar.cmpi .eq (BitVec.ofNat 32 (i 0).val) 0#32) 1#1)) v345 v366 = k0_pay70 arg0 v0 v77 v89 v90 v332 Z2 1#1 v345 v366 := by
  unfold k0_pay70; simp only [k0_pay69_first i hi]

theorem k0_pay71_first (arg0 : BitVec 32) (v0 : BitVec 1) (v89 : FVec F S256x384 .bf16) (v90 : FVec F S256x384 .f32) (v332 : FVec F S256x128 .bf16) (v341 : FVec F S128x64 .f32) (v345 : Vec F S1x1x1x64x128 .f32) (v366 : Vec F S1x1x1x64x128 .f32) :
    k0_pay71 arg0 v0 v89 v90 v332 v341 (Scalar.ori v0 (Scalar.andi (Scalar.cmpi .eq (BitVec.ofNat 32 (i 0).val) 0#32) 1#1)) v345 v366 = k0_pay71 arg0 v0 v89 v90 v332 Z2 1#1 v345 v366 := by
  unfold k0_pay71; simp only [k0_pay69_first i hi]

theorem k0_pay72_first (arg0 : BitVec 32) (v0 : BitVec 1) (v89 : FVec F S256x384 .bf16) (v90 : FVec F S256x384 .f32) (v332 : FVec F S256x128 .bf16) (v341 : FVec F S128x64 .f32) (v345 : Vec F S1x1x1x64x128 .f32) (v366 : Vec F S1x1x1x64x128 .f32) :
    k0_pay72 arg0 v0 v89 v90 v332 v341 (Scalar.ori v0 (Scalar.andi (Scalar.cmpi .eq (BitVec.ofNat 32 (i 0).val) 0#32) 1#1)) v345 v366 = k0_pay72 arg0 v0 v89 v90 v332 Z2 1#1 v345 v366 := by
  unfold k0_pay72; simp only [k0_pay71_first i hi]

theorem k0_pay89_first (v0 : BitVec 1) (v460 : Vec F S1x128x64 .f32) (v465 : Vec F S1x1x1x64x128 .f32) :
    k0_pay89 (BitVec.ofNat 32 (i 0).val) v0 v460 v465 = k0_pay89 0#32 v0 Z1 v465 := by
  rw [hi]; unfold k0_pay89; simp only [first_bit, select_one]

theorem k0_pay90_first (v0 : BitVec 1) (v77 : FVec F S256x384 .bf16) (v460 : Vec F S1x128x64 .f32) (v465 : Vec F S1x1x1x64x128 .f32) :
    k0_pay90 (BitVec.ofNat 32 (i 0).val) v0 v77 v460 v465 = k0_pay90 0#32 v0 v77 Z1 v465 := by
  unfold k0_pay90; simp only [k0_pay89_first i hi]

theorem k0_pay91_first (v0 : BitVec 1) (v89 : FVec F S256x384 .bf16) (v90 : FVec F S256x384 .f32) (v452 : FVec F S256x128 .bf16) (v460 : Vec F S1x128x64 .f32) (v465 : Vec F S1x1x1x64x128 .f32) :
    k0_pay91 (BitVec.ofNat 32 (i 0).val) v0 v89 v90 v452 v460 v465 = k0_pay91 0#32 v0 v89 v90 v452 Z1 v465 := by
  unfold k0_pay91; simp only [k0_pay89_first i hi]

theorem k0_pay92_first (v0 : BitVec 1) (v89 : FVec F S256x384 .bf16) (v90 : FVec F S256x384 .f32) (v452 : FVec F S256x128 .bf16) (v460 : Vec F S1x128x64 .f32) (v465 : Vec F S1x1x1x64x128 .f32) :
    k0_pay92 (BitVec.ofNat 32 (i 0).val) v0 v89 v90 v452 v460 v465 = k0_pay92 0#32 v0 v89 v90 v452 Z1 v465 := by
  unfold k0_pay92; simp only [k0_pay91_first i hi]

theorem k0_pay111_first (v0 : BitVec 1) (v580 : Vec F S1x128x64 .f32) (v585 : Vec F S1x1x1x64x128 .f32) :
    k0_pay111 (BitVec.ofNat 32 (i 0).val) v0 v580 v585 = k0_pay111 0#32 v0 Z1 v585 := by
  rw [hi]; unfold k0_pay111; simp only [first_bit, select_one]

theorem k0_pay112_first (v0 : BitVec 1) (v77 : FVec F S256x384 .bf16) (v580 : Vec F S1x128x64 .f32) (v585 : Vec F S1x1x1x64x128 .f32) :
    k0_pay112 (BitVec.ofNat 32 (i 0).val) v0 v77 v580 v585 = k0_pay112 0#32 v0 v77 Z1 v585 := by
  unfold k0_pay112; simp only [k0_pay111_first i hi]

theorem k0_pay113_first (v0 : BitVec 1) (v89 : FVec F S256x384 .bf16) (v90 : FVec F S256x384 .f32) (v571 : Vec F S256x128 .f32) (v580 : Vec F S1x128x64 .f32) (v585 : Vec F S1x1x1x64x128 .f32) :
    k0_pay113 (BitVec.ofNat 32 (i 0).val) v0 v89 v90 v571 v580 v585 = k0_pay113 0#32 v0 v89 v90 v571 Z1 v585 := by
  unfold k0_pay113; simp only [k0_pay111_first i hi]

theorem k0_pay114_first (v0 : BitVec 1) (v89 : FVec F S256x384 .bf16) (v90 : FVec F S256x384 .f32) (v571 : Vec F S256x128 .f32) (v580 : Vec F S1x128x64 .f32) (v585 : Vec F S1x1x1x64x128 .f32) :
    k0_pay114 (BitVec.ofNat 32 (i 0).val) v0 v89 v90 v571 v580 v585 = k0_pay114 0#32 v0 v89 v90 v571 Z1 v585 := by
  unfold k0_pay114; simp only [k0_pay113_first i hi]

theorem k0_pay133_first (v0 : BitVec 1) (v701 : FVec F S128x64 .f32) (v705 : Vec F S1x1x1x64x128 .f32) :
    k0_pay133 v701 (Scalar.ori v0 (Scalar.andi (Scalar.cmpi .eq (BitVec.ofNat 32 (i 0).val) 0#32) 1#1)) v705 = k0_pay133 Z2 1#1 v705 := by
  rw [hi, first_bit]; unfold k0_pay133; simp only [select_one]

theorem k0_pay134_first (v0 : BitVec 1) (v77 : FVec F S256x384 .bf16) (v701 : FVec F S128x64 .f32) (v705 : Vec F S1x1x1x64x128 .f32) :
    k0_pay134 v77 v701 (Scalar.ori v0 (Scalar.andi (Scalar.cmpi .eq (BitVec.ofNat 32 (i 0).val) 0#32) 1#1)) v705 = k0_pay134 v77 Z2 1#1 v705 := by
  unfold k0_pay134; simp only [k0_pay133_first i hi]

theorem k0_pay135_first (v0 : BitVec 1) (v89 : FVec F S256x384 .bf16) (v90 : FVec F S256x384 .f32) (v692 : FVec F S256x128 .bf16) (v701 : FVec F S128x64 .f32) (v705 : Vec F S1x1x1x64x128 .f32) :
    k0_pay135 v89 v90 v692 v701 (Scalar.ori v0 (Scalar.andi (Scalar.cmpi .eq (BitVec.ofNat 32 (i 0).val) 0#32) 1#1)) v705 = k0_pay135 v89 v90 v692 Z2 1#1 v705 := by
  unfold k0_pay135; simp only [k0_pay133_first i hi]

theorem k0_pay136_first (v0 : BitVec 1) (v89 : FVec F S256x384 .bf16) (v90 : FVec F S256x384 .f32) (v692 : FVec F S256x128 .bf16) (v701 : FVec F S128x64 .f32) (v705 : Vec F S1x1x1x64x128 .f32) :
    k0_pay136 v89 v90 v692 v701 (Scalar.ori v0 (Scalar.andi (Scalar.cmpi .eq (BitVec.ofNat 32 (i 0).val) 0#32) 1#1)) v705 = k0_pay136 v89 v90 v692 Z2 1#1 v705 := by
  unfold k0_pay136; simp only [k0_pay135_first i hi]

theorem k0_pay137_first (arg0 : BitVec 32) (v0 : BitVec 1) (v89 : FVec F S256x384 .bf16) (v90 : FVec F S256x384 .f32) (v692 : FVec F S256x128 .bf16) (v701 : FVec F S128x64 .f32) (v705 : Vec F S1x1x1x64x128 .f32) (v726 : Vec F S1x1x1x64x128 .f32) :
    k0_pay137 arg0 v0 v89 v90 v692 v701 (Scalar.ori v0 (Scalar.andi (Scalar.cmpi .eq (BitVec.ofNat 32 (i 0).val) 0#32) 1#1)) v705 v726 = k0_pay137 arg0 v0 v89 v90 v692 Z2 1#1 v705 v726 := by
  unfold k0_pay137; simp only [k0_pay135_first i hi]

theorem k0_pay138_first (arg0 : BitVec 32) (v0 : BitVec 1) (v77 : FVec F S256x384 .bf16) (v89 : FVec F S256x384 .bf16) (v90 : FVec F S256x384 .f32) (v692 : FVec F S256x128 .bf16) (v701 : FVec F S128x64 .f32) (v705 : Vec F S1x1x1x64x128 .f32) (v726 : Vec F S1x1x1x64x128 .f32) :
    k0_pay138 arg0 v0 v77 v89 v90 v692 v701 (Scalar.ori v0 (Scalar.andi (Scalar.cmpi .eq (BitVec.ofNat 32 (i 0).val) 0#32) 1#1)) v705 v726 = k0_pay138 arg0 v0 v77 v89 v90 v692 Z2 1#1 v705 v726 := by
  unfold k0_pay138; simp only [k0_pay137_first i hi]

theorem k0_pay139_first (arg0 : BitVec 32) (v0 : BitVec 1) (v89 : FVec F S256x384 .bf16) (v90 : FVec F S256x384 .f32) (v692 : FVec F S256x128 .bf16) (v701 : FVec F S128x64 .f32) (v705 : Vec F S1x1x1x64x128 .f32) (v726 : Vec F S1x1x1x64x128 .f32) :
    k0_pay139 arg0 v0 v89 v90 v692 v701 (Scalar.ori v0 (Scalar.andi (Scalar.cmpi .eq (BitVec.ofNat 32 (i 0).val) 0#32) 1#1)) v705 v726 = k0_pay139 arg0 v0 v89 v90 v692 Z2 1#1 v705 v726 := by
  unfold k0_pay139; simp only [k0_pay137_first i hi]

theorem k0_pay140_first (arg0 : BitVec 32) (v0 : BitVec 1) (v89 : FVec F S256x384 .bf16) (v90 : FVec F S256x384 .f32) (v692 : FVec F S256x128 .bf16) (v701 : FVec F S128x64 .f32) (v705 : Vec F S1x1x1x64x128 .f32) (v726 : Vec F S1x1x1x64x128 .f32) :
    k0_pay140 arg0 v0 v89 v90 v692 v701 (Scalar.ori v0 (Scalar.andi (Scalar.cmpi .eq (BitVec.ofNat 32 (i 0).val) 0#32) 1#1)) v705 v726 = k0_pay140 arg0 v0 v89 v90 v692 Z2 1#1 v705 v726 := by
  unfold k0_pay140; simp only [k0_pay139_first i hi]

set_option maxHeartbeats 4000000 in
/-- At the first point the scratch's former contents do not enter. -/
theorem step0_first (c : Dev nD) (arg1 : Memref sig .tc .vmem S256x384 .f32) (harg1 : arg1.IsWhole) (arg2 : Memref sig .tc .vmem S256x384 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x128 .f32) (harg5 : arg5.IsWhole) (arg6 : Memref sig .tc .vmem S1x16x384 .bf16) (harg6 : arg6.IsWhole) (arg7 : Memref sig .tc .vmem S1x1x384 .f32) (harg7 : arg7.IsWhole) (arg8 : Memref sig .tc .vmem S1x1x768 .f32) (harg8 : arg8.IsWhole) (arg9 : Memref sig .tc .vmem S1x4x6x64x128 .f32) (harg9 : arg9.IsWhole) (arg10 : Memref sig .tc .vmem S256x768 .bf16) (harg10 : arg10.IsWhole) (arg11 : Memref sig .tc .vmem S4x6x64x128 .f32) (harg11 : arg11.IsWhole) (arg12 : Memref sig .tc .vmem S6x128x64 .f32) (harg12 : arg12.IsWhole)
    (x0 : Vec F S256x384 .f32) (x1 : Vec F S256x384 .f32) (x2 : Vec F S256x768 .f32) (x3 : Vec F S256x768 .f32) (x4 : Vec F S256x128 .f32) (x5 : Vec F S1x16x384 .bf16) (x6 : Vec F S1x1x384 .f32) (x7 : Vec F S1x1x768 .f32) (x8 : Vec F S1x4x6x64x128 .f32) (xs0 xs1 : Vec F S6x128x64 .f32) :
    step0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0 = step0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs1 := by
  unfold step0
  dsimp only [kernelRun0]
  simp only [kernelRun0.sl.r_11, kernelRun0.sl.r_12, kernelRun0.sl.r_13, kernelRun0.sl.r_14, kernelRun0.sl.r_15, kernelRun0.sl.r_16, kernelRun0.sl.r_17, kernelRun0.sl.r_20, kernelRun0.sl.r_21, kernelRun0.sl.r_23, kernelRun0.sl.r_24, kernelRun0.sl.r_26, kernelRun0.sl.r_27, kernelRun0.sl.r_28, kernelRun0.sl.r_31, kernelRun0.sl.r_32, kernelRun0.sl.r_33, kernelRun0.sl.r_34, kernelRun0.sl.r_35, kernelRun0.sl.r_36, kernelRun0.sl.r_37, kernelRun0.sl.r_38, kernelRun0.sl.r_43, kernelRun0.sl.r_44, kernelRun0.sl.r_46, kernelRun0.sl.r_47, kernelRun0.sl.r_48, kernelRun0.sl.r_49, kernelRun0.sl.r_53, kernelRun0.sl.r_54, kernelRun0.sl.r_55, kernelRun0.sl.r_56, kernelRun0.sl.r_57, kernelRun0.sl.r_58, kernelRun0.sl.r_59, kernelRun0.sl.r_62, kernelRun0.sl.r_63, kernelRun0.sl.r_64, kernelRun0.sl.r_65, kernelRun0.sl.r_66, kernelRun0.sl.r_67, kernelRun0.sl.r_68, kernelRun0.sl.r_69, kernelRun0.sl.r_72, kernelRun0.sl.v344, kernelRun0.sl.v343, kernelRun0.sl.v123, k0_pay21_first i hi, k0_pay22_first i hi, k0_pay23_first i hi, k0_pay24_first i hi, k0_pay41_first i hi, k0_pay42_first i hi, k0_pay43_first i hi, k0_pay65_first i hi, k0_pay66_first i hi, k0_pay67_first i hi, k0_pay68_first i hi, k0_pay69_first i hi, k0_pay70_first i hi, k0_pay71_first i hi, k0_pay72_first i hi, k0_pay89_first i hi, k0_pay90_first i hi, k0_pay91_first i hi, k0_pay92_first i hi, k0_pay111_first i hi, k0_pay112_first i hi, k0_pay113_first i hi, k0_pay114_first i hi, k0_pay133_first i hi, k0_pay134_first i hi, k0_pay135_first i hi, k0_pay136_first i hi, k0_pay137_first i hi, k0_pay138_first i hi, k0_pay139_first i hi, k0_pay140_first i hi]

end

/-- The outputs and the scratch after point `n`: each point's run over the scratch the point before left, the first
    point's over a scratch of no account. -/
def outsAt0 (c : Dev nD) : (n : ℕ) → n < cfg0.N → Vec F S256x768 .bf16 × Vec F S4x6x64x128 .f32 × Vec F S6x128x64 .f32
  | 0, hn => step0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (VS0_0.read (Elt F) VS0_0.junk)
  | n + 1, hn => step0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2

theorem coords_zero : ∀ t : Fin cfg0.N, t.val = 0 → (grid0.coords t 0).val = 0 := by decide +kernel

/-- At the first point, over any scratch. -/
theorem outsAt0_first (c : Dev nD) (t : Fin cfg0.N) (hz : t.val = 0) (d : Vec F S6x128x64 .f32) :
    outsAt0 m c t.val t.isLt = step0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) d := by
  have h := coords_zero t hz
  obtain ⟨n, hn⟩ := t
  cases n with
  | zero => exact step0_first _ h c _ _ _ _ _ _ _ _ _ _ _ _ _ _ _ _ _ _ _ _ _ _ _ _ _ _ _ _ _ _ _ _ _ _ d
  | succ n => exact absurd hz (Nat.succ_ne_zero n)

/-- At a later point, over the scratch the point before left. -/
theorem outsAt0_later (c : Dev nD) (t : Fin cfg0.N) (hz : t.val ≠ 0) :
    outsAt0 m c t.val t.isLt = step0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2 := by
  obtain ⟨n, hn⟩ := t
  cases n with
  | zero => exact absurd rfl hz
  | succ n => rfl

/-- The invariant before position `n`: at the start what the launch gives, then the scratch as the point before left it. -/
def PhiS (c : Dev nD) : (n : ℕ) → n ≤ cfg0.N → sProp 𝕄
  | 0, _ => Pipeline.ΦA spec0 c
  | n + 1, hn => iprop(owns (c : Thread nD τ) scM0_0 fullShare (outsAt0 m c n hn).2.2 ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (outsAt0 m c n hn).2.2 ∗ (∃ r, prngReg c r)) := rfl

theorem PhiS_pos (c : Dev nD) (n : ℕ) (h : n ≤ cfg0.N) (hz : n ≠ 0) :
    PhiS m c n h = iprop(owns (c : Thread nD τ) scM0_0 fullShare (outsAt0 m c (n - 1) (by omega)).2.2 ∗ (∃ r, prngReg c r)) := by
  cases n with
  | zero => exact absurd rfl hz
  | succ n => rfl

/-- The pipeline's proof data: the arrays as the region finds them, each input's buffer at its block, the outputs' at
    `outsAt0`; one array is shared by five windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4800000 in
/-- The body at any point, over a scratch `d` at which the point's outputs are the stated ones. -/
theorem sound_at (c : Dev nD) (t : Fin cfg0.N) (d : Vec F S6x128x64 .f32)
    (hd : outsAt0 m c t.val t.isLt = step0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) d) :
    iprop((owns (c : Thread nD τ) scM0_0 fullShare d ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
    ⊢ wp frame (wpE (defs₀ (F := F)) Variants.none c none) Set.univ (bodyAt0 t) (fun _ => bodyPost m c t) := by
  unfold bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4, after0_5, after0_6, after0_7, after0_8, after0_9, after0_10, hd]
  unfold step0; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0 c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) d).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  iintro ⟨H0, H1, H2, H3, H4, H5, H6, H7, H8, ⟨%e9, H9⟩, ⟨%e10, H10⟩, ⟨%es0, HS0⟩⟩
  isplitl [HS0 Hg]
  · isplitl [HS0]
    · unfold owns; iexists _; isplitr
      swap; · iexact HS0
      ipureintro; exact View.read_writes_of_cover _ _ _ _ _ (cover0_s c _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_9 c _ _ _ _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover0_10 c _ _ _ _ _ _ _ _ _ _ _ _ _ _ _ _ _ _ _ _ _ _ _ _ _ _ _ _ _ _ _ _ _ _ _)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · unfold bodyPre
    rw [PhiS_castSucc m c t, PhiS_zero m c _ _ hz, PhiA0_eq]
    iintro ⟨⟨⟨%d, HS0⟩, Hg⟩, H⟩
    iapply (sound_at m c t d (outsAt0_first m c t hz d))
    isplitl [HS0 Hg]
    · isplitl [HS0]; · iexact HS0
      iexact Hg
    iexact H
  · have h := sound_at m c t _ (outsAt0_later m c t hz)
    unfold bodyPre
    rw [PhiS_castSucc m c t, PhiS_pos m c _ _ hz]
    exact h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 36 := N_0; omega)

set_option backward.isDefEq.respectTransparency.types false in
/-- The launch: every array at what the pipeline computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.GlaIdeal.Gen

end
-- ==== Proof.GlaRefRun.lean ====
module

public import proofs.«01_k».proof.Proof.Gen.GlaRefIdeal.Run

/-! The reference of the gated linear attention call: what its run leaves. -/

set_option maxRecDepth 16384

@[expose] public section

noncomputable section

open Idealize.ShloMosaic Idealize.ShloMosaic.TcCoe Idealize.SL.Sem Idealize.ShloMosaic.StableHlo

namespace Cert.GlaRefIdeal.Ref

open Cert.GlaRefIdeal Cert.GlaRefIdeal.Gen Cert.GlaRefIdeal.Value

variable {F : FTy → Type} [FloatOps F]

/-- Buffers the first stretch after the loop writes. -/
abbrev post3_W : List (Ref sig .tc) := [main_v26, main_v27, main_v28, main_v29, main_v30, main_v31, main_v32, main_v33]
theorem post3_writes : (hostOps0_3 : List (HloOp τ sig (Elt F))).Forall fun op => op.writes ⊆ (post3_W.map (Proc.devRef (τ := τ) .tc)).toFinset :=
  StableHlo.forall_writes_sub_of_map rfl
/-- Buffers the running sum after the loop writes. -/
abbrev post4_W : List (Ref sig .tc) := [main_call6_call0_cst, main_call6_call0_v0, main_v34]
theorem post4_writes : (hostOps0_4 : List (HloOp τ sig (Elt F))).Forall fun op => op.writes ⊆ (post4_W.map (Proc.devRef (τ := τ) .tc)).toFinset :=
  StableHlo.forall_writes_sub_of_map rfl
/-- Buffers the last stretch writes. -/
abbrev post5_W : List (Ref sig .tc) := [main_v35, main_v36, main_v37, main_v38, main_v39, main_v40, main_v41, main_v42, main_v43, main_v44, main_v45, main_v46, main_v47, main_v48, main_v49, main_v50]
theorem post5_writes : (hostOps0_5 : List (HloOp τ sig (Elt F))).Forall fun op => op.writes ⊆ (post5_W.map (Proc.devRef (τ := τ) .tc)).toFinset :=
  StableHlo.forall_writes_sub_of_map rfl

/-- Buffers one trip of the loop writes. -/
abbrev trip_W : List (Ref sig .tc) := condOps_W ++ while0Ops0_W ++ while0Ops0_1_W ++ while0Ops0_2_W ++ while0Ops0_3_W ++ while0Ops0_4_W ++ while0Ops0_5_W ++ while0Ops0_6_W
/-- Buffers the operations before the loop write. -/
abbrev pre_W : List (Ref sig .tc) := hostOps0_W ++ hostOps0_1_W ++ hostOps0_2_W
/-- Buffers the operations after the loop write. -/
abbrev post_W : List (Ref sig .tc) := post3_W ++ post4_W ++ post5_W

theorem notin {α : Type} {r : α} {a b : List α} (h : r ∉ a ++ b) : r ∉ a ∧ r ∉ b := by
  rw [List.mem_append] at h; exact not_or.mp h

theorem pre_keep (V : Valuation τ sig (Elt F)) (r : Ref sig .tc) (h : r ∉ pre_W) :
    afterL preI V (Proc.devRef .tc r) = V (Proc.devRef .tc r) := by
  obtain ⟨h, h2⟩ := notin h
  obtain ⟨h0, h1⟩ := notin h
  simp only [afterL_cons, afterL_nil]
  rw [after_of_writes_sub hostOps0_2 _ hostOps0_2_writes h2, after_of_writes_sub hostOps0_1 _ hostOps0_1_writes h1,
    after_of_writes_sub hostOps0 _ hostOps0_writes h0]

theorem trip_keep (V : Valuation τ sig (Elt F)) (r : Ref sig .tc) (h : r ∉ trip_W) :
    afterL bodyI (after condOps V) (Proc.devRef .tc r) = V (Proc.devRef .tc r) := by
  obtain ⟨h, h6⟩ := notin h
  obtain ⟨h, h5⟩ := notin h
  obtain ⟨h, h4⟩ := notin h
  obtain ⟨h, h3⟩ := notin h
  obtain ⟨h, h2⟩ := notin h
  obtain ⟨h, h1⟩ := notin h
  obtain ⟨h, h0⟩ := notin h
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes h]

theorem post_keep (V : Valuation τ sig (Elt F)) (r : Ref sig .tc) (h : r ∉ post_W) :
    afterL postI V (Proc.devRef .tc r) = V (Proc.devRef .tc r) := by
  obtain ⟨h, h5⟩ := notin h
  obtain ⟨h3, h4⟩ := notin h
  simp only [afterL_cons, afterL_nil]
  rw [after_of_writes_sub hostOps0_5 _ post5_writes h5, after_of_writes_sub hostOps0_4 _ post4_writes h4,
    after_of_writes_sub hostOps0_3 _ post3_writes h3]

variable (m : (ℓ : Loc nD τ sig) → Buf (Elt F) ℓ) (ρ : Dev nD → PrngReg)

/-- A buffer the loop does not write is before any trip what it was at the loop's entry. -/
theorem loop_keep (c : Dev nD) (r : Ref sig .tc) (h : r ∉ trip_W) :
    ∀ k, atK m k c (Proc.devRef .tc r) = entryContents preI m c (Proc.devRef .tc r)
  | 0 => rfl
  | k + 1 => (trip_keep _ r h).trans (loop_keep c r h k)

/-- The contents before the operations after the loop. -/
abbrev VL (c : Dev nD) : Valuation τ sig (Elt F) := after condOps (atK m 128 c)

/-- A buffer the loop does not write is after it what it was at the loop's entry. -/
theorem VL_keep (c : Dev nD) (r : Ref sig .tc) (h : r ∉ trip_W) :
    VL m c (Proc.devRef .tc r) = entryContents preI m c (Proc.devRef .tc r) := by
  have h' : r ∉ condOps_W := by
    simp only [trip_W, List.mem_append, not_or] at h
    exact h.1.1.1.1.1.1.1
  exact (after_of_writes_sub condOps _ condOps_writes h').trans (loop_keep m c r h 128)

/-- What a buffer that nothing writes holds at the end. -/
theorem keep (c : Dev nD) (r : Ref sig .tc) (h0 : r ∉ pre_W) (h1 : r ∉ trip_W) (h2 : r ∉ post_W) :
    finalContents condOps preI bodyI postI 128 m c (Proc.devRef .tc r) = m ((c.tc : Thread nD τ).loc r) :=
  (post_keep _ r h2).trans ((VL_keep m c r h1).trans (pre_keep _ r h0))

/-- The reference ends with its result at the fold and its arguments unchanged. -/
theorem run : θ_run (defs (F := F)) (onTc (τ := τ) (main (F := F))) ⟨m, fun _ => 0, ρ⟩ fun r => ∀ c : Dev nD,
      r.2.mem ((c.tc : Thread nD τ).loc main_v50) = finalContents condOps preI bodyI postI 128 m c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v50 rfl,
    (h c main_arg0 rfl).trans (keep m c main_arg0 (by decide) (by decide) (by decide)),
    (h c main_arg1 rfl).trans (keep m c main_arg1 (by decide) (by decide) (by decide)),
    (h c main_arg2 rfl).trans (keep m c main_arg2 (by decide) (by decide) (by decide)),
    (h c main_arg3 rfl).trans (keep m c main_arg3 (by decide) (by decide) (by decide)),
    (h c main_arg4 rfl).trans (keep m c main_arg4 (by decide) (by decide) (by decide))⟩) (run_fold m ρ)

/-! ## Values -/

/-- The keys, by head. -/
def K1 (V : Valuation τ sig (Elt F)) : FVec F S9216x6x64 .f32 :=
  shapeCast S9216x6x64 (extractStridedSlice S9216x384 ![0, 384] (V (Proc.devRef .tc main_arg0)) slices_S9216x5376_S9216x384_0_384) shapeCasts_S9216x384_S9216x6x64
/-- The values, by head. -/
def V1 (V : Valuation τ sig (Elt F)) : FVec F S9216x6x128 .f32 :=
  shapeCast S9216x6x128 (extractStridedSlice S9216x768 ![0, 768] (V (Proc.devRef .tc main_arg0)) slices_S9216x5376_S9216x768_0_768) shapeCasts_S9216x768_S9216x6x128
/-- The gate's argument. -/
def X1 (V : Valuation τ sig (Elt F)) : FVec F S9216x384 .f32 :=
  addf (Host.dotGeneral dot_S9216x16_S16x384_S9216x384_1_0_0_1_n_n none (extractStridedSlice S9216x16 ![0, 5184] (V (Proc.devRef .tc main_arg0)) slices_S9216x5376_S9216x16_0_5184)
      (shapeCast S16x384 (extractStridedSlice S1x16x384 ![0, 0, 0] (V (Proc.devRef .tc main_arg1)) slices_S4x16x384_S1x16x384_0_0_0) shapeCasts_S1x16x384_S16x384))
    (broadcastInDim S9216x384 ![0, 1] bcast_S1x384_S9216x384_0_1 (broadcastInDim S1x384 ![1] bcast_S384_S1x384_1
      (shapeCast S384 (extractStridedSlice S1x384 ![0, 0] (V (Proc.devRef .tc main_arg2)) slices_S4x384_S1x384_0_0) shapeCasts_S1x384_S384)))
/-- The gate's logarithm, from its argument. -/
def lsig (x : FVec F S9216x384 .f32) : FVec F S9216x384 .f32 :=
  let z := broadcastInDim S9216x384 ![] bcast_S_S9216x384 (constant S_ .f32 0x00000000#32)
  Host.negf (select (cmpf .une (subf (Host.negf x) z) (subf (Host.negf x) z)) (addf (Host.negf x) z)
    (addf (maximumf (Host.negf x) z) (Host.log1p (Host.exp (Host.negf (Host.absf (subf (Host.negf x) z)))))))
/-- The log decays, by head. -/
def G1 (V : Valuation τ sig (Elt F)) : FVec F S9216x6x64 .f32 :=
  shapeCast S9216x6x64 (Host.divf (lsig (X1 V)) (broadcastInDim S9216x384 ![] bcast_S_S9216x384 (constant S_ .f32 0x41800000#32))) shapeCasts_S9216x384_S9216x6x64

theorem pre_v1 (V : Valuation τ sig (Elt F)) : afterL preI V (Proc.devRef .tc main_v1) = K1 V := by
  simp only [afterL_cons, afterL_nil, hostOps0, hostOps0_1, hostOps0_2, TRef.binary, TRef.nullary, TRef.ternary, TRef.unary, TRef.toBuf, TRef.ofBuf, cast_eq]
  after_results_simp <;> rfl

theorem pre_v3 (V : Valuation τ sig (Elt F)) : afterL preI V (Proc.devRef .tc main_v3) = V1 V := by
  simp only [afterL_cons, afterL_nil, hostOps0, hostOps0_1, hostOps0_2, TRef.binary, TRef.nullary, TRef.ternary, TRef.unary, TRef.toBuf, TRef.ofBuf, cast_eq]
  after_results_simp <;> rfl

theorem pre_v16 (V : Valuation τ sig (Elt F)) : afterL preI V (Proc.devRef .tc main_v16) = G1 V := by
  simp only [afterL_cons, afterL_nil, hostOps0, hostOps0_1, hostOps0_2, TRef.binary, TRef.nullary, TRef.ternary, TRef.unary, TRef.toBuf, TRef.ofBuf, cast_eq]
  after_results_simp <;> rfl

end Cert.GlaRefIdeal.Ref
-- ==== Proof.GlaStep.lean ====
module

public import proofs.«01_k».proof.Proof.GlaIdealFrame
public import proofs.«01_k».proof.Proof.GmlpTerms

/-! The gated linear attention call: what one point of the grid leaves, entry by entry. -/

set_option maxRecDepth 16384

@[expose] public section

noncomputable section

open Idealize.ShloMosaic Idealize.ShloMosaic.TcCoe Idealize.SL.Sem
open Idealize.ShloMosaic.Pipeline (Dat)

namespace Cert.GlaIdeal.Tie

open Cert.GlaIdeal Cert.GlaIdeal.Gen

/-- The state a chunk starts from: the given block when the bit is set, else what the chunk before left. -/
def pick {F : FTy → Type} [FloatOps F] (b : BitVec 1) (s0 : Vec F S1x1x1x64x128 .f32) (st : FVec F S128x64 .f32) : FVec F S128x64 .f32 :=
  Scalar.select b (transpose S128x64 [1, 0] (shapeCast S64x128 s0 shapeCasts_S1x1x1x64x128_S64x128) transposes_S64x128_p1_0_S128x64) st

/-- A chunk's update of one head's state. -/
def upd {F : FTy → Type} [FloatOps F] (r k : ℕ) (h1 : S256x384.Slices ![r, k] S1x64) (h2 : S256x128.Slices ![r, 0] S64x128) (h3 : S256x384.Slices ![r, k] S64x64)
    (ks : FVec F S256x384 .bf16) (dec : FVec F S256x384 .f32) (vh : FVec F S256x128 .bf16) (st : FVec F S128x64 .f32) : FVec F S128x64 .f32 :=
  addf (mulf st (broadcastTo S128x64 (extractStridedSlice S1x64 ![r, k] dec h1) broadcasts_S1x64_S128x64))
    (matmul dot_S64x128_S64x64_S128x64_0_0_1_1_n_n none (extractStridedSlice S64x128 ![r, 0] vh h2) (extractStridedSlice S64x64 ![r, k] ks h3)
      (constant S128x64 .f32 0x00000000#32))

/-- A stored state, read at an entry. -/
theorem outp_at (st : FVec Ideal S128x64 .f32) (d : Fin 64) (v : Fin 128) :
    shapeCast S1x1x64x128 (transpose S64x128 [1, 0] st transposes_S128x64_p1_0_S64x128) shapeCasts_S64x128_S1x1x64x128 (ix4 0 0 d v) = st (ix2 v d) := by
  pointwise []

theorem pick_at (b : BitVec 1) (s0 : Vec Ideal S1x1x1x64x128 .f32) (st : FVec Ideal S128x64 .f32) (d : Fin 64) (v : Fin 128) :
    pick b s0 st (ix2 v d) = Scalar.select b (s0 (ix5 0 0 0 d v)) (st (ix2 v d)) := by
  unfold pick Scalar.select
  split
  · pointwise []
  · rfl

theorem upd_at (r k : ℕ) (h1 : S256x384.Slices ![r, k] S1x64) (h2 : S256x128.Slices ![r, 0] S64x128) (h3 : S256x384.Slices ![r, k] S64x64)
    (hr : r + 64 ≤ 256) (hk : k + 64 ≤ 384)
    (ks : FVec Ideal S256x384 .bf16) (dec : FVec Ideal S256x384 .f32) (vh : FVec Ideal S256x128 .bf16) (st : FVec Ideal S128x64 .f32) (d : Fin 64) (v : Fin 128) :
    upd r k h1 h2 h3 ks dec vh st (ix2 v d) = st (ix2 v d) * dec (ix2 ⟨r, by omega⟩ ⟨k + d.val, by omega⟩)
      + ∑ s : Fin 64, vh (ix2 ⟨r + s.val, by omega⟩ v) * ks (ix2 ⟨r + s.val, by omega⟩ ⟨k + d.val, by omega⟩) := by
  pointwise [upd]

/-- Whether a chunk starts afresh: every chunk of the samples does, and the prompt's first. -/
def bit (i : grid0.Coords) (n : ℕ) : BitVec 1 :=
  Scalar.ori (Scalar.cmpi .sge (BitVec.ofNat 32 (i 0).val) 32#32) (Scalar.andi (Scalar.cmpi .eq (BitVec.ofNat 32 (i 0).val) 0#32) (if n = 0 then 1#1 else 0#1))

/-- One entry of a head's state after chunk `c` of a point, from the entry before it. -/
def one (x8 : Vec Ideal S1x4x6x64x128 .f32) (x2 : Vec Ideal S256x768 .f32) (ks dec : S256x384.Idx → EReal) (h : Fin 6) (d : Fin 64) (v : Fin 128)
    (b : BitVec 1) (c : Fin 4) (p : EReal) : EReal :=
  Scalar.select b (x8 (ix5 0 c h d v)) p * dec (ix2 ⟨64 * c.val, by omega⟩ ⟨64 * h.val + d.val, by omega⟩)
    + ∑ s : Fin 64, x2 (ix2 ⟨64 * c.val + s.val, by omega⟩ ⟨128 * h.val + v.val, by omega⟩) * ks (ix2 ⟨64 * c.val + s.val, by omega⟩ ⟨64 * h.val + d.val, by omega⟩)

/-- One entry of a head's state after `n` chunks of a point. -/
def chain (i : grid0.Coords) (x8 : Vec Ideal S1x4x6x64x128 .f32) (x2 : Vec Ideal S256x768 .f32) (ks dec : S256x384.Idx → EReal) (h : Fin 6) (d : Fin 64) (v : Fin 128)
    (p : EReal) : (n : ℕ) → n ≤ 4 → EReal
  | 0, _ => p
  | n + 1, hn => one x8 x2 ks dec h d v (bit i n) ⟨n, hn⟩ (chain i x8 x2 ks dec h d v p n (Nat.le_of_succ_le hn))

theorem one_step (x8 : Vec Ideal S1x4x6x64x128 .f32) (x2 : Vec Ideal S256x768 .f32) (h : Fin 6) (d : Fin 64) (v : Fin 128) (c : Fin 4)
    (r k : ℕ) (h1 : S256x384.Slices ![r, k] S1x64) (h2 : S256x128.Slices ![r, 0] S64x128) (h3 : S256x384.Slices ![r, k] S64x64)
    (hr : r = 64 * c.val) (hk : k = 64 * h.val)
    (ks : FVec Ideal S256x384 .bf16) (dec : FVec Ideal S256x384 .f32) (vh : FVec Ideal S256x128 .bf16) (b : BitVec 1) (s0 : Vec Ideal S1x1x1x64x128 .f32) (st : FVec Ideal S128x64 .f32)
    (hs : s0 (ix5 0 0 0 d v) = x8 (ix5 0 c h d v))
    (hv : ∀ r : Fin 256, vh (ix2 r v) = x2 (ix2 r ⟨128 * h.val + v.val, by omega⟩)) :
    addf (mulf (Scalar.select b (transpose S128x64 [1, 0] (shapeCast S64x128 s0 shapeCasts_S1x1x1x64x128_S64x128) transposes_S64x128_p1_0_S128x64) st)
        (broadcastTo S128x64 (extractStridedSlice S1x64 ![r, k] dec h1) broadcasts_S1x64_S128x64))
      (matmul dot_S64x128_S64x64_S128x64_0_0_1_1_n_n none (extractStridedSlice S64x128 ![r, 0] vh h2) (extractStridedSlice S64x64 ![r, k] ks h3)
        (constant S128x64 .f32 0x00000000#32)) (ix2 v d) = one x8 x2 ks dec h d v b c (st (ix2 v d)) := by
  subst hr hk
  change upd _ _ h1 h2 h3 ks dec vh (pick b s0 st) (ix2 v d) = _
  rw [upd_at _ _ _ _ _ (by omega) (by omega), pick_at, hs]
  simp only [hv]
  rfl

/-- The weighting of the gate's keys, by which a chunk's rows enter the state. -/
abbrev gLd (x4 : Vec Ideal S256x128 .f32) : Vec Ideal S256x16 .f32 := View.ld x4 (Rect.unit ![0, 64] ![256, 16] inb_S256x128_S256x16_0_64)
abbrev KS (x1 : Vec Ideal S256x384 .f32) (x4 : Vec Ideal S256x128 .f32) (x5 : Vec Ideal S1x16x384 .bf16) (x6 : Vec Ideal S1x1x384 .f32) : FVec Ideal S256x384 .bf16 :=
  k0_pay17 (k0_pay6 (gLd x4) x5 x6) (k0_pay7 (gLd x4) x5 x6) k0_pay8 (k0_pay9 (gLd x4) x5 x6) x1
/-- The decay of a chunk, on each of its rows. -/
abbrev DEC (x4 : Vec Ideal S256x128 .f32) (x5 : Vec Ideal S1x16x384 .bf16) (x6 : Vec Ideal S1x1x384 .f32) : FVec Ideal S256x384 .f32 :=
  k0_pay18 (k0_pay6 (gLd x4) x5 x6) (k0_pay7 (gLd x4) x5 x6) k0_pay8 (k0_pay9 (gLd x4) x5 x6)

theorem eta4 (x : S1x1x64x128.Idx) : x = ix4 0 0 (x 2) (x 3) := by
  funext i
  match i with
  | 0 => exact Subsingleton.elim (α := Fin 1) _ _
  | 1 => exact Subsingleton.elim (α := Fin 1) _ _
  | 2 => rfl
  | 3 => rfl

theorem eta3 (x : S1x128x64.Idx) : x = ix3 0 (x 1) (x 2) := by
  funext i
  match i with
  | 0 => exact Subsingleton.elim (α := Fin 1) _ _
  | 1 => rfl
  | 2 => rfl

/-- The states one point stores. -/
theorem sout_at (c : Dev nD) (i : grid0.Coords) (arg1 : Memref sig .tc .vmem S256x384 .f32) (harg1 : arg1.IsWhole) (arg2 : Memref sig .tc .vmem S256x384 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x128 .f32) (harg5 : arg5.IsWhole) (arg6 : Memref sig .tc .vmem S1x16x384 .bf16) (harg6 : arg6.IsWhole) (arg7 : Memref sig .tc .vmem S1x1x384 .f32) (harg7 : arg7.IsWhole) (arg8 : Memref sig .tc .vmem S1x1x768 .f32) (harg8 : arg8.IsWhole) (arg9 : Memref sig .tc .vmem S1x4x6x64x128 .f32) (harg9 : arg9.IsWhole) (arg10 : Memref sig .tc .vmem S256x768 .bf16) (harg10 : arg10.IsWhole) (arg11 : Memref sig .tc .vmem S4x6x64x128 .f32) (harg11 : arg11.IsWhole) (arg12 : Memref sig .tc .vmem S6x128x64 .f32) (harg12 : arg12.IsWhole)
    (x0 : Vec Ideal S256x384 .f32) (x1 : Vec Ideal S256x384 .f32) (x2 : Vec Ideal S256x768 .f32) (x3 : Vec Ideal S256x768 .f32) (x4 : Vec Ideal S256x128 .f32) (x5 : Vec Ideal S1x16x384 .bf16) (x6 : Vec Ideal S1x1x384 .f32) (x7 : Vec Ideal S1x1x768 .f32) (x8 : Vec Ideal S1x4x6x64x128 .f32) (xs0 : Vec Ideal S6x128x64 .f32) (y : S4x6x64x128.Idx) :
    (step0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).2.1 y
      = chain i x8 x2 (KS x1 x4 x5 x6) (DEC x4 x5 x6) (y 1) (y 2) (y 3) (xs0 (ix3 (y 1) (y 3) (y 2))) ((y 0).val + 1) (y 0).isLt := by
  unfold step0
  frame_out
  canon_tiles x h
  · obtain rfl : y = ix4 3 5 (x 2) (x 3) := by
      funext a
      match a with
      | 0 => exact Fin.ext (by show (y 0).val = 3; omega)
      | 1 => exact Fin.ext (by show (y 1).val = 5; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 5 (x 2) (x 3) 3 _ _ _ _ _ rfl rfl _ _ _ _ _ _ (by pointwise []) (fun r => by pointwise [])).trans (congrArg (one x8 x2 _ _ 5 (x 2) (x 3) _ 3) ?_)
    refine (one_step x8 x2 5 (x 2) (x 3) 2 _ _ _ _ _ rfl rfl _ _ _ _ _ _ (by pointwise []) (fun r => by pointwise [])).trans (congrArg (one x8 x2 _ _ 5 (x 2) (x 3) _ 2) ?_)
    refine (one_step x8 x2 5 (x 2) (x 3) 1 _ _ _ _ _ rfl rfl _ _ _ _ _ _ (by pointwise []) (fun r => by pointwise [])).trans (congrArg (one x8 x2 _ _ 5 (x 2) (x 3) _ 1) ?_)
    refine (one_step x8 x2 5 (x 2) (x 3) 0 _ _ _ _ _ rfl rfl _ _ _ _ _ _ (by pointwise []) (fun r => by pointwise [])).trans (congrArg (one x8 x2 _ _ 5 (x 2) (x 3) _ 0) ?_)
    pointwise []
    all_goals rfl
  · obtain rfl : y = ix4 2 5 (x 2) (x 3) := by
      funext a
      match a with
      | 0 => exact Fin.ext (by show (y 0).val = 2; omega)
      | 1 => exact Fin.ext (by show (y 1).val = 5; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 5 (x 2) (x 3) 2 _ _ _ _ _ rfl rfl _ _ _ _ _ _ (by pointwise []) (fun r => by pointwise [])).trans (congrArg (one x8 x2 _ _ 5 (x 2) (x 3) _ 2) ?_)
    refine (one_step x8 x2 5 (x 2) (x 3) 1 _ _ _ _ _ rfl rfl _ _ _ _ _ _ (by pointwise []) (fun r => by pointwise [])).trans (congrArg (one x8 x2 _ _ 5 (x 2) (x 3) _ 1) ?_)
    refine (one_step x8 x2 5 (x 2) (x 3) 0 _ _ _ _ _ rfl rfl _ _ _ _ _ _ (by pointwise []) (fun r => by pointwise [])).trans (congrArg (one x8 x2 _ _ 5 (x 2) (x 3) _ 0) ?_)
    pointwise []
    all_goals rfl
  · obtain rfl : y = ix4 1 5 (x 2) (x 3) := by
      funext a
      match a with
      | 0 => exact Fin.ext (by show (y 0).val = 1; omega)
      | 1 => exact Fin.ext (by show (y 1).val = 5; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 5 (x 2) (x 3) 1 _ _ _ _ _ rfl rfl _ _ _ _ _ _ (by pointwise []) (fun r => by pointwise [])).trans (congrArg (one x8 x2 _ _ 5 (x 2) (x 3) _ 1) ?_)
    refine (one_step x8 x2 5 (x 2) (x 3) 0 _ _ _ _ _ rfl rfl _ _ _ _ _ _ (by pointwise []) (fun r => by pointwise [])).trans (congrArg (one x8 x2 _ _ 5 (x 2) (x 3) _ 0) ?_)
    pointwise []
    all_goals rfl
  · obtain rfl : y = ix4 0 5 (x 2) (x 3) := by
      funext a
      match a with
      | 0 => exact Fin.ext (by show (y 0).val = 0; omega)
      | 1 => exact Fin.ext (by show (y 1).val = 5; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 5 (x 2) (x 3) 0 _ _ _ _ _ rfl rfl _ _ _ _ _ _ (by pointwise []) (fun r => by pointwise [])).trans (congrArg (one x8 x2 _ _ 5 (x 2) (x 3) _ 0) ?_)
    pointwise []
    all_goals rfl
  · obtain rfl : y = ix4 3 4 (x 2) (x 3) := by
      funext a
      match a with
      | 0 => exact Fin.ext (by show (y 0).val = 3; omega)
      | 1 => exact Fin.ext (by show (y 1).val = 4; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 4 (x 2) (x 3) 3 _ _ _ _ _ rfl rfl _ _ _ _ _ _ (by pointwise []) (fun r => by pointwise [])).trans (congrArg (one x8 x2 _ _ 4 (x 2) (x 3) _ 3) ?_)
    refine (one_step x8 x2 4 (x 2) (x 3) 2 _ _ _ _ _ rfl rfl _ _ _ _ _ _ (by pointwise []) (fun r => by pointwise [])).trans (congrArg (one x8 x2 _ _ 4 (x 2) (x 3) _ 2) ?_)
    refine (one_step x8 x2 4 (x 2) (x 3) 1 _ _ _ _ _ rfl rfl _ _ _ _ _ _ (by pointwise []) (fun r => by pointwise [])).trans (congrArg (one x8 x2 _ _ 4 (x 2) (x 3) _ 1) ?_)
    refine (one_step x8 x2 4 (x 2) (x 3) 0 _ _ _ _ _ rfl rfl _ _ _ _ _ _ (by pointwise []) (fun r => by pointwise [])).trans (congrArg (one x8 x2 _ _ 4 (x 2) (x 3) _ 0) ?_)
    pointwise []
    all_goals rfl
  · obtain rfl : y = ix4 2 4 (x 2) (x 3) := by
      funext a
      match a with
      | 0 => exact Fin.ext (by show (y 0).val = 2; omega)
      | 1 => exact Fin.ext (by show (y 1).val = 4; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 4 (x 2) (x 3) 2 _ _ _ _ _ rfl rfl _ _ _ _ _ _ (by pointwise []) (fun r => by pointwise [])).trans (congrArg (one x8 x2 _ _ 4 (x 2) (x 3) _ 2) ?_)
    refine (one_step x8 x2 4 (x 2) (x 3) 1 _ _ _ _ _ rfl rfl _ _ _ _ _ _ (by pointwise []) (fun r => by pointwise [])).trans (congrArg (one x8 x2 _ _ 4 (x 2) (x 3) _ 1) ?_)
    refine (one_step x8 x2 4 (x 2) (x 3) 0 _ _ _ _ _ rfl rfl _ _ _ _ _ _ (by pointwise []) (fun r => by pointwise [])).trans (congrArg (one x8 x2 _ _ 4 (x 2) (x 3) _ 0) ?_)
    pointwise []
    all_goals rfl
  · obtain rfl : y = ix4 1 4 (x 2) (x 3) := by
      funext a
      match a with
      | 0 => exact Fin.ext (by show (y 0).val = 1; omega)
      | 1 => exact Fin.ext (by show (y 1).val = 4; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 4 (x 2) (x 3) 1 _ _ _ _ _ rfl rfl _ _ _ _ _ _ (by pointwise []) (fun r => by pointwise [])).trans (congrArg (one x8 x2 _ _ 4 (x 2) (x 3) _ 1) ?_)
    refine (one_step x8 x2 4 (x 2) (x 3) 0 _ _ _ _ _ rfl rfl _ _ _ _ _ _ (by pointwise []) (fun r => by pointwise [])).trans (congrArg (one x8 x2 _ _ 4 (x 2) (x 3) _ 0) ?_)
    pointwise []
    all_goals rfl
  · obtain rfl : y = ix4 0 4 (x 2) (x 3) := by
      funext a
      match a with
      | 0 => exact Fin.ext (by show (y 0).val = 0; omega)
      | 1 => exact Fin.ext (by show (y 1).val = 4; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 4 (x 2) (x 3) 0 _ _ _ _ _ rfl rfl _ _ _ _ _ _ (by pointwise []) (fun r => by pointwise [])).trans (congrArg (one x8 x2 _ _ 4 (x 2) (x 3) _ 0) ?_)
    pointwise []
    all_goals rfl
  · obtain rfl : y = ix4 3 3 (x 2) (x 3) := by
      funext a
      match a with
      | 0 => exact Fin.ext (by show (y 0).val = 3; omega)
      | 1 => exact Fin.ext (by show (y 1).val = 3; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 3 (x 2) (x 3) 3 _ _ _ _ _ rfl rfl _ _ _ _ _ _ (by pointwise []) (fun r => by pointwise [])).trans (congrArg (one x8 x2 _ _ 3 (x 2) (x 3) _ 3) ?_)
    refine (one_step x8 x2 3 (x 2) (x 3) 2 _ _ _ _ _ rfl rfl _ _ _ _ _ _ (by pointwise []) (fun r => by pointwise [])).trans (congrArg (one x8 x2 _ _ 3 (x 2) (x 3) _ 2) ?_)
    refine (one_step x8 x2 3 (x 2) (x 3) 1 _ _ _ _ _ rfl rfl _ _ _ _ _ _ (by pointwise []) (fun r => by pointwise [])).trans (congrArg (one x8 x2 _ _ 3 (x 2) (x 3) _ 1) ?_)
    refine (one_step x8 x2 3 (x 2) (x 3) 0 _ _ _ _ _ rfl rfl _ _ _ _ _ _ (by pointwise []) (fun r => by pointwise [])).trans (congrArg (one x8 x2 _ _ 3 (x 2) (x 3) _ 0) ?_)
    pointwise []
    all_goals rfl
  · obtain rfl : y = ix4 2 3 (x 2) (x 3) := by
      funext a
      match a with
      | 0 => exact Fin.ext (by show (y 0).val = 2; omega)
      | 1 => exact Fin.ext (by show (y 1).val = 3; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 3 (x 2) (x 3) 2 _ _ _ _ _ rfl rfl _ _ _ _ _ _ (by pointwise []) (fun r => by pointwise [])).trans (congrArg (one x8 x2 _ _ 3 (x 2) (x 3) _ 2) ?_)
    refine (one_step x8 x2 3 (x 2) (x 3) 1 _ _ _ _ _ rfl rfl _ _ _ _ _ _ (by pointwise []) (fun r => by pointwise [])).trans (congrArg (one x8 x2 _ _ 3 (x 2) (x 3) _ 1) ?_)
    refine (one_step x8 x2 3 (x 2) (x 3) 0 _ _ _ _ _ rfl rfl _ _ _ _ _ _ (by pointwise []) (fun r => by pointwise [])).trans (congrArg (one x8 x2 _ _ 3 (x 2) (x 3) _ 0) ?_)
    pointwise []
    all_goals rfl
  · obtain rfl : y = ix4 1 3 (x 2) (x 3) := by
      funext a
      match a with
      | 0 => exact Fin.ext (by show (y 0).val = 1; omega)
      | 1 => exact Fin.ext (by show (y 1).val = 3; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 3 (x 2) (x 3) 1 _ _ _ _ _ rfl rfl _ _ _ _ _ _ (by pointwise []) (fun r => by pointwise [])).trans (congrArg (one x8 x2 _ _ 3 (x 2) (x 3) _ 1) ?_)
    refine (one_step x8 x2 3 (x 2) (x 3) 0 _ _ _ _ _ rfl rfl _ _ _ _ _ _ (by pointwise []) (fun r => by pointwise [])).trans (congrArg (one x8 x2 _ _ 3 (x 2) (x 3) _ 0) ?_)
    pointwise []
    all_goals rfl
  · obtain rfl : y = ix4 0 3 (x 2) (x 3) := by
      funext a
      match a with
      | 0 => exact Fin.ext (by show (y 0).val = 0; omega)
      | 1 => exact Fin.ext (by show (y 1).val = 3; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 3 (x 2) (x 3) 0 _ _ _ _ _ rfl rfl _ _ _ _ _ _ (by pointwise []) (fun r => by pointwise [])).trans (congrArg (one x8 x2 _ _ 3 (x 2) (x 3) _ 0) ?_)
    pointwise []
    all_goals rfl
  · obtain rfl : y = ix4 3 2 (x 2) (x 3) := by
      funext a
      match a with
      | 0 => exact Fin.ext (by show (y 0).val = 3; omega)
      | 1 => exact Fin.ext (by show (y 1).val = 2; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 2 (x 2) (x 3) 3 _ _ _ _ _ rfl rfl _ _ _ _ _ _ (by pointwise []) (fun r => by pointwise [])).trans (congrArg (one x8 x2 _ _ 2 (x 2) (x 3) _ 3) ?_)
    refine (one_step x8 x2 2 (x 2) (x 3) 2 _ _ _ _ _ rfl rfl _ _ _ _ _ _ (by pointwise []) (fun r => by pointwise [])).trans (congrArg (one x8 x2 _ _ 2 (x 2) (x 3) _ 2) ?_)
    refine (one_step x8 x2 2 (x 2) (x 3) 1 _ _ _ _ _ rfl rfl _ _ _ _ _ _ (by pointwise []) (fun r => by pointwise [])).trans (congrArg (one x8 x2 _ _ 2 (x 2) (x 3) _ 1) ?_)
    refine (one_step x8 x2 2 (x 2) (x 3) 0 _ _ _ _ _ rfl rfl _ _ _ _ _ _ (by pointwise []) (fun r => by pointwise [])).trans (congrArg (one x8 x2 _ _ 2 (x 2) (x 3) _ 0) ?_)
    pointwise []
    all_goals rfl
  · obtain rfl : y = ix4 2 2 (x 2) (x 3) := by
      funext a
      match a with
      | 0 => exact Fin.ext (by show (y 0).val = 2; omega)
      | 1 => exact Fin.ext (by show (y 1).val = 2; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 2 (x 2) (x 3) 2 _ _ _ _ _ rfl rfl _ _ _ _ _ _ (by pointwise []) (fun r => by pointwise [])).trans (congrArg (one x8 x2 _ _ 2 (x 2) (x 3) _ 2) ?_)
    refine (one_step x8 x2 2 (x 2) (x 3) 1 _ _ _ _ _ rfl rfl _ _ _ _ _ _ (by pointwise []) (fun r => by pointwise [])).trans (congrArg (one x8 x2 _ _ 2 (x 2) (x 3) _ 1) ?_)
    refine (one_step x8 x2 2 (x 2) (x 3) 0 _ _ _ _ _ rfl rfl _ _ _ _ _ _ (by pointwise []) (fun r => by pointwise [])).trans (congrArg (one x8 x2 _ _ 2 (x 2) (x 3) _ 0) ?_)
    pointwise []
    all_goals rfl
  · obtain rfl : y = ix4 1 2 (x 2) (x 3) := by
      funext a
      match a with
      | 0 => exact Fin.ext (by show (y 0).val = 1; omega)
      | 1 => exact Fin.ext (by show (y 1).val = 2; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 2 (x 2) (x 3) 1 _ _ _ _ _ rfl rfl _ _ _ _ _ _ (by pointwise []) (fun r => by pointwise [])).trans (congrArg (one x8 x2 _ _ 2 (x 2) (x 3) _ 1) ?_)
    refine (one_step x8 x2 2 (x 2) (x 3) 0 _ _ _ _ _ rfl rfl _ _ _ _ _ _ (by pointwise []) (fun r => by pointwise [])).trans (congrArg (one x8 x2 _ _ 2 (x 2) (x 3) _ 0) ?_)
    pointwise []
    all_goals rfl
  · obtain rfl : y = ix4 0 2 (x 2) (x 3) := by
      funext a
      match a with
      | 0 => exact Fin.ext (by show (y 0).val = 0; omega)
      | 1 => exact Fin.ext (by show (y 1).val = 2; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 2 (x 2) (x 3) 0 _ _ _ _ _ rfl rfl _ _ _ _ _ _ (by pointwise []) (fun r => by pointwise [])).trans (congrArg (one x8 x2 _ _ 2 (x 2) (x 3) _ 0) ?_)
    pointwise []
    all_goals rfl
  · obtain rfl : y = ix4 3 1 (x 2) (x 3) := by
      funext a
      match a with
      | 0 => exact Fin.ext (by show (y 0).val = 3; omega)
      | 1 => exact Fin.ext (by show (y 1).val = 1; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 1 (x 2) (x 3) 3 _ _ _ _ _ rfl rfl _ _ _ _ _ _ (by pointwise []) (fun r => by pointwise [])).trans (congrArg (one x8 x2 _ _ 1 (x 2) (x 3) _ 3) ?_)
    refine (one_step x8 x2 1 (x 2) (x 3) 2 _ _ _ _ _ rfl rfl _ _ _ _ _ _ (by pointwise []) (fun r => by pointwise [])).trans (congrArg (one x8 x2 _ _ 1 (x 2) (x 3) _ 2) ?_)
    refine (one_step x8 x2 1 (x 2) (x 3) 1 _ _ _ _ _ rfl rfl _ _ _ _ _ _ (by pointwise []) (fun r => by pointwise [])).trans (congrArg (one x8 x2 _ _ 1 (x 2) (x 3) _ 1) ?_)
    refine (one_step x8 x2 1 (x 2) (x 3) 0 _ _ _ _ _ rfl rfl _ _ _ _ _ _ (by pointwise []) (fun r => by pointwise [])).trans (congrArg (one x8 x2 _ _ 1 (x 2) (x 3) _ 0) ?_)
    pointwise []
    all_goals rfl
  · obtain rfl : y = ix4 2 1 (x 2) (x 3) := by
      funext a
      match a with
      | 0 => exact Fin.ext (by show (y 0).val = 2; omega)
      | 1 => exact Fin.ext (by show (y 1).val = 1; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 1 (x 2) (x 3) 2 _ _ _ _ _ rfl rfl _ _ _ _ _ _ (by pointwise []) (fun r => by pointwise [])).trans (congrArg (one x8 x2 _ _ 1 (x 2) (x 3) _ 2) ?_)
    refine (one_step x8 x2 1 (x 2) (x 3) 1 _ _ _ _ _ rfl rfl _ _ _ _ _ _ (by pointwise []) (fun r => by pointwise [])).trans (congrArg (one x8 x2 _ _ 1 (x 2) (x 3) _ 1) ?_)
    refine (one_step x8 x2 1 (x 2) (x 3) 0 _ _ _ _ _ rfl rfl _ _ _ _ _ _ (by pointwise []) (fun r => by pointwise [])).trans (congrArg (one x8 x2 _ _ 1 (x 2) (x 3) _ 0) ?_)
    pointwise []
    all_goals rfl
  · obtain rfl : y = ix4 1 1 (x 2) (x 3) := by
      funext a
      match a with
      | 0 => exact Fin.ext (by show (y 0).val = 1; omega)
      | 1 => exact Fin.ext (by show (y 1).val = 1; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 1 (x 2) (x 3) 1 _ _ _ _ _ rfl rfl _ _ _ _ _ _ (by pointwise []) (fun r => by pointwise [])).trans (congrArg (one x8 x2 _ _ 1 (x 2) (x 3) _ 1) ?_)
    refine (one_step x8 x2 1 (x 2) (x 3) 0 _ _ _ _ _ rfl rfl _ _ _ _ _ _ (by pointwise []) (fun r => by pointwise [])).trans (congrArg (one x8 x2 _ _ 1 (x 2) (x 3) _ 0) ?_)
    pointwise []
    all_goals rfl
  · obtain rfl : y = ix4 0 1 (x 2) (x 3) := by
      funext a
      match a with
      | 0 => exact Fin.ext (by show (y 0).val = 0; omega)
      | 1 => exact Fin.ext (by show (y 1).val = 1; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 1 (x 2) (x 3) 0 _ _ _ _ _ rfl rfl _ _ _ _ _ _ (by pointwise []) (fun r => by pointwise [])).trans (congrArg (one x8 x2 _ _ 1 (x 2) (x 3) _ 0) ?_)
    pointwise []
    all_goals rfl
  · obtain rfl : y = ix4 3 0 (x 2) (x 3) := by
      funext a
      match a with
      | 0 => exact Fin.ext (by show (y 0).val = 3; omega)
      | 1 => exact Fin.ext (by show (y 1).val = 0; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 0 (x 2) (x 3) 3 _ _ _ _ _ rfl rfl _ _ _ _ _ _ (by pointwise []) (fun r => by pointwise [])).trans (congrArg (one x8 x2 _ _ 0 (x 2) (x 3) _ 3) ?_)
    refine (one_step x8 x2 0 (x 2) (x 3) 2 _ _ _ _ _ rfl rfl _ _ _ _ _ _ (by pointwise []) (fun r => by pointwise [])).trans (congrArg (one x8 x2 _ _ 0 (x 2) (x 3) _ 2) ?_)
    refine (one_step x8 x2 0 (x 2) (x 3) 1 _ _ _ _ _ rfl rfl _ _ _ _ _ _ (by pointwise []) (fun r => by pointwise [])).trans (congrArg (one x8 x2 _ _ 0 (x 2) (x 3) _ 1) ?_)
    refine (one_step x8 x2 0 (x 2) (x 3) 0 _ _ _ _ _ rfl rfl _ _ _ _ _ _ (by pointwise []) (fun r => by pointwise [])).trans (congrArg (one x8 x2 _ _ 0 (x 2) (x 3) _ 0) ?_)
    pointwise []
    all_goals rfl
  · obtain rfl : y = ix4 2 0 (x 2) (x 3) := by
      funext a
      match a with
      | 0 => exact Fin.ext (by show (y 0).val = 2; omega)
      | 1 => exact Fin.ext (by show (y 1).val = 0; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 0 (x 2) (x 3) 2 _ _ _ _ _ rfl rfl _ _ _ _ _ _ (by pointwise []) (fun r => by pointwise [])).trans (congrArg (one x8 x2 _ _ 0 (x 2) (x 3) _ 2) ?_)
    refine (one_step x8 x2 0 (x 2) (x 3) 1 _ _ _ _ _ rfl rfl _ _ _ _ _ _ (by pointwise []) (fun r => by pointwise [])).trans (congrArg (one x8 x2 _ _ 0 (x 2) (x 3) _ 1) ?_)
    refine (one_step x8 x2 0 (x 2) (x 3) 0 _ _ _ _ _ rfl rfl _ _ _ _ _ _ (by pointwise []) (fun r => by pointwise [])).trans (congrArg (one x8 x2 _ _ 0 (x 2) (x 3) _ 0) ?_)
    pointwise []
    all_goals rfl
  · obtain rfl : y = ix4 1 0 (x 2) (x 3) := by
      funext a
      match a with
      | 0 => exact Fin.ext (by show (y 0).val = 1; omega)
      | 1 => exact Fin.ext (by show (y 1).val = 0; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 0 (x 2) (x 3) 1 _ _ _ _ _ rfl rfl _ _ _ _ _ _ (by pointwise []) (fun r => by pointwise [])).trans (congrArg (one x8 x2 _ _ 0 (x 2) (x 3) _ 1) ?_)
    refine (one_step x8 x2 0 (x 2) (x 3) 0 _ _ _ _ _ rfl rfl _ _ _ _ _ _ (by pointwise []) (fun r => by pointwise [])).trans (congrArg (one x8 x2 _ _ 0 (x 2) (x 3) _ 0) ?_)
    pointwise []
    all_goals rfl
  · obtain rfl : y = ix4 0 0 (x 2) (x 3) := by
      funext a
      match a with
      | 0 => exact Fin.ext (by show (y 0).val = 0; omega)
      | 1 => exact Fin.ext (by show (y 1).val = 0; omega)
      | 2 => exact Fin.ext h2
      | 3 => exact Fin.ext h3
    rw [eta4 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    refine (outp_at _ _ _).trans ?_
    refine (one_step x8 x2 0 (x 2) (x 3) 0 _ _ _ _ _ rfl rfl _ _ _ _ _ _ (by pointwise []) (fun r => by pointwise [])).trans (congrArg (one x8 x2 _ _ 0 (x 2) (x 3) _ 0) ?_)
    pointwise []
    all_goals rfl

/-- The states one point hands to the next. -/
theorem scr_at (c : Dev nD) (i : grid0.Coords) (arg1 : Memref sig .tc .vmem S256x384 .f32) (harg1 : arg1.IsWhole) (arg2 : Memref sig .tc .vmem S256x384 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S256x128 .f32) (harg5 : arg5.IsWhole) (arg6 : Memref sig .tc .vmem S1x16x384 .bf16) (harg6 : arg6.IsWhole) (arg7 : Memref sig .tc .vmem S1x1x384 .f32) (harg7 : arg7.IsWhole) (arg8 : Memref sig .tc .vmem S1x1x768 .f32) (harg8 : arg8.IsWhole) (arg9 : Memref sig .tc .vmem S1x4x6x64x128 .f32) (harg9 : arg9.IsWhole) (arg10 : Memref sig .tc .vmem S256x768 .bf16) (harg10 : arg10.IsWhole) (arg11 : Memref sig .tc .vmem S4x6x64x128 .f32) (harg11 : arg11.IsWhole) (arg12 : Memref sig .tc .vmem S6x128x64 .f32) (harg12 : arg12.IsWhole)
    (x0 : Vec Ideal S256x384 .f32) (x1 : Vec Ideal S256x384 .f32) (x2 : Vec Ideal S256x768 .f32) (x3 : Vec Ideal S256x768 .f32) (x4 : Vec Ideal S256x128 .f32) (x5 : Vec Ideal S1x16x384 .bf16) (x6 : Vec Ideal S1x1x384 .f32) (x7 : Vec Ideal S1x1x768 .f32) (x8 : Vec Ideal S1x4x6x64x128 .f32) (xs0 : Vec Ideal S6x128x64 .f32) (y : S6x128x64.Idx) :
    (step0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xs0).2.2 y
      = chain i x8 x2 (KS x1 x4 x5 x6) (DEC x4 x5 x6) (y 0) (y 2) (y 1) (xs0 y) 4 (le_refl 4) := by
  unfold step0
  frame_out
  canon_tiles x h
  · obtain rfl : y = ix3 5 (x 1) (x 2) := by
      funext a
      match a with
      | 0 => exact Fin.ext (by show (y 0).val = 5; omega)
      | 1 => exact Fin.ext h1
      | 2 => exact Fin.ext h2
    rw [eta3 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    have e : ∀ z : FVec Ideal S128x64 .f32, shapeCast S1x128x64 z shapeCasts_S128x64_S1x128x64 (ix3 0 (x 1) (x 2)) = z (ix2 (x 1) (x 2)) := fun z => by pointwise []
    refine (e _).trans ?_
    refine (one_step x8 x2 5 (x 2) (x 1) 3 _ _ _ _ _ rfl rfl _ _ _ _ _ _ (by pointwise []) (fun r => by pointwise [])).trans (congrArg (one x8 x2 _ _ 5 (x 2) (x 1) _ 3) ?_)
    refine (one_step x8 x2 5 (x 2) (x 1) 2 _ _ _ _ _ rfl rfl _ _ _ _ _ _ (by pointwise []) (fun r => by pointwise [])).trans (congrArg (one x8 x2 _ _ 5 (x 2) (x 1) _ 2) ?_)
    refine (one_step x8 x2 5 (x 2) (x 1) 1 _ _ _ _ _ rfl rfl _ _ _ _ _ _ (by pointwise []) (fun r => by pointwise [])).trans (congrArg (one x8 x2 _ _ 5 (x 2) (x 1) _ 1) ?_)
    refine (one_step x8 x2 5 (x 2) (x 1) 0 _ _ _ _ _ rfl rfl _ _ _ _ _ _ (by pointwise []) (fun r => by pointwise [])).trans (congrArg (one x8 x2 _ _ 5 (x 2) (x 1) _ 0) ?_)
    pointwise []
    all_goals rfl
  · obtain rfl : y = ix3 4 (x 1) (x 2) := by
      funext a
      match a with
      | 0 => exact Fin.ext (by show (y 0).val = 4; omega)
      | 1 => exact Fin.ext h1
      | 2 => exact Fin.ext h2
    rw [eta3 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    have e : ∀ z : FVec Ideal S128x64 .f32, shapeCast S1x128x64 z shapeCasts_S128x64_S1x128x64 (ix3 0 (x 1) (x 2)) = z (ix2 (x 1) (x 2)) := fun z => by pointwise []
    refine (e _).trans ?_
    refine (one_step x8 x2 4 (x 2) (x 1) 3 _ _ _ _ _ rfl rfl _ _ _ _ _ _ (by pointwise []) (fun r => by pointwise [])).trans (congrArg (one x8 x2 _ _ 4 (x 2) (x 1) _ 3) ?_)
    refine (one_step x8 x2 4 (x 2) (x 1) 2 _ _ _ _ _ rfl rfl _ _ _ _ _ _ (by pointwise []) (fun r => by pointwise [])).trans (congrArg (one x8 x2 _ _ 4 (x 2) (x 1) _ 2) ?_)
    refine (one_step x8 x2 4 (x 2) (x 1) 1 _ _ _ _ _ rfl rfl _ _ _ _ _ _ (by pointwise []) (fun r => by pointwise [])).trans (congrArg (one x8 x2 _ _ 4 (x 2) (x 1) _ 1) ?_)
    refine (one_step x8 x2 4 (x 2) (x 1) 0 _ _ _ _ _ rfl rfl _ _ _ _ _ _ (by pointwise []) (fun r => by pointwise [])).trans (congrArg (one x8 x2 _ _ 4 (x 2) (x 1) _ 0) ?_)
    pointwise []
    all_goals rfl
  · obtain rfl : y = ix3 3 (x 1) (x 2) := by
      funext a
      match a with
      | 0 => exact Fin.ext (by show (y 0).val = 3; omega)
      | 1 => exact Fin.ext h1
      | 2 => exact Fin.ext h2
    rw [eta3 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    have e : ∀ z : FVec Ideal S128x64 .f32, shapeCast S1x128x64 z shapeCasts_S128x64_S1x128x64 (ix3 0 (x 1) (x 2)) = z (ix2 (x 1) (x 2)) := fun z => by pointwise []
    refine (e _).trans ?_
    refine (one_step x8 x2 3 (x 2) (x 1) 3 _ _ _ _ _ rfl rfl _ _ _ _ _ _ (by pointwise []) (fun r => by pointwise [])).trans (congrArg (one x8 x2 _ _ 3 (x 2) (x 1) _ 3) ?_)
    refine (one_step x8 x2 3 (x 2) (x 1) 2 _ _ _ _ _ rfl rfl _ _ _ _ _ _ (by pointwise []) (fun r => by pointwise [])).trans (congrArg (one x8 x2 _ _ 3 (x 2) (x 1) _ 2) ?_)
    refine (one_step x8 x2 3 (x 2) (x 1) 1 _ _ _ _ _ rfl rfl _ _ _ _ _ _ (by pointwise []) (fun r => by pointwise [])).trans (congrArg (one x8 x2 _ _ 3 (x 2) (x 1) _ 1) ?_)
    refine (one_step x8 x2 3 (x 2) (x 1) 0 _ _ _ _ _ rfl rfl _ _ _ _ _ _ (by pointwise []) (fun r => by pointwise [])).trans (congrArg (one x8 x2 _ _ 3 (x 2) (x 1) _ 0) ?_)
    pointwise []
    all_goals rfl
  · obtain rfl : y = ix3 2 (x 1) (x 2) := by
      funext a
      match a with
      | 0 => exact Fin.ext (by show (y 0).val = 2; omega)
      | 1 => exact Fin.ext h1
      | 2 => exact Fin.ext h2
    rw [eta3 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    have e : ∀ z : FVec Ideal S128x64 .f32, shapeCast S1x128x64 z shapeCasts_S128x64_S1x128x64 (ix3 0 (x 1) (x 2)) = z (ix2 (x 1) (x 2)) := fun z => by pointwise []
    refine (e _).trans ?_
    refine (one_step x8 x2 2 (x 2) (x 1) 3 _ _ _ _ _ rfl rfl _ _ _ _ _ _ (by pointwise []) (fun r => by pointwise [])).trans (congrArg (one x8 x2 _ _ 2 (x 2) (x 1) _ 3) ?_)
    refine (one_step x8 x2 2 (x 2) (x 1) 2 _ _ _ _ _ rfl rfl _ _ _ _ _ _ (by pointwise []) (fun r => by pointwise [])).trans (congrArg (one x8 x2 _ _ 2 (x 2) (x 1) _ 2) ?_)
    refine (one_step x8 x2 2 (x 2) (x 1) 1 _ _ _ _ _ rfl rfl _ _ _ _ _ _ (by pointwise []) (fun r => by pointwise [])).trans (congrArg (one x8 x2 _ _ 2 (x 2) (x 1) _ 1) ?_)
    refine (one_step x8 x2 2 (x 2) (x 1) 0 _ _ _ _ _ rfl rfl _ _ _ _ _ _ (by pointwise []) (fun r => by pointwise [])).trans (congrArg (one x8 x2 _ _ 2 (x 2) (x 1) _ 0) ?_)
    pointwise []
    all_goals rfl
  · obtain rfl : y = ix3 1 (x 1) (x 2) := by
      funext a
      match a with
      | 0 => exact Fin.ext (by show (y 0).val = 1; omega)
      | 1 => exact Fin.ext h1
      | 2 => exact Fin.ext h2
    rw [eta3 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    have e : ∀ z : FVec Ideal S128x64 .f32, shapeCast S1x128x64 z shapeCasts_S128x64_S1x128x64 (ix3 0 (x 1) (x 2)) = z (ix2 (x 1) (x 2)) := fun z => by pointwise []
    refine (e _).trans ?_
    refine (one_step x8 x2 1 (x 2) (x 1) 3 _ _ _ _ _ rfl rfl _ _ _ _ _ _ (by pointwise []) (fun r => by pointwise [])).trans (congrArg (one x8 x2 _ _ 1 (x 2) (x 1) _ 3) ?_)
    refine (one_step x8 x2 1 (x 2) (x 1) 2 _ _ _ _ _ rfl rfl _ _ _ _ _ _ (by pointwise []) (fun r => by pointwise [])).trans (congrArg (one x8 x2 _ _ 1 (x 2) (x 1) _ 2) ?_)
    refine (one_step x8 x2 1 (x 2) (x 1) 1 _ _ _ _ _ rfl rfl _ _ _ _ _ _ (by pointwise []) (fun r => by pointwise [])).trans (congrArg (one x8 x2 _ _ 1 (x 2) (x 1) _ 1) ?_)
    refine (one_step x8 x2 1 (x 2) (x 1) 0 _ _ _ _ _ rfl rfl _ _ _ _ _ _ (by pointwise []) (fun r => by pointwise [])).trans (congrArg (one x8 x2 _ _ 1 (x 2) (x 1) _ 0) ?_)
    pointwise []
    all_goals rfl
  · obtain rfl : y = ix3 0 (x 1) (x 2) := by
      funext a
      match a with
      | 0 => exact Fin.ext (by show (y 0).val = 0; omega)
      | 1 => exact Fin.ext h1
      | 2 => exact Fin.ext h2
    rw [eta3 x]
    simp only [k0_pay19, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154]
    have e : ∀ z : FVec Ideal S128x64 .f32, shapeCast S1x128x64 z shapeCasts_S128x64_S1x128x64 (ix3 0 (x 1) (x 2)) = z (ix2 (x 1) (x 2)) := fun z => by pointwise []
    refine (e _).trans ?_
    refine (one_step x8 x2 0 (x 2) (x 1) 3 _ _ _ _ _ rfl rfl _ _ _ _ _ _ (by pointwise []) (fun r => by pointwise [])).trans (congrArg (one x8 x2 _ _ 0 (x 2) (x 1) _ 3) ?_)
    refine (one_step x8 x2 0 (x 2) (x 1) 2 _ _ _ _ _ rfl rfl _ _ _ _ _ _ (by pointwise []) (fun r => by pointwise [])).trans (congrArg (one x8 x2 _ _ 0 (x 2) (x 1) _ 2) ?_)
    refine (one_step x8 x2 0 (x 2) (x 1) 1 _ _ _ _ _ rfl rfl _ _ _ _ _ _ (by pointwise []) (fun r => by pointwise [])).trans (congrArg (one x8 x2 _ _ 0 (x 2) (x 1) _ 1) ?_)
    refine (one_step x8 x2 0 (x 2) (x 1) 0 _ _ _ _ _ rfl rfl _ _ _ _ _ _ (by pointwise []) (fun r => by pointwise [])).trans (congrArg (one x8 x2 _ _ 0 (x 2) (x 1) _ 0) ?_)
    pointwise []
    all_goals rfl

end Cert.GlaIdeal.Tie
-- ==== Proof.GlaRefVal.lean ====
module

public import proofs.«01_k».proof.Proof.GlaRefRun
public import proofs.«01_k».proof.Proof.GmlpTerms
public import Idealize.ShloMosaic.Lib.DynamicIndex
public import Idealize.ShloMosaic.Lib.Pipeline.Value

/-! The reference of the gated linear attention call: its result, entry by entry. -/

set_option maxRecDepth 16384

@[expose] public section

noncomputable section

open Idealize.ShloMosaic Idealize.ShloMosaic.TcCoe Idealize.SL.Sem Idealize.ShloMosaic.StableHlo

namespace Cert.GlaRefIdeal.Ref

open Cert.GlaRefIdeal Cert.GlaRefIdeal.Gen Cert.GlaRefIdeal.Value

/-- A fold that adds one term per index is the sum of the terms. -/
theorem foldl_add_sum {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; simp only [List.foldl_cons, List.map_cons, List.sum_cons]; rw [ih, add_assoc]
  rw [h]
  congr 1

/-- The window of 64 rows ending at row `s`, rows before the first counting zero, is the sum of the rows up to `s`. -/
theorem window_sum (f : ℕ → EReal) (s : ℕ) (hs : s < 64) :
    (∑ n : Fin 64, if 63 ≤ s + n.val then f (s + n.val - 63) else 0) = ∑ a : Fin 64, if a.val ≤ s then f a.val else 0 := by
  rw [← Finset.sum_filter, ← Finset.sum_filter]
  refine Finset.sum_bij' (fun n _ => (⟨s + n.val - 63, by omega⟩ : Fin 64)) (fun a ha => (⟨a.val + 63 - s, by
    have := (Finset.mem_filter.mp ha).2; omega⟩ : Fin 64)) ?_ ?_ ?_ ?_ ?_
  · intro n hn; have := (Finset.mem_filter.mp hn).2; exact Finset.mem_filter.mpr ⟨Finset.mem_univ _, by show s + n.val - 63 ≤ s; omega⟩
  · intro a ha; have := (Finset.mem_filter.mp ha).2; exact Finset.mem_filter.mpr ⟨Finset.mem_univ _, by show 63 ≤ s + (a.val + 63 - s); omega⟩
  · intro n hn; have := (Finset.mem_filter.mp hn).2; exact Fin.ext (by show s + n.val - 63 + 63 - s = n.val; omega)
  · intro a ha; have := (Finset.mem_filter.mp ha).2; exact Fin.ext (by show s + (a.val + 63 - s) - 63 = a.val; omega)
  · intro n hn; rfl

theorem numel_w : (⟨4, ![1, 64, 1, 1]⟩ : Shape).numel = 64 := by decide

theorem symm_w (n : Fin (⟨4, ![1, 64, 1, 1]⟩ : Shape).numel) :
    (⟨4, ![1, 64, 1, 1]⟩ : Shape).rowMajor.symm n = ix4 (0 : Fin 1) (n.cast numel_w) (0 : Fin 1) (0 : Fin 1) :=
  ((⟨4, ![1, 64, 1, 1]⟩ : Shape).rowMajor.symm_apply_eq).2 (Fin.ext (by
    rw [Shape.rowMajor_val_four]; show n.val = _; simp [ix4]))

/-- A running sum over 64 rows at a row. -/
theorem cum_at {B : ℕ} (x : FVec Ideal (⟨4, ![B, 64, 6, 64]⟩ : Shape) .f32) (init : S_.Idx → Ideal .f32) (hi : init = fun _ => (0 : EReal))
    (hw : (⟨4, ![B, 64, 6, 64]⟩ : Shape).ReduceWindows (![1, 64, 1, 1] : Fin 4 → ℕ) ![1, 1, 1, 1] ![0, 63, 0, 0] ![0, 0, 0, 0] (⟨4, ![B, 64, 6, 64]⟩ : Shape))
    (hu : 0 < S_.numel) (b : Fin B) (s : Fin 64) (h : Fin 6) (d : Fin 64) :
    Host.reduceWindowAdd (F := Ideal) ![1, 64, 1, 1] ![1, 1, 1, 1] ![0, 63, 0, 0] ![0, 0, 0, 0] x init hw hu (ix4 b s h d)
      = ∑ a : Fin 64, if a.val ≤ s.val then x (ix4 b a h d) else 0 := by
  show Host.reduceWindow (α := EReal) (· + ·) ![1, 64, 1, 1] ![1, 1, 1, 1] ![0, 63, 0, 0] ![0, 0, 0, 0] x _ hw _ (ix4 b s h d) = _
  unfold Host.reduceWindow
  refine (foldl_add_sum _ _).trans ?_
  subst hi
  show (0 : EReal) + _ = _
  rw [zero_add]
  have hs := s.isLt
  have ww := window_sum (fun a => if ha : a < 64 then x (ix4 b ⟨a, ha⟩ h d) else 0) s.val hs
  refine Eq.trans ?_ (ww.trans ?_)
  · refine Fintype.sum_equiv (finCongr numel_w) _ _ fun n => ?_
    have hn : n.val < 64 := (n.cast numel_w).isLt
    have w0 : ((⟨4, ![1, 64, 1, 1]⟩ : Shape).rowMajor.symm n 0).val = 0 := by rw [symm_w]; rfl
    have w1 : ((⟨4, ![1, 64, 1, 1]⟩ : Shape).rowMajor.symm n 1).val = n.val := by rw [symm_w]; rfl
    have w2 : ((⟨4, ![1, 64, 1, 1]⟩ : Shape).rowMajor.symm n 2).val = 0 := by rw [symm_w]; rfl
    have w3 : ((⟨4, ![1, 64, 1, 1]⟩ : Shape).rowMajor.symm n 3).val = 0 := by rw [symm_w]; rfl
    show _ = if 63 ≤ s.val + n.val then (if ha : s.val + n.val - 63 < 64 then x (ix4 b ⟨s.val + n.val - 63, ha⟩ h d) else 0) else 0
    by_cases hle : 63 ≤ s.val + n.val
    · rw [if_pos hle, dif_pos (show s.val + n.val - 63 < 64 by omega)]
      refine (dif_pos (fun a => ?_)).trans ?_
      · match a with
        | ⟨0, _⟩ => show 0 ≤ b.val * 1 + ((⟨4, ![1, 64, 1, 1]⟩ : Shape).rowMajor.symm n 0).val ∧ b.val * 1 + ((⟨4, ![1, 64, 1, 1]⟩ : Shape).rowMajor.symm n 0).val - 0 < B; rw [w0]; have := b.isLt; omega
        | ⟨1, _⟩ => show 63 ≤ s.val * 1 + ((⟨4, ![1, 64, 1, 1]⟩ : Shape).rowMajor.symm n 1).val ∧ s.val * 1 + ((⟨4, ![1, 64, 1, 1]⟩ : Shape).rowMajor.symm n 1).val - 63 < 64; rw [w1]; omega
        | ⟨2, _⟩ => show 0 ≤ h.val * 1 + ((⟨4, ![1, 64, 1, 1]⟩ : Shape).rowMajor.symm n 2).val ∧ h.val * 1 + ((⟨4, ![1, 64, 1, 1]⟩ : Shape).rowMajor.symm n 2).val - 0 < 6; rw [w2]; have := h.isLt; omega
        | ⟨3, _⟩ => show 0 ≤ d.val * 1 + ((⟨4, ![1, 64, 1, 1]⟩ : Shape).rowMajor.symm n 3).val ∧ d.val * 1 + ((⟨4, ![1, 64, 1, 1]⟩ : Shape).rowMajor.symm n 3).val - 0 < 64; rw [w3]; have := d.isLt; omega
      · refine congrArg x (funext fun a => Fin.ext ?_)
        match a with
        | ⟨0, _⟩ => show b.val * 1 + ((⟨4, ![1, 64, 1, 1]⟩ : Shape).rowMajor.symm n 0).val - 0 = b.val; rw [w0]; omega
        | ⟨1, _⟩ => show s.val * 1 + ((⟨4, ![1, 64, 1, 1]⟩ : Shape).rowMajor.symm n 1).val - 63 = s.val + n.val - 63; rw [w1]; omega
        | ⟨2, _⟩ => show h.val * 1 + ((⟨4, ![1, 64, 1, 1]⟩ : Shape).rowMajor.symm n 2).val - 0 = h.val; rw [w2]; omega
        | ⟨3, _⟩ => show d.val * 1 + ((⟨4, ![1, 64, 1, 1]⟩ : Shape).rowMajor.symm n 3).val - 0 = d.val; rw [w3]; omega
    · rw [if_neg hle]
      refine dif_neg fun hin => hle ?_
      have h1 := (hin 1).1
      change 63 ≤ s.val * 1 + ((⟨4, ![1, 64, 1, 1]⟩ : Shape).rowMajor.symm n 1).val at h1
      rw [w1] at h1; omega
  · refine Finset.sum_congr rfl fun a _ => ?_
    simp only [a.isLt, dif_pos]

/-- The sum of a chunk's log decays up to a row. -/
def cum (g : Fin 64 → EReal) (s : ℕ) : EReal := ∑ a : Fin 64, if a.val ≤ s then g a else 0

/-- One chunk's step of one entry of the state. -/
def upd1 (kk gg vv : Fin 64 → EReal) (p : EReal) : EReal :=
  Ideal.exp (cum gg 63) * p + ∑ s : Fin 64, (kk s * Ideal.exp (cum gg 63 - cum gg s.val)) * vv s

theorem upd1_congr {k k' g g' v v' : Fin 64 → EReal} {p p' : EReal} (hk : ∀ a, k a = k' a) (hg : ∀ a, g a = g' a) (hv : ∀ a, v a = v' a) (hp : p = p') :
    upd1 k g v p = upd1 k' g' v' p' := by
  rw [funext hk, funext hg, funext hv, hp]

theorem next_word (k : ℕ) : addi (fun _ : S_.Idx => BitVec.ofNat 32 k) (constantI S_ 32 1#32) = fun _ => BitVec.ofNat 32 (k + 1) := by
  funext x
  show BitVec.ofNat 32 k + 1#32 = _
  exact (BitVec.ofNat_add k 1).symm

theorem toInt_small : ∀ k : Fin 128, (BitVec.ofNat 32 k.val).toInt = (k.val : Int) := by decide +kernel

/-- Entries of a buffer of rank five at indices of equal coordinates are equal. -/
theorem at5 {n0 n1 n2 n3 n4 : ℕ} (x : (⟨5, ![n0, n1, n2, n3, n4]⟩ : Shape).Idx → EReal) {a a' : Fin n0} {b b' : Fin n1} {c c' : Fin n2} {e e' : Fin n3} {f f' : Fin n4}
    (ha : a.val = a'.val) (hb : b.val = b'.val) (hc : c.val = c'.val) (he : e.val = e'.val) (hf : f.val = f'.val) :
    x (ix5 a b c e f) = x (ix5 a' b' c' e' f') := by
  rw [Fin.ext ha, Fin.ext hb, Fin.ext hc, Fin.ext he, Fin.ext hf]

/-- Where a trip's slice starts, the trip's number being `k`. -/
abbrev starts (w : S_.Idx → BitVec 32) : Fin 5 → Int := fun k =>
  ((![w, constantI S_ 32 0#32, constantI S_ 32 0#32, constantI S_ 32 0#32, constantI S_ 32 0#32] : Fin 5 → S_.Idx → BitVec 32) k (Shape.Idx.first h_S_)).toInt

/-- A slice of one chunk. -/
theorem slice_at {w : ℕ} (x : FVec Ideal (⟨5, ![128, 1, 64, 6, w]⟩ : Shape) .f32) (k : Fin 128)
    (h : (⟨5, ![128, 1, 64, 6, w]⟩ : Shape).Slices (fun _ => 0) (⟨5, ![1, 1, 64, 6, w]⟩ : Shape))
    (wd : S_.Idx → BitVec 32) (hw : wd = fun _ => BitVec.ofNat 32 k.val) (s : Fin 64) (a : Fin 6) (d : Fin w) :
    Host.dynamicSlice (⟨5, ![1, 1, 64, 6, w]⟩ : Shape) x (starts wd) h (ix5 0 0 s a d) = x (ix5 k 0 s a d) := by
  subst hw
  have hk := k.isLt
  have c0 : Host.clampedStart (⟨5, ![128, 1, 64, 6, w]⟩ : Shape) (⟨5, ![1, 1, 64, 6, w]⟩ : Shape) rfl (starts fun _ => BitVec.ofNat 32 k.val) 0 = k.val :=
    Host.clampedStart_of_le (s := ⟨5, ![128, 1, 64, 6, w]⟩) (t := ⟨5, ![1, 1, 64, 6, w]⟩) rfl _ 0 k.val (toInt_small k) (show k.val + 1 ≤ 128 by omega)
  have c1 : Host.clampedStart (⟨5, ![128, 1, 64, 6, w]⟩ : Shape) (⟨5, ![1, 1, 64, 6, w]⟩ : Shape) rfl (starts fun _ => BitVec.ofNat 32 k.val) 1 = 0 :=
    Host.clampedStart_of_le (s := ⟨5, ![128, 1, 64, 6, w]⟩) (t := ⟨5, ![1, 1, 64, 6, w]⟩) rfl _ 1 0 rfl (show 0 + 1 ≤ 1 by omega)
  have c2 : Host.clampedStart (⟨5, ![128, 1, 64, 6, w]⟩ : Shape) (⟨5, ![1, 1, 64, 6, w]⟩ : Shape) rfl (starts fun _ => BitVec.ofNat 32 k.val) 2 = 0 :=
    Host.clampedStart_of_le (s := ⟨5, ![128, 1, 64, 6, w]⟩) (t := ⟨5, ![1, 1, 64, 6, w]⟩) rfl _ 2 0 rfl (show 0 + 64 ≤ 64 by omega)
  have c3 : Host.clampedStart (⟨5, ![128, 1, 64, 6, w]⟩ : Shape) (⟨5, ![1, 1, 64, 6, w]⟩ : Shape) rfl (starts fun _ => BitVec.ofNat 32 k.val) 3 = 0 :=
    Host.clampedStart_of_le (s := ⟨5, ![128, 1, 64, 6, w]⟩) (t := ⟨5, ![1, 1, 64, 6, w]⟩) rfl _ 3 0 rfl (show 0 + 6 ≤ 6 by omega)
  have c4 : Host.clampedStart (⟨5, ![128, 1, 64, 6, w]⟩ : Shape) (⟨5, ![1, 1, 64, 6, w]⟩ : Shape) rfl (starts fun _ => BitVec.ofNat 32 k.val) 4 = 0 :=
    Host.clampedStart_of_le (s := ⟨5, ![128, 1, 64, 6, w]⟩) (t := ⟨5, ![1, 1, 64, 6, w]⟩) rfl _ 4 0 rfl (show 0 + w ≤ w by omega)
  rw [Host.dynamicSlice_apply]
  refine congrArg x (funext fun i => Fin.ext ?_)
  match i with
  | ⟨0, _⟩ => exact (congrArg (· + 0) c0)
  | ⟨1, _⟩ => exact (congrArg (· + 0) c1)
  | ⟨2, _⟩ => exact (congrArg (· + s.val) c2).trans (Nat.zero_add _)
  | ⟨3, _⟩ => exact (congrArg (· + a.val) c3).trans (Nat.zero_add _)
  | ⟨4, _⟩ => exact (congrArg (· + d.val) c4).trans (Nat.zero_add _)

/-- A chunk cast to drop its chunk axis. -/
theorem cast64_at (x : S1x1x64x6x64.Idx → EReal) (h : S1x1x64x6x64.ShapeCasts S1x64x6x64)
    (s : Fin 64) (a : Fin 6) (d : Fin 64) : shapeCast S1x64x6x64 x h (ix4 0 s a d) = x (ix5 0 0 s a d) := by
  pointwise []
theorem cast128_at (x : S1x1x64x6x128.Idx → EReal) (h : S1x1x64x6x128.ShapeCasts S1x64x6x128)
    (s : Fin 64) (a : Fin 6) (d : Fin 128) : shapeCast S1x64x6x128 x h (ix4 0 s a d) = x (ix5 0 0 s a d) := by
  pointwise []

theorem v54_at (V : Valuation τ sig (Elt Ideal)) (k : Fin 128) (hk : V (Proc.devRef .tc main_v25_3) = fun _ => BitVec.ofNat 32 k.val)
    (s : Fin 64) (h : Fin 6) (d : Fin 64) :
    (res_main_while0b_v54 V : FVec Ideal S1x64x6x64 .f32) (ix4 0 s h d) = cum (fun a => (V (Proc.devRef .tc main_v25_2) : FVec Ideal S128x1x64x6x64 .f32) (ix5 k 0 a h d)) s.val := by
  unfold res_main_while0b_v54
  refine (cum_at _ _ (by funext; pointwise []) _ _ _ _ _ _).trans ?_
  exact Finset.sum_congr rfl fun a _ => if_congr Iff.rfl ((cast64_at _ _ _ _ _).trans (slice_at _ k _ _ hk _ _ _)) rfl

theorem v67_at (V : Valuation τ sig (Elt Ideal)) (k : Fin 128) (hk : V (Proc.devRef .tc main_v25_3) = fun _ => BitVec.ofNat 32 k.val) (h : Fin 6) (d : Fin 64) (v : Fin 128) :
    (res_main_while0b_v67 V : FVec Ideal S1x6x64x128 .f32) (ix4 0 h d v)
      = upd1 (fun a => (V (Proc.devRef .tc main_v25_0) : FVec Ideal S128x1x64x6x64 .f32) (ix5 k 0 a h d))
          (fun a => (V (Proc.devRef .tc main_v25_2) : FVec Ideal S128x1x64x6x64 .f32) (ix5 k 0 a h d))
          (fun a => (V (Proc.devRef .tc main_v25_1) : FVec Ideal S128x1x64x6x128 .f32) (ix5 k 0 a h v))
          ((V (Proc.devRef .tc main_v25_4) : FVec Ideal S1x6x64x128 .f32) (ix4 0 h d v)) := by
  have e : ∀ s h d, (shapeCast S1x64x6x64 (Host.dynamicSlice S1x1x64x6x64 (V (Proc.devRef .tc main_v25_0)) (starts (V (Proc.devRef .tc main_v25_3))) sliceFits_S128x1x64x6x64_S1x1x64x6x64) shapeCasts_S1x1x64x6x64_S1x64x6x64 : FVec Ideal S1x64x6x64 .f32) (ix4 0 s h d)
      = (V (Proc.devRef .tc main_v25_0) : FVec Ideal S128x1x64x6x64 .f32) (ix5 k 0 s h d) := fun s h d =>
    (cast64_at _ _ _ _ _).trans (slice_at _ k _ _ hk _ _ _)
  have e1 : ∀ s h d, (shapeCast S1x64x6x128 (Host.dynamicSlice S1x1x64x6x128 (V (Proc.devRef .tc main_v25_1)) (starts (V (Proc.devRef .tc main_v25_3))) sliceFits_S128x1x64x6x128_S1x1x64x6x128) shapeCasts_S1x1x64x6x128_S1x64x6x128 : FVec Ideal S1x64x6x128 .f32) (ix4 0 s h d)
      = (V (Proc.devRef .tc main_v25_1) : FVec Ideal S128x1x64x6x128 .f32) (ix5 k 0 s h d) := fun s h d =>
    (cast128_at _ _ _ _ _).trans (slice_at _ k _ _ hk _ _ _)
  unfold res_main_while0b_v67
  generalize hx : (shapeCast S1x64x6x64 (Host.dynamicSlice S1x1x64x6x64 (V (Proc.devRef .tc main_v25_0)) (starts (V (Proc.devRef .tc main_v25_3))) sliceFits_S128x1x64x6x64_S1x1x64x6x64) shapeCasts_S1x1x64x6x64_S1x64x6x64 : FVec Ideal S1x64x6x64 .f32) = X at e ⊢
  generalize hy : (shapeCast S1x64x6x128 (Host.dynamicSlice S1x1x64x6x128 (V (Proc.devRef .tc main_v25_1)) (starts (V (Proc.devRef .tc main_v25_3))) sliceFits_S128x1x64x6x128_S1x1x64x6x128) shapeCasts_S1x1x64x6x128_S1x64x6x128 : FVec Ideal S1x64x6x128 .f32) = Y at e1 ⊢
  pointwise [res_main_while0b_v56]
  simp only [e, e1, v54_at V k hk]
  rfl

/-- The row of a chunk. -/
def rowOf (n : ℕ) (hn : n < 144) (a : Fin 64) : Fin 9216 := ⟨n * 64 + a.val, by omega⟩

/-- One chunk's step of one entry of the state, from all keys, log decays and values. -/
def updR (K G : S9216x6x64.Idx → EReal) (V : S9216x6x128.Idx → EReal) (n : ℕ) (hn : n < 144) (h : Fin 6) (d : Fin 64) (v : Fin 128) (p : EReal) : EReal :=
  upd1 (fun a => K (ix3 (rowOf n hn a) h d)) (fun a => G (ix3 (rowOf n hn a) h d)) (fun a => V (ix3 (rowOf n hn a) h v)) p

/-- One entry of the state after `n` chunks, from zero. -/
def st (K G : S9216x6x64.Idx → EReal) (V : S9216x6x128.Idx → EReal) (h : Fin 6) (d : Fin 64) (v : Fin 128) : (n : ℕ) → n ≤ 144 → EReal
  | 0, _ => 0
  | n + 1, hn => updR K G V n hn h d v (st K G V h d v n (Nat.le_of_succ_le hn))

section
variable (V : Valuation τ sig (Elt Ideal))

theorem pre_k : ∀ (n : Fin 128) (a : Fin 64) (h : Fin 6) (d : Fin 64), (afterL preI V (Proc.devRef .tc main_v25_0) : FVec Ideal S128x1x64x6x64 .f32) (ix5 n 0 a h d) = K1 V (ix3 (rowOf n.val (by omega) a) h d) := by
  intro n a h d
  have e : afterL preI V (Proc.devRef .tc main_v25_0) = shapeCast S128x1x64x6x64 (extractStridedSlice S8192x6x64 ![0, 0, 0] (K1 V) slices_S9216x6x64_S8192x6x64_0_0_0) shapeCasts_S8192x6x64_S128x1x64x6x64 := by
    simp only [afterL_cons, afterL_nil, hostOps0, hostOps0_1, hostOps0_2, TRef.binary, TRef.nullary, TRef.ternary, TRef.unary, TRef.toBuf, TRef.ofBuf, cast_eq]
    after_results_simp <;> rfl
  rw [e]
  generalize K1 V = X
  pointwise []
  rfl
theorem pre_v : ∀ (n : Fin 128) (a : Fin 64) (h : Fin 6) (d : Fin 128), (afterL preI V (Proc.devRef .tc main_v25_1) : FVec Ideal S128x1x64x6x128 .f32) (ix5 n 0 a h d) = V1 V (ix3 (rowOf n.val (by omega) a) h d) := by
  intro n a h d
  have e : afterL preI V (Proc.devRef .tc main_v25_1) = shapeCast S128x1x64x6x128 (extractStridedSlice S8192x6x128 ![0, 0, 0] (V1 V) slices_S9216x6x128_S8192x6x128_0_0_0) shapeCasts_S8192x6x128_S128x1x64x6x128 := by
    simp only [afterL_cons, afterL_nil, hostOps0, hostOps0_1, hostOps0_2, TRef.binary, TRef.nullary, TRef.ternary, TRef.unary, TRef.toBuf, TRef.ofBuf, cast_eq]
    after_results_simp <;> rfl
  rw [e]
  generalize V1 V = X
  pointwise []
  rfl
theorem pre_g : ∀ (n : Fin 128) (a : Fin 64) (h : Fin 6) (d : Fin 64), (afterL preI V (Proc.devRef .tc main_v25_2) : FVec Ideal S128x1x64x6x64 .f32) (ix5 n 0 a h d) = G1 V (ix3 (rowOf n.val (by omega) a) h d) := by
  intro n a h d
  have e : afterL preI V (Proc.devRef .tc main_v25_2) = shapeCast S128x1x64x6x64 (extractStridedSlice S8192x6x64 ![0, 0, 0] (G1 V) slices_S9216x6x64_S8192x6x64_0_0_0) shapeCasts_S8192x6x64_S128x1x64x6x64 := by
    simp only [afterL_cons, afterL_nil, hostOps0, hostOps0_1, hostOps0_2, TRef.binary, TRef.nullary, TRef.ternary, TRef.unary, TRef.toBuf, TRef.ofBuf, cast_eq]
    after_results_simp <;> rfl
  rw [e]
  generalize G1 V = X
  pointwise []
  rfl
theorem pre_0 (h : Fin 6) (d : Fin 64) (v : Fin 128) : (afterL preI V (Proc.devRef .tc main_v25_4) : FVec Ideal S1x6x64x128 .f32) (ix4 0 h d v) = (0 : EReal) := by
  have e : afterL preI V (Proc.devRef .tc main_v25_4) = broadcastInDim S1x6x64x128 ![] bcast_S_S1x6x64x128 (constant (F := Ideal) S_ .f32 0x00000000#32) := by
    simp only [afterL_cons, afterL_nil, hostOps0, hostOps0_1, hostOps0_2, TRef.binary, TRef.nullary, TRef.ternary, TRef.unary, TRef.toBuf, TRef.ofBuf, cast_eq]
    after_results_simp <;> rfl
  rw [e]
  pointwise []

/-- What the loop carries at its `k`-th trip. -/
theorem inv : ∀ k : ℕ, (hk : k ≤ 128) →
    (STEP^[k] (afterL preI V)) (Proc.devRef .tc main_v25_0) = afterL preI V (Proc.devRef .tc main_v25_0)
    ∧ (STEP^[k] (afterL preI V)) (Proc.devRef .tc main_v25_1) = afterL preI V (Proc.devRef .tc main_v25_1)
    ∧ (STEP^[k] (afterL preI V)) (Proc.devRef .tc main_v25_2) = afterL preI V (Proc.devRef .tc main_v25_2)
    ∧ ((STEP^[k] (afterL preI V)) (Proc.devRef .tc main_v25_3) = fun _ => BitVec.ofNat 32 k)
    ∧ (∀ h d v, ((STEP^[k] (afterL preI V)) (Proc.devRef .tc main_v25_4) : FVec Ideal S1x6x64x128 .f32) (ix4 0 h d v) = st (K1 V) (G1 V) (V1 V) h d v k (by omega))
    ∧ (∀ (i : Fin 128) (hi : i.val < k) h d v, ((STEP^[k] (afterL preI V)) (Proc.devRef .tc main_v25_5) : FVec Ideal S128x1x6x64x128 .f32) (ix5 i 0 h d v)
        = st (K1 V) (G1 V) (V1 V) h d v (i.val + 1) (by omega)) := by
  intro k
  induction k with
  | zero =>
    intro hk
    refine ⟨rfl, rfl, rfl, ?_, fun h d v => pre_0 V h d v, fun i hi => absurd hi (Nat.not_lt_zero _)⟩
    show afterL preI V (Proc.devRef .tc main_v25_3) = _
    simp only [afterL_cons, afterL_nil]
    after_reads_simp
    rfl
  | succ k ih =>
    intro hk
    obtain ⟨i0, i1, i2, i3, i4, i5⟩ := ih (by omega)
    rw [Function.iterate_succ_apply']
    generalize STEP^[k] (afterL preI V) = W at *
    have hW : ∀ h d v, (res_main_while0b_v67 W : FVec Ideal S1x6x64x128 .f32) (ix4 0 h d v) = st (K1 V) (G1 V) (V1 V) h d v (k + 1) (by omega) := by
      intro h d v
      refine (v67_at W ⟨k, hk⟩ i3 h d v).trans ?_
      exact upd1_congr (fun a => (congrFun i0 _).trans (pre_k V ⟨k, hk⟩ a h d)) (fun a => (congrFun i2 _).trans (pre_g V ⟨k, hk⟩ a h d))
        (fun a => (congrFun i1 _).trans (pre_v V ⟨k, hk⟩ a h v)) (i4 h d v)
    refine ⟨(STEP_main_v25_0 W).trans i0, (STEP_main_v25_1 W).trans i1, (STEP_main_v25_2 W).trans i2, ?_, ?_, ?_⟩
    · exact (STEP_main_v25_3 W).trans ((congrArg (fun w : S_.Idx → BitVec 32 => addi w (constantI S_ 32 1#32)) i3).trans (next_word k))
    · intro h d v; rw [STEP_main_v25_4]; exact hW h d v
    · intro i hi h d v
      rw [STEP_main_v25_5]
      have hfit : S128x1x6x64x128.Slices (![k, 0, 0, 0, 0] : Fin 5 → ℕ) S1x1x6x64x128 := by
        refine ⟨rfl, fun i => ?_⟩
        match i with
        | ⟨0, _⟩ => show k + 1 ≤ 128; omega
        | ⟨1, _⟩ => show 0 + 1 ≤ 1; omega
        | ⟨2, _⟩ => show 0 + 6 ≤ 6; omega
        | ⟨3, _⟩ => show 0 + 64 ≤ 64; omega
        | ⟨4, _⟩ => show 0 + 128 ≤ 128; omega
      have e : step_main_v25_5 W = updateSlice (W (Proc.devRef .tc main_v25_5)) (broadcastInDim S1x1x6x64x128 ![1, 2, 3, 4] bcast_S1x6x64x128_S1x1x6x64x128_1_2_3_4 (res_main_while0b_v67 W)) ![k, 0, 0, 0, 0] hfit := by
        unfold step_main_v25_5
        refine WordCmp.dynamicUpdateSlice_eq_update _ _ _ _ _ hfit fun a => ?_
        rw [i3]
        match a with
        | ⟨0, _⟩ => exact toInt_small ⟨k, hk⟩
        | ⟨1, _⟩ => rfl
        | ⟨2, _⟩ => rfl
        | ⟨3, _⟩ => rfl
        | ⟨4, _⟩ => rfl
      rw [e]
      by_cases hik : i.val = k
      · refine (updateSlice_apply _ _ _ _ _).trans ?_
        have hin : ∀ a : Fin 5, (![k, 0, 0, 0, 0] : Fin 5 → ℕ) a ≤ (ix5 i (0 : Fin 1) h d v a).val ∧ (ix5 i (0 : Fin 1) h d v a).val < (![k, 0, 0, 0, 0] : Fin 5 → ℕ) a + (![1, 1, 6, 64, 128] : Fin 5 → ℕ) a := fun a => by
          have h1 := h.isLt; have h2 := d.isLt; have h3 := v.isLt
          match a with
          | ⟨0, _⟩ => show k ≤ i.val ∧ i.val < k + 1; omega
          | ⟨1, _⟩ => show 0 ≤ 0 ∧ 0 < 0 + 1; omega
          | ⟨2, _⟩ => show 0 ≤ h.val ∧ h.val < 0 + 6; omega
          | ⟨3, _⟩ => show 0 ≤ d.val ∧ d.val < 0 + 64; omega
          | ⟨4, _⟩ => show 0 ≤ v.val ∧ v.val < 0 + 128; omega
        refine (dif_pos hin).trans ?_
        subst hik
        refine Eq.trans ?_ (hW h d v)
        have hb : ∀ (y : S1x6x64x128.Idx → EReal) , broadcastInDim S1x1x6x64x128 ![1, 2, 3, 4] bcast_S1x6x64x128_S1x1x6x64x128_1_2_3_4 y (ix5 0 0 h d v) = y (ix4 0 h d v) := fun y => by pointwise []
        refine Eq.trans (congrArg _ (funext fun a => ?_)) (hb _)
        match a with
        | ⟨0, _⟩ => exact Fin.ext (Nat.sub_self _)
        | ⟨1, _⟩ => rfl
        | ⟨2, _⟩ => rfl
        | ⟨3, _⟩ => rfl
        | ⟨4, _⟩ => rfl
      · refine (updateSlice_apply _ _ _ _ _).trans ((dif_neg fun hin => ?_).trans (i5 i (by omega) h d v))
        have h0 := hin 0
        change k ≤ i.val ∧ i.val < k + 1 at h0
        omega

/-- The running sums of the later chunks' log decays. -/
def tailCum (g : FVec Ideal S9216x6x64 .f32) : FVec Ideal S16x64x6x64 .f32 :=
  Host.reduceWindowAdd ![1, 64, 1, 1] ![1, 1, 1, 1] ![0, 63, 0, 0] ![0, 0, 0, 0]
    (shapeCast S16x64x6x64 (extractStridedSlice S1024x6x64 ![8192, 0, 0] g slices_S9216x6x64_S1024x6x64_8192_0_0) shapeCasts_S1024x6x64_S16x64x6x64)
    (broadcastInDim S_ ![] bcast_S_S_ (constant S_ .f32 0x00000000#32)) reduceWindows_S16x64x6x64_S16x64x6x64_w1s1p0_0_w64s1p63_0_w1s1p0_0_w1s1p0_0 h_S_

/-- The later chunks' states. -/
def tailState (a4 : FVec Ideal S4x16x6x64x128 .f32) (k : FVec Ideal S9216x6x64 .f32) (v : FVec Ideal S9216x6x128 .f32) (cs : FVec Ideal S16x64x6x64 .f32) : FVec Ideal S16x6x64x128 .f32 :=
  let e := shapeCast S16x6x64 (extractStridedSlice S16x1x6x64 ![0, 63, 0, 0] cs slices_S16x64x6x64_S16x1x6x64_0_63_0_0) shapeCasts_S16x1x6x64_S16x6x64
  addf (mulf (broadcastInDim S16x6x64x128 ![0, 1, 2, 3] bcast_S16x6x64x1_S16x6x64x128_0_1_2_3 (broadcastInDim S16x6x64x1 ![0, 1, 2] bcast_S16x6x64_S16x6x64x1_0_1_2 (Host.exp e)))
      (shapeCast S16x6x64x128 (extractStridedSlice S1x16x6x64x128 ![0, 0, 0, 0, 0] a4 slices_S4x16x6x64x128_S1x16x6x64x128_0_0_0_0_0) shapeCasts_S1x16x6x64x128_S16x6x64x128))
    (Host.dotGeneral dot_S16x64x6x64_S16x64x6x128_S16x6x64x128_1_1_3_3_02_02 none
      (mulf (shapeCast S16x64x6x64 (extractStridedSlice S1024x6x64 ![8192, 0, 0] k slices_S9216x6x64_S1024x6x64_8192_0_0) shapeCasts_S1024x6x64_S16x64x6x64)
        (Host.exp (subf (broadcastInDim S16x64x6x64 ![0, 1, 2, 3] bcast_S16x1x6x64_S16x64x6x64_0_1_2_3 (broadcastInDim S16x1x6x64 ![0, 2, 3] bcast_S16x6x64_S16x1x6x64_0_2_3 e)) cs)))
      (shapeCast S16x64x6x128 (extractStridedSlice S1024x6x128 ![8192, 0, 0] v slices_S9216x6x128_S1024x6x128_8192_0_0) shapeCasts_S1024x6x128_S16x64x6x128))

/-- The result, from the loop's states and the later chunks'. -/
def joined (p : FVec Ideal S128x1x6x64x128 .f32) (q : FVec Ideal S16x6x64x128 .f32) : FVec Ideal S20x6x64x128 .f32 :=
  concatenate S20x6x64x128 0 [⟨S4x6x64x128, shapeCast S4x6x64x128 (extractStridedSlice S4x1x6x64x128 ![124, 0, 0, 0, 0] p slices_S128x1x6x64x128_S4x1x6x64x128_124_0_0_0_0) shapeCasts_S4x1x6x64x128_S4x6x64x128⟩, ⟨S16x6x64x128, q⟩] concatenates_S4x6x64x128_S16x6x64x128_S20x6x64x128_d0

theorem post_v50 : afterL postI V (Proc.devRef .tc main_v50)
    = joined (V (Proc.devRef .tc main_v25_5)) (tailState (V (Proc.devRef .tc main_arg4)) (V (Proc.devRef .tc main_v1)) (V (Proc.devRef .tc main_v3)) (tailCum (V (Proc.devRef .tc main_v16)))) := by
  simp only [afterL_cons, afterL_nil, hostOps0_3, hostOps0_4, hostOps0_5, TRef.binary, TRef.nullary, TRef.ternary, TRef.unary, TRef.toBuf, TRef.ofBuf, cast_eq]
  after_results_simp <;> rfl

theorem tailCum_at (g : FVec Ideal S9216x6x64 .f32) (j : Fin 16) (s : Fin 64) (h : Fin 6) (d : Fin 64) :
    tailCum g (ix4 j s h d) = cum (fun a => g (ix3 (rowOf (128 + j.val) (by omega) a) h d)) s.val := by
  refine (cum_at _ _ (by funext; pointwise []) _ _ _ _ _ _).trans ?_
  refine Finset.sum_congr rfl fun a _ => if_congr Iff.rfl ?_ rfl
  pointwise []
  exact congrArg (fun r => g (ix3 r h d)) (Fin.ext (by show 8192 + (j.val * 64 + a.val) = (128 + j.val) * 64 + a.val; omega))

theorem tailState_at (a4 : FVec Ideal S4x16x6x64x128 .f32) (k g : FVec Ideal S9216x6x64 .f32) (v : FVec Ideal S9216x6x128 .f32) (j : Fin 16) (h : Fin 6) (d : Fin 64) (w : Fin 128) :
    tailState a4 k v (tailCum g) (ix4 j h d w) = updR k g v (128 + j.val) (by omega) h d w (a4 (ix5 0 j h d w)) := by
  have e := tailCum_at g
  generalize tailCum g = cs at e ⊢
  unfold tailState
  pointwise []
  simp only [e]
  have er : ∀ (x : Fin 64) (hx : 8192 + (j.val * 64 + x.val) < 9216), (⟨8192 + (j.val * 64 + x.val), hx⟩ : Fin 9216) = rowOf (128 + j.val) (by omega) x := fun x hx =>
    Fin.ext (by show 8192 + (j.val * 64 + x.val) = (128 + j.val) * 64 + x.val; omega)
  simp only [er]
  rfl

theorem joined_lo (p : FVec Ideal S128x1x6x64x128 .f32) (q : FVec Ideal S16x6x64x128 .f32) (j : Fin 20) (hj : j.val < 4) (h : Fin 6) (d : Fin 64) (w : Fin 128) :
    joined p q (ix4 j h d w) = p (ix5 ⟨124 + j.val, by omega⟩ 0 h d w) := by
  unfold joined
  pointwise [hj]

theorem joined_hi (p : FVec Ideal S128x1x6x64x128 .f32) (q : FVec Ideal S16x6x64x128 .f32) (j : Fin 20) (hj : ¬ j.val < 4) (h : Fin 6) (d : Fin 64) (w : Fin 128) :
    joined p q (ix4 j h d w) = q (ix4 ⟨j.val - 4, by omega⟩ h d w) := by
  unfold joined
  pointwise [hj]

end

/-- The reference's result, entry by entry: the last four states of the prompt's chunks, then the one-chunk states of the samples. -/
def resR (K G : S9216x6x64.Idx → EReal) (V : S9216x6x128.Idx → EReal) (S : S4x16x6x64x128.Idx → EReal) (j : Fin 20) (h : Fin 6) (d : Fin 64) (v : Fin 128) : EReal :=
  if hj : j.val < 4 then st K G V h d v (125 + j.val) (by omega)
  else updR K G V (124 + j.val) (by omega) h d v (S (ix5 0 ⟨j.val - 4, by omega⟩ h d v))

variable (m : (ℓ : Loc nD τ sig) → Buf (Elt Ideal) ℓ)

theorem ref_at (c : Dev nD) (j : Fin 20) (h : Fin 6) (d : Fin 64) (v : Fin 128) :
    (finalContents condOps preI bodyI postI 128 m c (Proc.devRef .tc main_v50) : FVec Ideal S20x6x64x128 .f32) (ix4 j h d v)
      = resR (K1 (launchContents m c)) (G1 (launchContents m c)) (V1 (launchContents m c)) (m ((c.tc : Thread nD τ).loc main_arg4)) j h d v := by
  have e5 : VL m c (Proc.devRef .tc main_v25_5) = (STEP^[128] (afterL preI (launchContents m c))) (Proc.devRef .tc main_v25_5) :=
    (cond_keeps _ main_v25_5 (by decide)).trans (atK_agree m c 128 main_v25_5 (by decide))
  refine (congrFun (post_v50 (VL m c)) _).trans ?_
  unfold resR
  split
  · next hj =>
    refine (joined_lo _ _ j hj h d v).trans ((congrFun e5 _).trans ?_)
    refine ((inv (launchContents m c) 128 le_rfl).2.2.2.2.2 ⟨124 + j.val, by omega⟩ (by show 124 + j.val < 128; omega) h d v).trans ?_
    have : ∀ (n n' : ℕ) (e : n = n') (hn : n ≤ 144) (hn' : n' ≤ 144), st (K1 (launchContents m c)) (G1 (launchContents m c)) (V1 (launchContents m c)) h d v n hn = st (K1 (launchContents m c)) (G1 (launchContents m c)) (V1 (launchContents m c)) h d v n' hn' := by
      rintro n _ rfl _ _; rfl
    exact this _ _ (by show 124 + j.val + 1 = 125 + j.val; omega) _ _
  · next hj =>
    refine (joined_hi _ _ j hj h d v).trans ?_
    rw [VL_keep m c main_arg4 (by decide), VL_keep m c main_v1 (by decide), VL_keep m c main_v3 (by decide), VL_keep m c main_v16 (by decide)]
    have e1 : entryContents preI m c (Proc.devRef .tc main_v1) = K1 (launchContents m c) := pre_v1 _
    have e3 : entryContents preI m c (Proc.devRef .tc main_v3) = V1 (launchContents m c) := pre_v3 _
    have e16 : entryContents preI m c (Proc.devRef .tc main_v16) = G1 (launchContents m c) := pre_v16 _
    have e4 : entryContents preI m c (Proc.devRef .tc main_arg4) = m ((c.tc : Thread nD τ).loc main_arg4) := pre_keep _ main_arg4 (by decide)
    rw [e1, e3, e16, e4]
    refine (tailState_at _ _ _ _ _ h d v).trans ?_
    have : ∀ (n n' : ℕ) (e : n = n') (hn : n < 144) (hn' : n' < 144) p, updR (K1 (launchContents m c)) (G1 (launchContents m c)) (V1 (launchContents m c)) n hn h d v p = updR (K1 (launchContents m c)) (G1 (launchContents m c)) (V1 (launchContents m c)) n' hn' h d v p := by
      rintro n _ rfl _ _ _; rfl
    exact this _ _ (by show 128 + (j.val - 4) = 124 + j.val; omega) _ _ _

end Cert.GlaRefIdeal.Ref
-- ==== Proof.GlaGate.lean ====
module

public import proofs.«01_k».proof.Proof.GlaStep
public import proofs.«01_k».proof.Proof.GlaRefVal
public import proofs.«01_k».proof.Proof.GmlpValue
public import Idealize.ShloMosaic.Lib.Pipeline.ValueKit
public import Idealize.ShloMosaic.Lib.Pipeline.ReadBack
public import Idealize.ShloMosaic.Lib.Pointwise

/-! The gated linear attention call: the gate, and its sums along a chunk. -/

set_option maxRecDepth 16384

@[expose] public section

noncomputable section

open Idealize.ShloMosaic Idealize.ShloMosaic.TcCoe Idealize.SL.Sem
open Idealize.ShloMosaic.Pipeline (Dat)

namespace Cert.GlaIdeal.Tie

open Cert.GlaIdeal Cert.GlaIdeal.Gen Cert.GlaRefIdeal.Ref

/-- A row sees the rows of its own chunk up to itself. -/
theorem mask_at (r k : Fin 256) : k0_pay3 (ix2 r k) = BitVec.ofBool (decide (k.val ≤ r.val ∧ r.val / 64 = k.val / 64)) := by
  pointwise [k0_pay3]
  rw [Cert.GmlpIdeal.Tie.sle_at r k, Cert.GmlpIdeal.Tie.shr6, Cert.GmlpIdeal.Tie.shr6, Cert.GmlpIdeal.Tie.eq_at _ _ (by omega) (by omega), Cert.GmlpIdeal.Tie.and_at]
  simp only [and_comm]

/-- The gate's argument. -/
def xk (x4 : Vec Ideal S256x128 .f32) (x5 : Vec Ideal S1x16x384 .bf16) (x6 : Vec Ideal S1x1x384 .f32) (r : Fin 256) (q : Fin 384) : EReal :=
  (∑ k : Fin 16, x4 (ix2 r ⟨64 + k.val, by omega⟩) * x5 (ix3 0 k q)) + x6 (ix3 0 0 q)

/-- The kernel's gate of its argument. -/
def gk (x : EReal) : EReal := (min x 0 - Ideal.log1p (Ideal.exp (0 - max x (-x)))) * Ideal.ofBits .f32 0x3D800000#32

theorem pay2_at (x4 : Vec Ideal S256x128 .f32) (x5 : Vec Ideal S1x16x384 .bf16) (x6 : Vec Ideal S1x1x384 .f32) (r : Fin 256) (q : Fin 384) :
    k0_pay2 (gLd x4) x5 x6 (ix2 r q) = gk (xk x4 x5 x6 r q) := by
  pointwise [k0_pay2, gk, xk, gLd]
  rfl

/-- The kernel's three parts of a gate value add up to it. -/
theorem three (g : EReal) (h : g ≠ ⊤) : g + (g - g) + ((g - g) - (g - g)) = g := by
  induction g with
  | bot => simp
  | top => exact absurd rfl h
  | coe a =>
    rw [EReal.sub_self (EReal.coe_ne_top a) (EReal.coe_ne_bot a)]
    simp

theorem sixteenth : Ideal.ofBits .f32 0x3D800000#32 = (((1 : ℝ) / 16 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

theorem log1p_exp (a : ℝ) : Ideal.log1p ((Real.exp a : ℝ) : EReal) = ((Real.log (1 + Real.exp a) : ℝ) : EReal) := by
  unfold Ideal.log1p
  rw [← EReal.coe_one, ← EReal.coe_add, Ideal.log_coe, if_neg (not_le.mpr (by positivity))]

theorem log1p_zero : Ideal.log1p 0 = 0 := by
  unfold Ideal.log1p
  rw [add_zero, ← EReal.coe_one, Ideal.log_coe, if_neg (by norm_num), Real.log_one, EReal.coe_zero]

theorem exp_bot : Ideal.exp ⊥ = 0 := rfl

theorem max_real (a b : ℝ) : max (a : EReal) (b : EReal) = ((max a b : ℝ) : EReal) := (EReal.coe_strictMono.monotone.map_max).symm

theorem min_real (a b : ℝ) : min (a : EReal) (b : EReal) = ((min a b : ℝ) : EReal) := (EReal.coe_strictMono.monotone.map_min).symm

theorem bot_mul_sixteenth : (⊥ : EReal) * (((1 : ℝ) / 16 : ℝ) : EReal) = ⊥ := EReal.bot_mul_coe_of_pos (by norm_num)

theorem gk_bot : gk ⊥ = ⊥ := by
  unfold gk
  rw [sixteenth, min_eq_left bot_le, EReal.neg_bot, max_eq_right bot_le, zero_sub, EReal.neg_top, exp_bot, log1p_zero, sub_zero, bot_mul_sixteenth]

theorem gk_top : gk ⊤ = 0 := by
  unfold gk
  rw [min_eq_right le_top, max_eq_left le_top, zero_sub, zero_sub, EReal.neg_top, exp_bot, log1p_zero, neg_zero, zero_mul]

theorem gk_real (a : ℝ) : gk (a : EReal) = (((min a 0 - Real.log (1 + Real.exp (-(max a (-a))))) * (1 / 16) : ℝ) : EReal) := by
  unfold gk
  rw [sixteenth, ← EReal.coe_neg, max_real, zero_sub, ← EReal.coe_neg, Ideal.exp_coe, log1p_exp, ← EReal.coe_zero, min_real, ← EReal.coe_sub, ← EReal.coe_mul]

/-- The gate is never positive infinity. -/
theorem gk_ne_top (x : EReal) : gk x ≠ ⊤ := by
  induction x with
  | bot => rw [gk_bot]; exact bot_ne_top
  | top => rw [gk_top]; exact EReal.zero_ne_top
  | coe a => rw [gk_real]; exact EReal.coe_ne_top _

theorem chunk_if (F : Fin 256 → EReal) (r : Fin 256) :
    (∑ k : Fin 256, (if k.val ≤ r.val ∧ r.val / 64 = k.val / 64 then (1 : EReal) else 0) * F k)
      = ∑ a : Fin 64, if a.val ≤ r.val % 64 then F ⟨r.val / 64 * 64 + a.val, by omega⟩ else 0 := by
  rw [← Cert.GmlpIdeal.Tie.chunk64 F r]
  refine Finset.sum_congr rfl fun k _ => ?_
  by_cases h : k.val ≤ r.val ∧ r.val / 64 = k.val / 64
  · rw [if_pos h, one_mul, decide_eq_true h]
    rfl
  · rw [if_neg h, zero_mul, decide_eq_false h]
    rfl

/-- The running sum of the gate along a chunk. -/
theorem b_at (x4 : Vec Ideal S256x128 .f32) (x5 : Vec Ideal S1x16x384 .bf16) (x6 : Vec Ideal S1x1x384 .f32)
    (r : Fin 256) (q : Fin 384) :
    k0_pay10 (k0_pay6 (gLd x4) x5 x6) (k0_pay7 (gLd x4) x5 x6) k0_pay8 (k0_pay9 (gLd x4) x5 x6) (ix2 r q)
      = cum (fun a => gk (xk x4 x5 x6 ⟨r.val / 64 * 64 + a.val, by omega⟩ q)) (r.val % 64) := by
  pointwise [k0_pay10, k0_pay9, k0_pay8, k0_pay7, k0_pay6, k0_pay5, k0_pay4, mask_at, pay2_at]
  rw [chunk_if (fun k => gk (xk x4 x5 x6 k q)) r, chunk_if (fun k => gk (xk x4 x5 x6 k q) - gk (xk x4 x5 x6 k q)) r,
    chunk_if (fun k => gk (xk x4 x5 x6 k q) - gk (xk x4 x5 x6 k q) - (gk (xk x4 x5 x6 k q) - gk (xk x4 x5 x6 k q))) r,
    ← Finset.sum_add_distrib, ← Finset.sum_add_distrib]
  unfold cum
  refine Finset.sum_congr rfl fun a _ => ?_
  by_cases h : a.val ≤ r.val % 64
  · simp only [if_pos h]; rw [three _ (gk_ne_top _)]
  · simp only [if_neg h]; rw [add_zero, add_zero]

theorem last_at (v32 v35 : FVec Ideal S256x384 .bf16) (v39 : FVec Ideal S256x256 .bf16) (v40 : FVec Ideal S256x384 .f32) (r : Fin 256) (q : Fin 384) :
    k0_pay11 v32 v35 v39 v40 (ix2 r q) = k0_pay10 v32 v35 v39 v40 (ix2 ⟨r.val / 64 * 64 + 63, by omega⟩ q) := by
  have h : r.val / 64 = 0 ∨ r.val / 64 = 1 ∨ r.val / 64 = 2 ∨ r.val / 64 = 3 := by omega
  have e (a b : Fin 256) (hab : a.val = b.val) : k0_pay10 v32 v35 v39 v40 (ix2 a q) = k0_pay10 v32 v35 v39 v40 (ix2 b q) := by rw [Fin.ext hab]
  pointwise [k0_pay11]
  split_ifs <;> exact e _ _ (by simp only; omega)

/-- The gate's values along a row's chunk. -/
def gv (x4 : Vec Ideal S256x128 .f32) (x5 : Vec Ideal S1x16x384 .bf16) (x6 : Vec Ideal S1x1x384 .f32) (n : ℕ) (hn : n < 4) (q : Fin 384) (a : Fin 64) : EReal :=
  gk (xk x4 x5 x6 ⟨64 * n + a.val, by omega⟩ q)

theorem bc_at (x4 : Vec Ideal S256x128 .f32) (x5 : Vec Ideal S1x16x384 .bf16) (x6 : Vec Ideal S1x1x384 .f32)
    (r : Fin 256) (q : Fin 384) (n : ℕ) (hn : n < 4) (s : ℕ) (hs : s < 64) (hr : r.val = 64 * n + s) :
    k0_pay10 (k0_pay6 (gLd x4) x5 x6) (k0_pay7 (gLd x4) x5 x6) k0_pay8 (k0_pay9 (gLd x4) x5 x6) (ix2 r q)
      = cum (gv x4 x5 x6 n hn q) s := by
  rw [b_at x4 x5 x6, show r.val % 64 = s by omega]
  refine congrArg (fun f => cum f s) (funext fun a => ?_)
  exact congrArg (fun k => gk (xk x4 x5 x6 k q)) (Fin.ext (by simp only; omega))

theorem KS_at (x1 : Vec Ideal S256x384 .f32) (x4 : Vec Ideal S256x128 .f32) (x5 : Vec Ideal S1x16x384 .bf16) (x6 : Vec Ideal S1x1x384 .f32)
    (r : Fin 256) (q : Fin 384) (n : ℕ) (hn : n < 4) (s : ℕ) (hs : s < 64) (hr : r.val = 64 * n + s) :
    KS x1 x4 x5 x6 (ix2 r q) = x1 (ix2 r q) * Ideal.exp (cum (gv x4 x5 x6 n hn q) 63 - cum (gv x4 x5 x6 n hn q) s) := by
  pointwise [KS, k0_pay17, last_at]
  rw [bc_at x4 x5 x6 r q n hn s hs hr, bc_at x4 x5 x6 _ q n hn 63 (by omega) (by simp only; omega)]

theorem DEC_at (x4 : Vec Ideal S256x128 .f32) (x5 : Vec Ideal S1x16x384 .bf16) (x6 : Vec Ideal S1x1x384 .f32)
    (r : Fin 256) (q : Fin 384) (n : ℕ) (hn : n < 4) (s : ℕ) (hs : s < 64) (hr : r.val = 64 * n + s) :
    DEC x4 x5 x6 (ix2 r q) = Ideal.exp (cum (gv x4 x5 x6 n hn q) 63) := by
  pointwise [DEC, k0_pay18, last_at]
  rw [bc_at x4 x5 x6 _ q n hn 63 (by omega) (by simp only; omega)]

/-- The reference's gate of its argument. -/
def gr (x : EReal) : EReal := Ideal.div (-(max (-x) 0 + Ideal.log1p (Ideal.exp (-(max (-x) (- -x)))))) (Ideal.ofBits .f32 0x41800000#32)

/-- The reference's gate's argument. -/
def xr (A0 : FVec Ideal S9216x5376 .f32) (A1 : FVec Ideal S4x16x384 .f32) (A2 : FVec Ideal S4x384 .f32) (r : Fin 9216) (q : Fin 384) : EReal :=
  (∑ k : Fin 16, A0 (ix2 r ⟨5184 + k.val, by omega⟩) * A1 (ix3 0 k q)) + A2 (ix2 0 q)

theorem X1_at (V : Valuation Cert.GlaRefIdeal.τ Cert.GlaRefIdeal.sig (Elt Ideal)) (r : Fin 9216) (q : Fin 384) : X1 V (ix2 r q) = xr (V (Proc.devRef .tc Cert.GlaRefIdeal.main_arg0)) (V (Proc.devRef .tc Cert.GlaRefIdeal.main_arg1)) (V (Proc.devRef .tc Cert.GlaRefIdeal.main_arg2)) r q := by
  pointwise [X1, xr]

theorem G1_at (V : Valuation Cert.GlaRefIdeal.τ Cert.GlaRefIdeal.sig (Elt Ideal)) (r : Fin 9216) (h : Fin 6) (d : Fin 64) :
    G1 V (ix3 r h d) = gr (xr (V (Proc.devRef .tc Cert.GlaRefIdeal.main_arg0)) (V (Proc.devRef .tc Cert.GlaRefIdeal.main_arg1)) (V (Proc.devRef .tc Cert.GlaRefIdeal.main_arg2)) r ⟨64 * h.val + d.val, by omega⟩) := by
  have e : (⟨h.val * 64 + d.val, by omega⟩ : Fin 384) = ⟨64 * h.val + d.val, by omega⟩ := Fin.ext (by simp only; omega)
  rw [← X1_at, ← e]
  pointwise [G1, lsig]
  rw [if_neg (fun h => h rfl)]
  rfl

theorem K1_at (V : Valuation Cert.GlaRefIdeal.τ Cert.GlaRefIdeal.sig (Elt Ideal)) (r : Fin 9216) (h : Fin 6) (d : Fin 64) :
    K1 V (ix3 r h d) = (V (Proc.devRef .tc Cert.GlaRefIdeal.main_arg0) : FVec Ideal Cert.GlaRefIdeal.S9216x5376 .f32) (ix2 r ⟨384 + (h.val * 64 + d.val), by omega⟩) := by
  pointwise [K1]

theorem V1_at (V : Valuation Cert.GlaRefIdeal.τ Cert.GlaRefIdeal.sig (Elt Ideal)) (r : Fin 9216) (h : Fin 6) (d : Fin 128) :
    V1 V (ix3 r h d) = (V (Proc.devRef .tc Cert.GlaRefIdeal.main_arg0) : FVec Ideal Cert.GlaRefIdeal.S9216x5376 .f32) (ix2 r ⟨768 + (h.val * 128 + d.val), by omega⟩) := by
  pointwise [V1]

theorem gr_real (a : ℝ) : gr (a : EReal) = (((min a 0 - Real.log (1 + Real.exp (-(max a (-a))))) * (1 / 16) : ℝ) : EReal) := by
  unfold gr
  rw [sixteen, Ideal.div_coe (by norm_num), ← EReal.coe_neg, ← EReal.coe_neg, max_real, ← EReal.coe_neg, Ideal.exp_coe, log1p_exp, ← EReal.coe_zero, max_real, ← EReal.coe_add, ← EReal.coe_neg,
    ← EReal.coe_mul, neg_neg, max_comm (-a) a]
  congr 2
  have : max (-a) 0 = -(min a 0) := by
    rw [← neg_zero (G := ℝ), ← max_neg_neg, neg_neg, neg_zero]
  rw [this]
  ring

theorem gr_bot : gr ⊥ = ⊥ := by
  unfold gr
  rw [sixteen, Ideal.div_coe (by norm_num), EReal.neg_bot, EReal.neg_top, max_eq_left le_top, max_eq_left bot_le, EReal.neg_top, exp_bot, log1p_zero, add_zero, EReal.neg_top, bot_mul_sixteenth]

theorem gr_top : gr ⊤ = 0 := by
  unfold gr
  rw [sixteen, Ideal.div_coe (by norm_num), EReal.neg_top, EReal.neg_bot, max_eq_right bot_le, max_eq_right bot_le, EReal.neg_top, exp_bot, log1p_zero, add_zero, neg_zero, zero_mul]

/-- The kernel's gate is the reference's. -/
theorem gk_eq (x : EReal) : gk x = gr x := by
  induction x with
  | bot => rw [gk_bot, gr_bot]
  | top => rw [gk_top, gr_top]
  | coe a => rw [gk_real, gr_real]

end Cert.GlaIdeal.Tie
-- ==== Proof.GlaValue.lean ====
module

public import proofs.«01_k».proof.Proof.GlaGate
public import Idealize.ShloMosaic.Lib.Pipeline.Value

/-! The gated linear attention call: the states the kernel leaves are the reference's. -/

set_option maxRecDepth 16384

@[expose] public section

noncomputable section

open Idealize.ShloMosaic Idealize.ShloMosaic.TcCoe Idealize.SL.Sem
open Idealize.ShloMosaic.Pipeline (Dat)

namespace Cert.GlaIdeal.Tie

open Cert.GlaIdeal Cert.GlaIdeal.Gen Cert.GlaRefIdeal.Ref

/-- The keys, by head. -/
def Kt (A0 : FVec Ideal S9216x5376 .f32) (x : Cert.GlaRefIdeal.S9216x6x64.Idx) : EReal :=
  A0 (ix2 (x 0) ⟨384 + ((x 1).val * 64 + (x 2).val), by
    have h1 : (x 1).val < 6 := (x 1).isLt
    have h2 : (x 2).val < 64 := (x 2).isLt
    omega⟩)

/-- The values, by head. -/
def Vt (A0 : FVec Ideal S9216x5376 .f32) (x : Cert.GlaRefIdeal.S9216x6x128.Idx) : EReal :=
  A0 (ix2 (x 0) ⟨768 + ((x 1).val * 128 + (x 2).val), by
    have h1 : (x 1).val < 6 := (x 1).isLt
    have h2 : (x 2).val < 128 := (x 2).isLt
    omega⟩)

/-- The gate, by head. -/
def Gt (A0 : FVec Ideal S9216x5376 .f32) (A1 : FVec Ideal S4x16x384 .f32) (A2 : FVec Ideal S4x384 .f32) (x : Cert.GlaRefIdeal.S9216x6x64.Idx) : EReal :=
  gr (xr A0 A1 A2 (x 0) ⟨64 * (x 1).val + (x 2).val, by
    have h1 : (x 1).val < 6 := (x 1).isLt
    have h2 : (x 2).val < 64 := (x 2).isLt
    omega⟩)

theorem etaK (x : Cert.GlaRefIdeal.S9216x6x64.Idx) : x = ix3 (x 0) (x 1) (x 2) := by
  funext i
  match i with
  | 0 => rfl
  | 1 => rfl
  | 2 => rfl

theorem etaV (x : Cert.GlaRefIdeal.S9216x6x128.Idx) : x = ix3 (x 0) (x 1) (x 2) := by
  funext i
  match i with
  | 0 => rfl
  | 1 => rfl
  | 2 => rfl

theorem K1_eq (V : Valuation Cert.GlaRefIdeal.τ Cert.GlaRefIdeal.sig (Elt Ideal)) : K1 V = Kt (V (Proc.devRef .tc Cert.GlaRefIdeal.main_arg0)) := by
  funext x
  rw [etaK x]
  exact K1_at V _ _ _

theorem V1_eq (V : Valuation Cert.GlaRefIdeal.τ Cert.GlaRefIdeal.sig (Elt Ideal)) : V1 V = Vt (V (Proc.devRef .tc Cert.GlaRefIdeal.main_arg0)) := by
  funext x
  rw [etaV x]
  exact V1_at V _ _ _

theorem G1_eq (V : Valuation Cert.GlaRefIdeal.τ Cert.GlaRefIdeal.sig (Elt Ideal)) :
    G1 V = Gt (V (Proc.devRef .tc Cert.GlaRefIdeal.main_arg0)) (V (Proc.devRef .tc Cert.GlaRefIdeal.main_arg1)) (V (Proc.devRef .tc Cert.GlaRefIdeal.main_arg2)) := by
  funext x
  rw [etaK x]
  exact G1_at V _ _ _

/-- The states a point may start from: none for the prompt, the given ones for the samples. -/
def S20 (A4 : FVec Ideal S4x16x6x64x128 .f32) : FVec Ideal S4x20x6x64x128 .f32 :=
  concatenate S4x20x6x64x128 1 [⟨S4x4x6x64x128, broadcastInDim S4x4x6x64x128 ![] bcast_S_S4x4x6x64x128 (constant S_ .f32 0x00000000#32)⟩, ⟨S4x16x6x64x128, A4⟩] concatenates_S4x4x6x64x128_S4x16x6x64x128_S4x20x6x64x128_d1

theorem S20_lo (A4 : FVec Ideal S4x16x6x64x128 .f32) (j : Fin 20) (hj : j.val < 4) (h : Fin 6) (d : Fin 64) (v : Fin 128) : S20 A4 (ix5 0 j h d v) = 0 := by
  pointwise [S20, hj]

theorem S20_hi (A4 : FVec Ideal S4x16x6x64x128 .f32) (j : Fin 20) (hj : ¬ j.val < 4) (h : Fin 6) (d : Fin 64) (v : Fin 128) :
    S20 A4 (ix5 0 j h d v) = A4 (ix5 0 ⟨j.val - 4, by omega⟩ h d v) := by
  pointwise [S20, hj]

variable (m : (ℓ : Loc nD τ sig) → Buf (Elt Ideal) ℓ)

/-- The gate's weights, as the kernel reads them. -/
def W0 (A1 : FVec Ideal S4x16x384 .f32) : FVec Ideal S4x16x384 .bf16 := truncf .bf16 A1 bitsLt_bf16_f32
/-- The gate's biases, as the kernel reads them. -/
def B3 (A2 : FVec Ideal S4x384 .f32) : FVec Ideal S4x1x384 .f32 := broadcastInDim S4x1x384 ![0, 2] bcast_S4x384_S4x1x384_0_2 A2

theorem Vw (c : Dev nD) : V m c main_v0 = W0 (m ((c : Thread nD τ).loc main_arg1)) := by
  show StableHlo.after hostOps0 (fun b => m (c, b)) main_v0 = _
  after_results <;> rfl

theorem Vs (c : Dev nD) : V m c main_v2 = S20 (m ((c : Thread nD τ).loc main_arg4)) := by
  show StableHlo.after hostOps0 (fun b => m (c, b)) main_v2 = _
  after_results <;> rfl

theorem Vb (c : Dev nD) : V m c main_v3 = B3 (m ((c : Thread nD τ).loc main_arg2)) := by
  show StableHlo.after hostOps0 (fun b => m (c, b)) main_v3 = _
  after_results <;> rfl

/-- Where each window's block sits at a point of the grid. -/
theorem idx : ∀ t : Fin cfg0.N, win0_1.index t = ![t.val, 1] ∧ win0_2.index t = ![t.val, 1] ∧ win0_4.index t = ![t.val, 40]
    ∧ win0_5.index t = ![0, 0, 0] ∧ win0_6.index t = ![0, 0, 0]
    ∧ win0_8.index t = ![0, t.val - 31, 0, 0, 0] ∧ win0_10.index t = ![t.val - 31, 0, 0, 0] :=
  (by decide +kernel : ∀ t : Fin grid0.N, _)

theorem k_at (c : Dev nD) (t : Fin cfg0.N) (r : Fin 256) (s : Fin 384) (hl : t.val * 256 + r.val < 9216) :
    iblk m c 1 t (ix2 r s) = m ((c : Thread nD τ).loc main_arg0) (ix2 ⟨t.val * 256 + r.val, hl⟩ ⟨384 + s.val, by omega⟩) := by
  blk_ext! [iblk, V, idx t]

theorem v_at (c : Dev nD) (t : Fin cfg0.N) (r : Fin 256) (s : Fin 768) (hl : t.val * 256 + r.val < 9216) :
    iblk m c 2 t (ix2 r s) = m ((c : Thread nD τ).loc main_arg0) (ix2 ⟨t.val * 256 + r.val, hl⟩ ⟨768 + s.val, by omega⟩) := by
  blk_ext! [iblk, V, idx t]

theorem l_at (c : Dev nD) (t : Fin cfg0.N) (r : Fin 256) (s : Fin 128) (hl : t.val * 256 + r.val < 9216) :
    iblk m c 4 t (ix2 r s) = m ((c : Thread nD τ).loc main_arg0) (ix2 ⟨t.val * 256 + r.val, hl⟩ ⟨5120 + s.val, by omega⟩) := by
  blk_ext! [iblk, V, idx t]

theorem w_at (c : Dev nD) (t : Fin cfg0.N) (k : Fin 16) (q : Fin 384) :
    iblk m c 5 t (ix3 0 k q) = m ((c : Thread nD τ).loc main_arg1) (ix3 0 k q) := by
  have e : W0 (m ((c : Thread nD τ).loc main_arg1)) (ix3 0 k q) = m ((c : Thread nD τ).loc main_arg1) (ix3 0 k q) := by pointwise [W0]
  refine Eq.trans ?_ e
  rw [← Vw m c]
  blk_ext [iblk, idx t]

theorem bias_at (c : Dev nD) (t : Fin cfg0.N) (q : Fin 384) :
    iblk m c 6 t (ix3 0 0 q) = m ((c : Thread nD τ).loc main_arg2) (ix2 0 q) := by
  have e : B3 (m ((c : Thread nD τ).loc main_arg2)) (ix3 0 0 q) = m ((c : Thread nD τ).loc main_arg2) (ix2 0 q) := by pointwise [B3]
  refine Eq.trans ?_ e
  rw [← Vb m c]
  blk_ext [iblk, idx t]

theorem s_at (c : Dev nD) (t : Fin cfg0.N) (n : Fin 4) (h : Fin 6) (d : Fin 64) (v : Fin 128) (hj : (t.val - 31) * 4 + n.val < 20) :
    iblk m c 8 t (ix5 0 n h d v) = S20 (m ((c : Thread nD τ).loc main_arg4)) (ix5 0 ⟨(t.val - 31) * 4 + n.val, hj⟩ h d v) := by
  rw [← Vs m c]
  blk_ext [iblk, idx t]

theorem bits : ∀ (t : Fin 36) (n : Fin 4), Scalar.ori (Scalar.cmpi .sge (BitVec.ofNat 32 t.val) 32#32) (Scalar.andi (Scalar.cmpi .eq (BitVec.ofNat 32 t.val) 0#32) (if n.val = 0 then 1#1 else 0#1))
    = if 32 ≤ t.val ∨ (t.val = 0 ∧ n.val = 0) then 1#1 else 0#1 := by
  decide +kernel

theorem coord : ∀ t : Fin cfg0.N, ((grid0.coords t) 0).val = t.val :=
  (by decide +kernel : ∀ t : Fin grid0.N, _)

/-- Which chunks start afresh. -/
theorem bit_at (t : Fin cfg0.N) (ht : t.val < 36) (n : ℕ) (hn : n < 4) :
    bit (grid0.coords t) n = if 32 ≤ t.val ∨ (t.val = 0 ∧ n = 0) then 1#1 else 0#1 := by
  have e : bit (grid0.coords t) n = Scalar.ori (Scalar.cmpi .sge (BitVec.ofNat 32 t.val) 32#32) (Scalar.andi (Scalar.cmpi .eq (BitVec.ofNat 32 t.val) 0#32) (if n = 0 then 1#1 else 0#1)) := by
    unfold bit
    rw [coord t]
  exact e.trans (bits ⟨t.val, ht⟩ ⟨n, hn⟩)

abbrev A0 (c : Dev nD) : FVec Ideal S9216x5376 .f32 := m ((c : Thread nD τ).loc main_arg0)
abbrev A1 (c : Dev nD) : FVec Ideal S4x16x384 .f32 := m ((c : Thread nD τ).loc main_arg1)
abbrev A2 (c : Dev nD) : FVec Ideal S4x384 .f32 := m ((c : Thread nD τ).loc main_arg2)
abbrev A4 (c : Dev nD) : FVec Ideal S4x16x6x64x128 .f32 := m ((c : Thread nD τ).loc main_arg4)

/-- The gate's argument at a point's row is the reference's. -/
theorem xk_eq (c : Dev nD) (t : Fin cfg0.N) (ht : t.val < 36) (r : Fin 256) (q : Fin 384) :
    xk (iblk m c 4 t) (iblk m c 5 t) (iblk m c 6 t) r q = xr (A0 m c) (A1 m c) (A2 m c) ⟨t.val * 256 + r.val, by omega⟩ q := by
  unfold xk xr
  refine congrArg₂ (· + ·) (Finset.sum_congr rfl fun k _ => ?_) (bias_at m c t q)
  refine congrArg₂ (· * ·) ((l_at m c t r _ (by omega)).trans ?_) (w_at m c t k q)
  refine congrArg (fun s => A0 m c (ix2 ⟨t.val * 256 + r.val, by omega⟩ s)) (Fin.ext ?_)
  show 5120 + (64 + k.val) = 5184 + k.val
  omega

abbrev KK (c : Dev nD) := Kt (A0 m c)
abbrev VV (c : Dev nD) := Vt (A0 m c)
abbrev GG (c : Dev nD) := Gt (A0 m c) (A1 m c) (A2 m c)

theorem gv_eq (c : Dev nD) (t : Fin cfg0.N) (ht : t.val < 36) (n : ℕ) (hn : n < 4) (h : Fin 6) (d : Fin 64) :
    gv (iblk m c 4 t) (iblk m c 5 t) (iblk m c 6 t) n hn ⟨64 * h.val + d.val, by omega⟩
      = fun a => GG m c (ix3 (rowOf (4 * t.val + n) (by omega) a) h d) := by
  funext a
  unfold gv
  rw [xk_eq m c t ht, gk_eq]
  refine congrArg (fun r => gr (xr (A0 m c) (A1 m c) (A2 m c) r ⟨64 * h.val + d.val, by omega⟩)) (Fin.ext ?_)
  show t.val * 256 + (64 * n + a.val) = (4 * t.val + n) * 64 + a.val
  omega

/-- One chunk of a point updates a state as the reference does. -/
theorem one_eq (c : Dev nD) (t : Fin cfg0.N) (ht : t.val < 36) (n : ℕ) (hn : n < 4) (h : Fin 6) (d : Fin 64) (v : Fin 128) (b : BitVec 1) (p : EReal) :
    one (iblk m c 8 t) (iblk m c 2 t) (KS (iblk m c 1 t) (iblk m c 4 t) (iblk m c 5 t) (iblk m c 6 t)) (DEC (iblk m c 4 t) (iblk m c 5 t) (iblk m c 6 t)) h d v b ⟨n, hn⟩ p
      = updR (KK m c) (GG m c) (VV m c) (4 * t.val + n) (by omega) h d v
          (Scalar.select b (S20 (A4 m c) (ix5 0 ⟨(t.val - 31) * 4 + n, by omega⟩ h d v)) p) := by
  unfold one updR upd1
  rw [DEC_at _ _ _ _ _ n hn 0 (by omega) rfl, gv_eq m c t ht n hn h d, s_at m c t ⟨n, hn⟩ h d v (by show (t.val - 31) * 4 + n < 20; omega)]
  refine congrArg₂ (· + ·) (mul_comm _ _) (Finset.sum_congr rfl fun s _ => ?_)
  rw [KS_at _ _ _ _ _ _ n hn s.val s.isLt rfl, gv_eq m c t ht n hn h d, mul_comm]
  refine congrArg₂ (· * ·) (congrArg (· * _) ?_) ?_
  · rw [k_at m c t _ _ (by show t.val * 256 + (64 * n + s.val) < 9216; omega)]
    unfold KK Kt
    refine congrArg₂ (fun r q => A0 m c (ix2 r q)) (Fin.ext ?_) (Fin.ext ?_)
    · show t.val * 256 + (64 * n + s.val) = (4 * t.val + n) * 64 + s.val
      omega
    · show 384 + (64 * h.val + d.val) = 384 + (h.val * 64 + d.val)
      omega
  · rw [v_at m c t _ _ (by show t.val * 256 + (64 * n + s.val) < 9216; omega)]
    unfold VV Vt
    refine congrArg₂ (fun r q => A0 m c (ix2 r q)) (Fin.ext ?_) (Fin.ext ?_)
    · show t.val * 256 + (64 * n + s.val) = (4 * t.val + n) * 64 + s.val
      omega
    · show 768 + (128 * h.val + v.val) = 768 + (h.val * 128 + v.val)
      omega

theorem st_congr {K G : Cert.GlaRefIdeal.S9216x6x64.Idx → EReal} {W : Cert.GlaRefIdeal.S9216x6x128.Idx → EReal} {h : Fin 6} {d : Fin 64} {v : Fin 128}
    {n n' : ℕ} (hn : n ≤ 144) (hn' : n' ≤ 144) (e : n = n') : st K G W h d v n hn = st K G W h d v n' hn' := by
  subst e; rfl

theorem updR_congr {K G : Cert.GlaRefIdeal.S9216x6x64.Idx → EReal} {W : Cert.GlaRefIdeal.S9216x6x128.Idx → EReal} {h : Fin 6} {d : Fin 64} {v : Fin 128}
    {n n' : ℕ} (hn : n < 144) (hn' : n' < 144) (e : n = n') {p p' : EReal} (hp : p = p') : updR K G W n hn h d v p = updR K G W n' hn' h d v p' := by
  subst e; subst hp; rfl

abbrev chainAt (c : Dev nD) (t : Fin cfg0.N) (h : Fin 6) (d : Fin 64) (v : Fin 128) (p : EReal) (n : ℕ) (hn : n ≤ 4) : EReal :=
  chain (grid0.coords t) (iblk m c 8 t) (iblk m c 2 t) (KS (iblk m c 1 t) (iblk m c 4 t) (iblk m c 5 t) (iblk m c 6 t)) (DEC (iblk m c 4 t) (iblk m c 5 t) (iblk m c 6 t)) h d v p n hn

/-- Along the prompt the state is the reference's, chunk by chunk. -/
theorem chain_st (c : Dev nD) (t : Fin cfg0.N) (ht : t.val < 32) (h : Fin 6) (d : Fin 64) (v : Fin 128) (p : EReal)
    (hp : t.val ≠ 0 → p = st (KK m c) (GG m c) (VV m c) h d v (4 * t.val) (by omega)) :
    ∀ (k : ℕ) (hk : k ≤ 4), (k ≠ 0 ∨ t.val ≠ 0) → chainAt m c t h d v p k hk = st (KK m c) (GG m c) (VV m c) h d v (4 * t.val + k) (by omega)
  | 0, _, h0 => hp (h0.resolve_left fun hh => hh rfl)
  | k + 1, hk, _ => by
    refine (one_eq m c t (by omega) k hk h d v _ _).trans ?_
    refine Eq.trans (b := updR (KK m c) (GG m c) (VV m c) (4 * t.val + k) (by omega) h d v (st (KK m c) (GG m c) (VV m c) h d v (4 * t.val + k) (by omega))) ?_ rfl
    refine updR_congr _ _ rfl ?_
    rw [bit_at t (by omega) k hk]
    by_cases hz : t.val = 0 ∧ k = 0
    · rw [if_pos (Or.inr hz)]
      refine Eq.trans (S20_lo (A4 m c) _ (by show (t.val - 31) * 4 + k < 4; omega) h d v) ?_
      exact (st_congr (n' := 0) _ (by omega) (by omega)).symm
    · rw [if_neg (by omega)]
      exact chain_st c t ht h d v p hp k (by omega) (by omega)

/-- A sample's chunk updates the given state. -/
theorem chain_late (c : Dev nD) (t : Fin cfg0.N) (ht : t.val < 36) (hl : 32 ≤ t.val) (h : Fin 6) (d : Fin 64) (v : Fin 128) (p : EReal) (k : ℕ) (hk : k + 1 ≤ 4) :
    chainAt m c t h d v p (k + 1) hk = updR (KK m c) (GG m c) (VV m c) (4 * t.val + k) (by omega) h d v (S20 (A4 m c) (ix5 0 ⟨(t.val - 31) * 4 + k, by omega⟩ h d v)) := by
  refine (one_eq m c t ht k hk h d v _ _).trans (updR_congr _ _ rfl ?_)
  rw [bit_at t ht k hk, if_pos (Or.inl hl)]
  rfl

theorem eta3' (x : S6x128x64.Idx) : x = ix3 (x 0) (x 1) (x 2) := by
  funext i
  match i with
  | 0 => rfl
  | 1 => rfl
  | 2 => rfl

/-- What a point of the prompt leaves in the scratch. -/
theorem scr_st (c : Dev nD) : ∀ (n : ℕ) (hn : n < cfg0.N) (ht : n < 32) (h : Fin 6) (d : Fin 64) (v : Fin 128),
    (outsAt0 m c n hn).2.2 (ix3 h v d) = st (KK m c) (GG m c) (VV m c) h d v (4 * n + 4) (by omega)
  | 0, hn, ht, h, d, v => by
    rw [outsAt0_first m c ⟨0, hn⟩ rfl (fun _ => (0 : EReal)), scr_at]
    exact chain_st m c ⟨0, hn⟩ ht h d v _ (fun h0 => absurd rfl h0) 4 (le_refl 4) (Or.inl (by omega))
  | n + 1, hn, ht, h, d, v => by
    rw [outsAt0_later m c ⟨n + 1, hn⟩ (Nat.succ_ne_zero n), scr_at]
    exact chain_st m c ⟨n + 1, hn⟩ ht h d v _ (fun _ => scr_st c n (by omega) (by omega) h d v) 4 (le_refl 4) (Or.inl (by omega))

/-- The states a point stores, where they are written back. -/
theorem sout_res (c : Dev nD) (t : Fin cfg0.N) (ht : t.val < 36) (hl : 31 ≤ t.val) (y : S4x6x64x128.Idx) (hj : (t.val - 31) * 4 + (y 0).val < 20) :
    (outsAt0 m c t.val t.isLt).2.1 y = resR (KK m c) (GG m c) (VV m c) (A4 m c) ⟨(t.val - 31) * 4 + (y 0).val, hj⟩ (y 1) (y 2) (y 3) := by
  have hy : (y 0).val < 4 := (y 0).isLt
  rw [outsAt0_later m c t (by omega), sout_at]
  unfold resR
  by_cases h31 : t.val = 31
  · refine Eq.trans ?_ (dif_pos (show (t.val - 31) * 4 + (y 0).val < 4 by omega)).symm
    refine (chain_st m c t (by omega) (y 1) (y 2) (y 3) _ (fun _ => ?_) ((y 0).val + 1) (by omega) (Or.inl (by omega))).trans (st_congr _ _ ?_)
    · exact (scr_st m c (t.val - 1) (by omega) (by omega) (y 1) (y 2) (y 3)).trans (st_congr _ _ (by omega))
    · show 4 * t.val + ((y 0).val + 1) = 125 + ((t.val - 31) * 4 + (y 0).val)
      omega
  · refine Eq.trans ?_ (dif_neg (show ¬ (t.val - 31) * 4 + (y 0).val < 4 by omega)).symm
    refine (chain_late m c t ht (by omega) (y 1) (y 2) (y 3) _ (y 0).val hy).trans (updR_congr _ _ ?_ ?_)
    · show 4 * t.val + (y 0).val = 124 + ((t.val - 31) * 4 + (y 0).val)
      omega
    · exact S20_hi (A4 m c) _ (by show ¬ (t.val - 31) * 4 + (y 0).val < 4; omega) _ _ _

/-- The states the reference leaves. -/
def RES (c : Dev nD) (x : S20x6x64x128.Idx) : EReal := resR (KK m c) (GG m c) (VV m c) (A4 m c) (x 0) (x 1) (x 2) (x 3)

theorem late : ∀ t : Fin cfg0.N, (cfg0.win 10).flush t = true → 31 ≤ t.val :=
  (by decide +kernel : ∀ t : Fin grid0.N, win0_10.flush t = true → 31 ≤ t.val)

/-- The states the kernel leaves are the reference's term of the arguments. -/
theorem final10 (c : Dev nD) : (dats m 0 c).arrAt 10 cfg0.N = RES m c := by
  refine (dats m 0 c).arrAt_eq_of_covers 10 _ (by decide +kernel) fun t hf y => ?_
  have ht : t.val < 36 := lt_of_lt_of_eq t.isLt (by decide +kernel)
  have hlate := late t hf
  have hy0 : (y 0).val < 4 := (y 0).isLt
  have hy1 : (y 1).val < 6 := (y 1).isLt
  have hy2 : (y 2).val < 64 := (y 2).isLt
  have hy3 : (y 3).val < 128 := (y 3).isLt
  have hj : (t.val - 31) * 4 + (y 0).val < 20 := by omega
  have he : ((cfg0.win 10).blk t).view.emb y = ix4 ⟨(t.val - 31) * 4 + (y 0).val, hj⟩ (y 1) (y 2) (y 3) := by
    funext d
    match d with
    | 0 => exact Fin.ext (by blk_simp [idx t])
    | 1 => exact Fin.ext (by blk_simp [idx t])
    | 2 => exact Fin.ext (by blk_simp [idx t])
    | 3 => exact Fin.ext (by blk_simp [idx t])
  blk_simp
  rw [after0_10, he]
  exact sout_res m c t ht hlate y hj

end Cert.GlaIdeal.Tie
-- ==== Proof.GlaTie.lean ====
module

public import proofs.«01_k».proof.Defs
public import proofs.«01_k».proof.Proof.GlaValue
public import Idealize.ShloMosaic.Lib.Claim

/-! The gated linear attention call: the value claim. -/

set_option maxRecDepth 16384

@[expose] public section

noncomputable section

open Idealize.ShloMosaic Idealize.ShloMosaic.TcCoe Idealize.SL.Sem Idealize.ShloMosaic.StableHlo

namespace Cert.GlaIdeal.Tie

open Cert.GlaIdeal Cert.GlaIdeal.Gen Cert.GlaRefIdeal.Ref

variable (m : (ℓ : Loc nD τ sig) → Buf (Elt Ideal) ℓ)

theorem eta20 (x : S20x6x64x128.Idx) : x = ix4 (x 0) (x 1) (x 2) (x 3) := by
  funext i
  match i with
  | 0 => rfl
  | 1 => rfl
  | 2 => rfl
  | 3 => rfl

/-- The reference's states on arguments that agree with the kernel's are the array the kernel leaves. -/
theorem agree (m' : (ℓ : Loc Cert.GlaRefIdeal.nD Cert.GlaRefIdeal.τ Cert.GlaRefIdeal.sig) → Buf (Elt Ideal) ℓ) (c : Dev nD)
    (h0 : m' ((c.tc : Thread Cert.GlaRefIdeal.nD Cert.GlaRefIdeal.τ).loc Cert.GlaRefIdeal.main_arg0) = m ((c.tc : Thread nD τ).loc main_arg0))
    (h1 : m' ((c.tc : Thread Cert.GlaRefIdeal.nD Cert.GlaRefIdeal.τ).loc Cert.GlaRefIdeal.main_arg1) = m ((c.tc : Thread nD τ).loc main_arg1))
    (h2 : m' ((c.tc : Thread Cert.GlaRefIdeal.nD Cert.GlaRefIdeal.τ).loc Cert.GlaRefIdeal.main_arg2) = m ((c.tc : Thread nD τ).loc main_arg2))
    (h4 : m' ((c.tc : Thread Cert.GlaRefIdeal.nD Cert.GlaRefIdeal.τ).loc Cert.GlaRefIdeal.main_arg4) = m ((c.tc : Thread nD τ).loc main_arg4)) :
    finalContents Cert.GlaRefIdeal.Value.condOps Cert.GlaRefIdeal.Value.preI Cert.GlaRefIdeal.Value.bodyI Cert.GlaRefIdeal.Value.postI 128 m' c (Proc.devRef .tc Cert.GlaRefIdeal.main_v50)
      = (dats m 0 c).arrAt 10 cfg0.N := by
  rw [final10 m c]
  have eK : K1 (launchContents m' c) = KK m c := (K1_eq _).trans (congrArg Kt h0)
  have eV : V1 (launchContents m' c) = VV m c := (V1_eq _).trans (congrArg Vt h0)
  have eG : G1 (launchContents m' c) = GG m c := by
    refine (G1_eq _).trans ?_
    have a0 : launchContents m' c (Proc.devRef .tc Cert.GlaRefIdeal.main_arg0) = A0 m c := h0
    have a1 : launchContents m' c (Proc.devRef .tc Cert.GlaRefIdeal.main_arg1) = A1 m c := h1
    have a2 : launchContents m' c (Proc.devRef .tc Cert.GlaRefIdeal.main_arg2) = A2 m c := h2
    rw [a0, a1, a2]
  funext x
  rw [eta20 x]
  refine (ref_at m' c (x 0) (x 1) (x 2) (x 3)).trans ?_
  rw [eK, eV, eG]
  exact congrArg (fun S => resR (KK m c) (GG m c) (VV m c) S (x 0) (x 1) (x 2) (x 3)) h4

/-- The kernel's run: its states are the final array of the launch's proof data, and the arguments end as they were. -/
theorem run_state (ρ : Dev nD → PrngReg) : θ_run (defs (F := Ideal)) (onTc (τ := τ) (main (F := Ideal))) ⟨m, fun _ => 0, ρ⟩ (fun r => ∀ c : Dev nD,
      r.2.mem ((c.tc : Thread nD τ).loc main_v5_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 10, h.2 c⟩) (θ_run_and (run_main m ρ) (unchanged m ρ))

end Cert.GlaIdeal.Tie

/-- Gla: from arguments that agree, the kernel and the reference end with the same states. -/
theorem Cert.GlaIdeal.tie : Cert.algebraic_GlaIdeal_GlaRefIdeal := by
  intro m g m' g' _ hag
  exact ⟨_, Cert.GlaIdeal.Tie.run_state m g, (θ_run _ _ _).mono (fun _ h c => ⟨(h c).1.trans
    (Cert.GlaIdeal.Tie.agree m m' c (hag c).1 (hag c).2.1 (hag c).2.2.1 (hag c).2.2.2.2), (h c).2⟩) (Cert.GlaRefIdeal.Ref.run m' g')⟩
-- ==== Proof.lean ====
/- The proof of the claims: each program's frame, and for each call the value claim against its reference. -/
module

public import proofs.«01_k».proof.Defs
public import proofs.«01_k».proof.Proof.Gen.Outproj
public import proofs.«01_k».proof.Proof.Gen.OutprojIdeal
public import proofs.«01_k».proof.Proof.Gen.OutprojRefIdeal
public import proofs.«01_k».proof.Proof.Gen.Outproj.Frame
public import proofs.«01_k».proof.Proof.Gen.OutprojIdeal.Frame
public import proofs.«01_k».proof.Proof.Gen.OutprojRefIdeal.Run
public import proofs.«01_k».proof.Proof.OutprojValue
public import proofs.«01_k».proof.Proof.Gen.Ffn
public import proofs.«01_k».proof.Proof.Gen.FfnIdeal
public import proofs.«01_k».proof.Proof.Gen.FfnRefIdeal
public import proofs.«01_k».proof.Proof.Gen.Ffn.Frame
public import proofs.«01_k».proof.Proof.Gen.FfnIdeal.Frame
public import proofs.«01_k».proof.Proof.Gen.FfnRefIdeal.Run
public import proofs.«01_k».proof.Proof.FfnValue
public import proofs.«01_k».proof.Proof.Gen.Inproj
public import proofs.«01_k».proof.Proof.Gen.InprojIdeal
public import proofs.«01_k».proof.Proof.Gen.InprojRefIdeal
public import proofs.«01_k».proof.Proof.Gen.Inproj.Frame
public import proofs.«01_k».proof.Proof.Gen.InprojIdeal.Frame
public import proofs.«01_k».proof.Proof.Gen.InprojRefIdeal.Run
public import proofs.«01_k».proof.Proof.InprojValue
public import proofs.«01_k».proof.Proof.Gen.Gmlp
public import proofs.«01_k».proof.Proof.Gen.GmlpIdeal
public import proofs.«01_k».proof.Proof.Gen.GmlpRefIdeal
public import proofs.«01_k».proof.Proof.Gen.Gmlp.Frame
public import proofs.«01_k».proof.Proof.Gen.GmlpIdeal.Frame
public import proofs.«01_k».proof.Proof.Gen.GmlpRefIdeal.Run
public import proofs.«01_k».proof.Proof.GmlpValue
public import proofs.«01_k».proof.Proof.Gen.Normp
public import proofs.«01_k».proof.Proof.Gen.NormpIdeal
public import proofs.«01_k».proof.Proof.Gen.NormpRefIdeal
public import proofs.«01_k».proof.Proof.Gen.Normp.Frame
public import proofs.«01_k».proof.Proof.Gen.NormpIdeal.Frame
public import proofs.«01_k».proof.Proof.Gen.NormpRefIdeal.Run
public import proofs.«01_k».proof.Proof.NormpValue
public import proofs.«01_k».proof.Proof.Gen.Norms
public import proofs.«01_k».proof.Proof.Gen.NormsIdeal
public import proofs.«01_k».proof.Proof.Gen.NormsRefIdeal
public import proofs.«01_k».proof.Proof.Gen.Norms.Frame
public import proofs.«01_k».proof.Proof.Gen.NormsIdeal.Frame
public import proofs.«01_k».proof.Proof.Gen.NormsRefIdeal.Run
public import proofs.«01_k».proof.Proof.NormsValue
public import proofs.«01_k».proof.Proof.Gen.Gla
public import proofs.«01_k».proof.Proof.Gen.GlaIdeal
public import proofs.«01_k».proof.Proof.Gen.GlaRefIdeal
public import proofs.«01_k».proof.Proof.GlaFrame
public import proofs.«01_k».proof.Proof.GlaIdealFrame
public import proofs.«01_k».proof.Proof.GlaRefRun
public import proofs.«01_k».proof.Proof.Gen.GlaRefIdeal.Run
public import proofs.«01_k».proof.Proof.GlaTie
public import Idealize.ShloMosaic.Lib.Claim
public import Idealize.ShloMosaic.Lib.Quiescent

@[expose] public section

set_option maxRecDepth 16384

noncomputable section

namespace Cert.Proof

open Idealize.ShloMosaic Idealize.SL.Sem

/-- Outproj: the reference leaves its arguments as they were. -/
theorem frameRef_Outproj : Cert.quiescent_OutprojRefIdeal := fun m g _ =>
  (θ_run _ _ _).mono (fun r h => ⟨fun c => (h c).2, sem_eq_zero_of_no_sems (by decide) r.2⟩) (Cert.OutprojRefIdeal.Value.run m g)

/-- Outproj: from arguments that agree, the kernel and the reference end with one result. -/
theorem tie_Outproj : Cert.algebraic_OutprojIdeal_OutprojRefIdeal := by
  intro m g m' g' _ hag
  exact ⟨_, Cert.OutprojIdeal.Value.run_blocks m g, (θ_run _ _ _).mono (fun _ h c => ⟨(h c).1.trans
    (Cert.OutprojIdeal.Tie.agree m m' c (hag c)), (h c).2⟩) (Cert.OutprojRefIdeal.Value.run m' g')⟩

/-- Ffn: the reference leaves its arguments as they were. -/
theorem frameRef_Ffn : Cert.quiescent_FfnRefIdeal := fun m g _ =>
  (θ_run _ _ _).mono (fun r h => ⟨fun c => (h c).2, sem_eq_zero_of_no_sems (by decide) r.2⟩) (Cert.FfnRefIdeal.Value.run m g)

/-- Ffn: from arguments that agree, the kernel and the reference end with one result. -/
theorem tie_Ffn : Cert.algebraic_FfnIdeal_FfnRefIdeal := by
  intro m g m' g' _ hag
  exact ⟨_, Cert.FfnIdeal.Value.run_blocks m g, (θ_run _ _ _).mono (fun _ h c => ⟨(h c).1.trans
    (Cert.FfnIdeal.Tie.agree m m' c (hag c)), (h c).2⟩) (Cert.FfnRefIdeal.Value.run m' g')⟩

/-- Inproj: the reference leaves its arguments as they were. -/
theorem frameRef_Inproj : Cert.quiescent_InprojRefIdeal := fun m g _ =>
  (θ_run _ _ _).mono (fun r h => ⟨fun c => (h c).2.2.2.2.2.2.2, sem_eq_zero_of_no_sems (by decide) r.2⟩) (Cert.InprojRefIdeal.Value.run m g)

/-- Inproj: from arguments that agree, the kernel and the reference end with one result. -/
theorem tie_Inproj : Cert.algebraic_InprojIdeal_InprojRefIdeal := by
  intro m g m' g' _ hag
  exact ⟨_, _, _, _, _, _, _, Cert.InprojIdeal.Tie.run_cuts m g, (θ_run _ _ _).mono (fun _ h c =>
    have e := Cert.InprojIdeal.Tie.agree m m' c (hag c)
    ⟨(h c).1.trans e.1, (h c).2.1.trans e.2.1, (h c).2.2.1.trans e.2.2.1, (h c).2.2.2.1.trans e.2.2.2.1, (h c).2.2.2.2.1.trans e.2.2.2.2.1, (h c).2.2.2.2.2.1.trans e.2.2.2.2.2.1, (h c).2.2.2.2.2.2.1.trans e.2.2.2.2.2.2, (h c).2.2.2.2.2.2.2⟩) (Cert.InprojRefIdeal.Value.run m' g')⟩

/-- Gmlp: the reference leaves its arguments as they were. -/
theorem frameRef_Gmlp : Cert.quiescent_GmlpRefIdeal := fun m g _ =>
  (θ_run _ _ _).mono (fun r h => ⟨fun c => (h c).2.2, sem_eq_zero_of_no_sems (by decide) r.2⟩) (Cert.GmlpRefIdeal.Value.run m g)

/-- Gmlp: from arguments that agree, the kernel and the reference end with one result. -/
theorem tie_Gmlp : Cert.algebraic_GmlpIdeal_GmlpRefIdeal := by
  intro m g m' g' _ hag
  exact ⟨_, _, Cert.GmlpIdeal.Value.run_blocks m g, (θ_run _ _ _).mono (fun _ h c =>
    have e := Cert.GmlpIdeal.Tie.agree m m' c (hag c)
    ⟨(h c).1.trans e.1, (h c).2.1.trans e.2, (h c).2.2⟩) (Cert.GmlpRefIdeal.Value.run m' g')⟩

/-- Normp: the reference leaves its arguments as they were. -/
theorem frameRef_Normp : Cert.quiescent_NormpRefIdeal := fun m g _ =>
  (θ_run _ _ _).mono (fun r h => ⟨fun c => (h c).2, sem_eq_zero_of_no_sems (by decide) r.2⟩) (Cert.NormpRefIdeal.Value.run m g)

/-- Normp: from arguments that agree, the kernel and the reference end with one result. -/
theorem tie_Normp : Cert.algebraic_NormpIdeal_NormpRefIdeal := by
  intro m g m' g' _ hag
  exact ⟨_, Cert.NormpIdeal.Value.run_blocks m g, (θ_run _ _ _).mono (fun _ h c => ⟨(h c).1.trans
    (Cert.NormpIdeal.Tie.agree m m' c (hag c)), (h c).2⟩) (Cert.NormpRefIdeal.Value.run m' g')⟩

/-- Norms: the reference leaves its arguments as they were. -/
theorem frameRef_Norms : Cert.quiescent_NormsRefIdeal := fun m g _ =>
  (θ_run _ _ _).mono (fun r h => ⟨fun c => (h c).2, sem_eq_zero_of_no_sems (by decide) r.2⟩) (Cert.NormsRefIdeal.Value.run m g)

/-- Norms: from arguments that agree, the kernel and the reference end with one result. -/
theorem tie_Norms : Cert.algebraic_NormsIdeal_NormsRefIdeal := by
  intro m g m' g' _ hag
  exact ⟨_, Cert.NormsIdeal.Value.run_blocks m g, (θ_run _ _ _).mono (fun _ h c => ⟨(h c).1.trans
    (Cert.NormsIdeal.Tie.agree m m' c (hag c)), (h c).2⟩) (Cert.NormsRefIdeal.Value.run m' g')⟩

/-- Gla: the reference leaves its arguments as they were. -/
theorem frameRef_Gla : Cert.quiescent_GlaRefIdeal := fun m g _ =>
  (θ_run _ _ _).mono (fun r h => ⟨fun c => (h c).2, sem_eq_zero_of_no_sems (by decide) r.2⟩) (Cert.GlaRefIdeal.Ref.run m g)

theorem claim : Cert.Claim :=
  ⟨Cert.Outproj.Gen.facts, Cert.OutprojIdeal.Gen.facts, Cert.OutprojRefIdeal.Gen.facts, Cert.Ffn.Gen.facts, Cert.FfnIdeal.Gen.facts, Cert.FfnRefIdeal.Gen.facts, Cert.Inproj.Gen.facts, Cert.InprojIdeal.Gen.facts, Cert.InprojRefIdeal.Gen.facts, Cert.Gmlp.Gen.facts, Cert.GmlpIdeal.Gen.facts, Cert.GmlpRefIdeal.Gen.facts, Cert.Normp.Gen.facts, Cert.NormpIdeal.Gen.facts, Cert.NormpRefIdeal.Gen.facts, Cert.Norms.Gen.facts, Cert.NormsIdeal.Gen.facts, Cert.NormsRefIdeal.Gen.facts, Cert.Gla.Gen.facts, Cert.GlaIdeal.Gen.facts, Cert.GlaRefIdeal.Gen.facts,
    fun m ρ _ => Cert.Outproj.Gen.frame m ρ, fun m ρ _ => Cert.OutprojIdeal.Gen.frame m ρ, frameRef_Outproj, fun m ρ _ => Cert.Ffn.Gen.frame m ρ, fun m ρ _ => Cert.FfnIdeal.Gen.frame m ρ, frameRef_Ffn, fun m ρ _ => Cert.Inproj.Gen.frame m ρ, fun m ρ _ => Cert.InprojIdeal.Gen.frame m ρ, frameRef_Inproj, fun m ρ _ => Cert.Gmlp.Gen.frame m ρ, fun m ρ _ => Cert.GmlpIdeal.Gen.frame m ρ, frameRef_Gmlp, fun m ρ _ => Cert.Normp.Gen.frame m ρ, fun m ρ _ => Cert.NormpIdeal.Gen.frame m ρ, frameRef_Normp, fun m ρ _ => Cert.Norms.Gen.frame m ρ, fun m ρ _ => Cert.NormsIdeal.Gen.frame m ρ, frameRef_Norms, fun m ρ _ => Cert.Gla.Gen.frame m ρ, fun m ρ _ => Cert.GlaIdeal.Gen.frame m ρ, frameRef_Gla,
    trivial, tie_Outproj, trivial, tie_Ffn, trivial, tie_Inproj, trivial, tie_Gmlp, trivial, tie_Normp, trivial, tie_Norms, trivial, Cert.GlaIdeal.tie⟩

end Cert.Proof

end
